-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_nearest [hKernelIdeal : Cert.KernelIdeal.Facts] [hReferenceIdeal : Cert.ReferenceIdeal.Facts] [hOn_nearest : Cert.On_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 16]⟩ : Shape).Idx, (Cert.On_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v12_0) i = v0 c i)
          ∧ (∀ i : (⟨2, ![1024, 16]⟩ : Shape).Idx, (Cert.On_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v12_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 16]⟩ : Shape).Idx, (Cert.On_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v15) i = v0 c i)
          ∧ (∀ i : (⟨2, ![1024, 16]⟩ : Shape).Idx, (Cert.On_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_nearest : Cert.On_nearest.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_nearest (hKernelIdeal := hKernelIdeal) (hReferenceIdeal := hReferenceIdeal) (hOn_nearest := hOn_nearest)
-- ==== On_nearest.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S128x100000 : Shape := ⟨2, ![128, 100000]⟩
abbrev S1024x100000 : Shape := ⟨2, ![1024, 100000]⟩
abbrev S1024x16 : Shape := ⟨2, ![1024, 16]⟩

class Facts : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  transposes_S100000x128_S128x100000_1_0 : S100000x128.Transposes [1, 0] S128x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  sliceFits_S1024x100000_S1024x16 : S1024x100000.Slices (fun _ => 0) S1024x16
  bcast_S_S1024x16 : S_.BroadcastsInDim S1024x16 (![] : Fin 0 → Fin S1024x16.rank)
  slices_S1024x16_S1024x1_0_0 : S1024x16.Slices ![0, 0] S1024x1
  bcast_S1024x1_S1024x16_0_1 : S1024x1.BroadcastsInDim S1024x16 (![0, 1] : Fin 2 → Fin S1024x16.rank)
  slices_S1024x16_S1024x1_0_1 : S1024x16.Slices ![0, 1] S1024x1
  slices_S1024x16_S1024x1_0_2 : S1024x16.Slices ![0, 2] S1024x1
  slices_S1024x16_S1024x1_0_3 : S1024x16.Slices ![0, 3] S1024x1
  slices_S1024x16_S1024x1_0_4 : S1024x16.Slices ![0, 4] S1024x1
  slices_S1024x16_S1024x1_0_5 : S1024x16.Slices ![0, 5] S1024x1
  slices_S1024x16_S1024x1_0_6 : S1024x16.Slices ![0, 6] S1024x1
  slices_S1024x16_S1024x1_0_7 : S1024x16.Slices ![0, 7] S1024x1
  slices_S1024x16_S1024x1_0_8 : S1024x16.Slices ![0, 8] S1024x1
  slices_S1024x16_S1024x1_0_9 : S1024x16.Slices ![0, 9] S1024x1
  slices_S1024x16_S1024x1_0_10 : S1024x16.Slices ![0, 10] S1024x1
  slices_S1024x16_S1024x1_0_11 : S1024x16.Slices ![0, 11] S1024x1
  slices_S1024x16_S1024x1_0_12 : S1024x16.Slices ![0, 12] S1024x1
  slices_S1024x16_S1024x1_0_13 : S1024x16.Slices ![0, 13] S1024x1
  slices_S1024x16_S1024x1_0_14 : S1024x16.Slices ![0, 14] S1024x1
  slices_S1024x16_S1024x1_0_15 : S1024x16.Slices ![0, 15] S1024x1
  dot_S1024x128_S128x100000_S1024x100000_1_0_0_1_n_n_wf : DotDims.WF S1024x128 S128x100000 S1024x100000 [1] [0] [0] [1] [] []

variable [Facts]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_part11 {F : FTy → Type} [FloatOps F] (main_v15 : FVec F S1024x16 .f32) (main_v18 : IVec S1024x16 32) (main_v132 : IVec S1024x16 1) (main_v224 : IVec S1024x16 1) : IVec S1024x16 1 × IVec S1024x16 1 :=
  let main_v225 : IVec S1024x1 1 := (extractStridedSlice S1024x1 ![0, 15] · slices_S1024x16_S1024x1_0_15) main_v132
  let main_c_35 : IVec S_ 32 := constantI S_ 32 15#32
  let main_v226 : IVec S1024x16 32 := broadcastInDim S1024x16 ![] bcast_S_S1024x16 main_c_35
  let main_v227 : IVec S1024x16 1 := cmpi .sge main_v18 main_v226
  let main_v228 : IVec S1024x16 1 := broadcastInDim S1024x16 ![0, 1] bcast_S1024x1_S1024x16_0_1 main_v225
  let main_v229 : IVec S1024x16 1 := andi main_v228 main_v227
  let main_v230 : IVec S1024x16 1 := ori main_v224 main_v229
  let main_cst_36 : FVec F S_ .f32 := constant S_ .f32 0x7F800000#32
  let main_v231 : FVec F S1024x16 .f32 := broadcastInDim S1024x16 ![] bcast_S_S1024x16 main_cst_36
  let main_v232 : IVec S1024x16 1 := cmpf .olt main_v15 main_v231
  let main_v233 : IVec S1024x16 1 := noti main_v230
  let main_v234 : IVec S1024x16 1 := andi main_v232 main_v233
  let main_c_37 : IVec S_ 32 := constantI S_ 32 0#32
  let main_v235 : IVec S1024x16 32 := broadcastInDim S1024x16 ![] bcast_S_S1024x16 main_c_37
  let main_v236 : IVec S1024x16 1 := cmpi .eq main_v18 main_v235
  let main_v237 : IVec S1024x16 1 := ori main_v234 main_v236
  (main_v237, main_v234)

def fn_part10 {F : FTy → Type} [FloatOps F] (main_v15 : FVec F S1024x16 .f32) (main_v18 : IVec S1024x16 32) (main_v132 : IVec S1024x16 1) (main_v200 : IVec S1024x16 1) (main_v201 : IVec S1024x1 1) (main_v203 : IVec S1024x16 1) : IVec S1024x16 1 × IVec S1024x16 1 :=
  let main_v204 : IVec S1024x16 1 := broadcastInDim S1024x16 ![0, 1] bcast_S1024x1_S1024x16_0_1 main_v201
  let main_v205 : IVec S1024x16 1 := andi main_v204 main_v203
  let main_v206 : IVec S1024x16 1 := ori main_v200 main_v205
  let main_v207 : IVec S1024x1 1 := (extractStridedSlice S1024x1 ![0, 12] · slices_S1024x16_S1024x1_0_12) main_v132
  let main_c_32 : IVec S_ 32 := constantI S_ 32 12#32
  let main_v208 : IVec S1024x16 32 := broadcastInDim S1024x16 ![] bcast_S_S1024x16 main_c_32
  let main_v209 : IVec S1024x16 1 := cmpi .sge main_v18 main_v208
  let main_v210 : IVec S1024x16 1 := broadcastInDim S1024x16 ![0, 1] bcast_S1024x1_S1024x16_0_1 main_v207
  let main_v211 : IVec S1024x16 1 := andi main_v210 main_v209
  let main_v212 : IVec S1024x16 1 := ori main_v206 main_v211
  let main_v213 : IVec S1024x1 1 := (extractStridedSlice S1024x1 ![0, 13] · slices_S1024x16_S1024x1_0_13) main_v132
  let main_c_33 : IVec S_ 32 := constantI S_ 32 13#32
  let main_v214 : IVec S1024x16 32 := broadcastInDim S1024x16 ![] bcast_S_S1024x16 main_c_33
  let main_v215 : IVec S1024x16 1 := cmpi .sge main_v18 main_v214
  let main_v216 : IVec S1024x16 1 := broadcastInDim S1024x16 ![0, 1] bcast_S1024x1_S1024x16_0_1 main_v213
  let main_v217 : IVec S1024x16 1 := andi main_v216 main_v215
  let main_v218 : IVec S1024x16 1 := ori main_v212 main_v217
  let main_v219 : IVec S1024x1 1 := (extractStridedSlice S1024x1 ![0, 14] · slices_S1024x16_S1024x1_0_14) main_v132
  let main_c_34 : IVec S_ 32 := constantI S_ 32 14#32
  let main_v220 : IVec S1024x16 32 := broadcastInDim S1024x16 ![] bcast_S_S1024x16 main_c_34
  let main_v221 : IVec S1024x16 1 := cmpi .sge main_v18 main_v220
  let main_v222 : IVec S1024x16 1 := broadcastInDim S1024x16 ![0, 1] bcast_S1024x1_S1024x16_0_1 main_v219
  let main_v223 : IVec S1024x16 1 := andi main_v222 main_v221
  let main_v224 : IVec S1024x16 1 := ori main_v218 main_v223
  fn_part11 (F := F) main_v15 main_v18 main_v132 main_v224

def fn_part9 {F : FTy → Type} [FloatOps F] (main_v15 : FVec F S1024x16 .f32) (main_v18 : IVec S1024x16 32) (main_v132 : IVec S1024x16 1) (main_v182 : IVec S1024x16 1) (main_v183 : IVec S1024x1 1) : IVec S1024x16 1 × IVec S1024x16 1 :=
  let main_c_28 : IVec S_ 32 := constantI S_ 32 8#32
  let main_v184 : IVec S1024x16 32 := broadcastInDim S1024x16 ![] bcast_S_S1024x16 main_c_28
  let main_v185 : IVec S1024x16 1 := cmpi .sge main_v18 main_v184
  let main_v186 : IVec S1024x16 1 := broadcastInDim S1024x16 ![0, 1] bcast_S1024x1_S1024x16_0_1 main_v183
  let main_v187 : IVec S1024x16 1 := andi main_v186 main_v185
  let main_v188 : IVec S1024x16 1 := ori main_v182 main_v187
  let main_v189 : IVec S1024x1 1 := (extractStridedSlice S1024x1 ![0, 9] · slices_S1024x16_S1024x1_0_9) main_v132
  let main_c_29 : IVec S_ 32 := constantI S_ 32 9#32
  let main_v190 : IVec S1024x16 32 := broadcastInDim S1024x16 ![] bcast_S_S1024x16 main_c_29
  let main_v191 : IVec S1024x16 1 := cmpi .sge main_v18 main_v190
  let main_v192 : IVec S1024x16 1 := broadcastInDim S1024x16 ![0, 1] bcast_S1024x1_S1024x16_0_1 main_v189
  let main_v193 : IVec S1024x16 1 := andi main_v192 main_v191
  let main_v194 : IVec S1024x16 1 := ori main_v188 main_v193
  let main_v195 : IVec S1024x1 1 := (extractStridedSlice S1024x1 ![0, 10] · slices_S1024x16_S1024x1_0_10) main_v132
  let main_c_30 : IVec S_ 32 := constantI S_ 32 10#32
  let main_v196 : IVec S1024x16 32 := broadcastInDim S1024x16 ![] bcast_S_S1024x16 main_c_30
  let main_v197 : IVec S1024x16 1 := cmpi .sge main_v18 main_v196
  let main_v198 : IVec S1024x16 1 := broadcastInDim S1024x16 ![0, 1] bcast_S1024x1_S1024x16_0_1 main_v195
  let main_v199 : IVec S1024x16 1 := andi main_v198 main_v197
  let main_v200 : IVec S1024x16 1 := ori main_v194 main_v199
  let main_v201 : IVec S1024x1 1 := (extractStridedSlice S1024x1 ![0, 11] · slices_S1024x16_S1024x1_0_11) main_v132
  let main_c_31 : IVec S_ 32 := constantI S_ 32 11#32
  let main_v202 : IVec S1024x16 32 := broadcastInDim S1024x16 ![] bcast_S_S1024x16 main_c_31
  let main_v203 : IVec S1024x16 1 := cmpi .sge main_v18 main_v202
  fn_part10 (F := F) main_v15 main_v18 main_v132 main_v200 main_v201 main_v203

def fn_part8 {F : FTy → Type} [FloatOps F] (main_v15 : FVec F S1024x16 .f32) (main_v18 : IVec S1024x16 32) (main_v132 : IVec S1024x16 1) (main_v158 : IVec S1024x16 1) (main_v161 : IVec S1024x16 1) (main_v162 : IVec S1024x16 1) : IVec S1024x16 1 × IVec S1024x16 1 :=
  let main_v163 : IVec S1024x16 1 := andi main_v162 main_v161
  let main_v164 : IVec S1024x16 1 := ori main_v158 main_v163
  let main_v165 : IVec S1024x1 1 := (extractStridedSlice S1024x1 ![0, 5] · slices_S1024x16_S1024x1_0_5) main_v132
  let main_c_25 : IVec S_ 32 := constantI S_ 32 5#32
  let main_v166 : IVec S1024x16 32 := broadcastInDim S1024x16 ![] bcast_S_S1024x16 main_c_25
  let main_v167 : IVec S1024x16 1 := cmpi .sge main_v18 main_v166
  let main_v168 : IVec S1024x16 1 := broadcastInDim S1024x16 ![0, 1] bcast_S1024x1_S1024x16_0_1 main_v165
  let main_v169 : IVec S1024x16 1 := andi main_v168 main_v167
  let main_v170 : IVec S1024x16 1 := ori main_v164 main_v169
  let main_v171 : IVec S1024x1 1 := (extractStridedSlice S1024x1 ![0, 6] · slices_S1024x16_S1024x1_0_6) main_v132
  let main_c_26 : IVec S_ 32 := constantI S_ 32 6#32
  let main_v172 : IVec S1024x16 32 := broadcastInDim S1024x16 ![] bcast_S_S1024x16 main_c_26
  let main_v173 : IVec S1024x16 1 := cmpi .sge main_v18 main_v172
  let main_v174 : IVec S1024x16 1 := broadcastInDim S1024x16 ![0, 1] bcast_S1024x1_S1024x16_0_1 main_v171
  let main_v175 : IVec S1024x16 1 := andi main_v174 main_v173
  let main_v176 : IVec S1024x16 1 := ori main_v170 main_v175
  let main_v177 : IVec S1024x1 1 := (extractStridedSlice S1024x1 ![0, 7] · slices_S1024x16_S1024x1_0_7) main_v132
  let main_c_27 : IVec S_ 32 := constantI S_ 32 7#32
  let main_v178 : IVec S1024x16 32 := broadcastInDim S1024x16 ![] bcast_S_S1024x16 main_c_27
  let main_v179 : IVec S1024x16 1 := cmpi .sge main_v18 main_v178
  let main_v180 : IVec S1024x16 1 := broadcastInDim S1024x16 ![0, 1] bcast_S1024x1_S1024x16_0_1 main_v177
  let main_v181 : IVec S1024x16 1 := andi main_v180 main_v179
  let main_v182 : IVec S1024x16 1 := ori main_v176 main_v181
  let main_v183 : IVec S1024x1 1 := (extractStridedSlice S1024x1 ![0, 8] · slices_S1024x16_S1024x1_0_8) main_v132
  fn_part9 (F := F) main_v15 main_v18 main_v132 main_v182 main_v183

def fn_part7 {F : FTy → Type} [FloatOps F] (main_v15 : FVec F S1024x16 .f32) (main_v18 : IVec S1024x16 32) (main_v132 : IVec S1024x16 1) (main_v140 : IVec S1024x16 1) (main_v141 : IVec S1024x1 1) (main_c_21 : IVec S_ 32) : IVec S1024x16 1 × IVec S1024x16 1 :=
  let main_v142 : IVec S1024x16 32 := broadcastInDim S1024x16 ![] bcast_S_S1024x16 main_c_21
  let main_v143 : IVec S1024x16 1 := cmpi .sge main_v18 main_v142
  let main_v144 : IVec S1024x16 1 := broadcastInDim S1024x16 ![0, 1] bcast_S1024x1_S1024x16_0_1 main_v141
  let main_v145 : IVec S1024x16 1 := andi main_v144 main_v143
  let main_v146 : IVec S1024x16 1 := ori main_v140 main_v145
  let main_v147 : IVec S1024x1 1 := (extractStridedSlice S1024x1 ![0, 2] · slices_S1024x16_S1024x1_0_2) main_v132
  let main_c_22 : IVec S_ 32 := constantI S_ 32 2#32
  let main_v148 : IVec S1024x16 32 := broadcastInDim S1024x16 ![] bcast_S_S1024x16 main_c_22
  let main_v149 : IVec S1024x16 1 := cmpi .sge main_v18 main_v148
  let main_v150 : IVec S1024x16 1 := broadcastInDim S1024x16 ![0, 1] bcast_S1024x1_S1024x16_0_1 main_v147
  let main_v151 : IVec S1024x16 1 := andi main_v150 main_v149
  let main_v152 : IVec S1024x16 1 := ori main_v146 main_v151
  let main_v153 : IVec S1024x1 1 := (extractStridedSlice S1024x1 ![0, 3] · slices_S1024x16_S1024x1_0_3) main_v132
  let main_c_23 : IVec S_ 32 := constantI S_ 32 3#32
  let main_v154 : IVec S1024x16 32 := broadcastInDim S1024x16 ![] bcast_S_S1024x16 main_c_23
  let main_v155 : IVec S1024x16 1 := cmpi .sge main_v18 main_v154
  let main_v156 : IVec S1024x16 1 := broadcastInDim S1024x16 ![0, 1] bcast_S1024x1_S1024x16_0_1 main_v153
  let main_v157 : IVec S1024x16 1 := andi main_v156 main_v155
  let main_v158 : IVec S1024x16 1 := ori main_v152 main_v157
  let main_v159 : IVec S1024x1 1 := (extractStridedSlice S1024x1 ![0, 4] · slices_S1024x16_S1024x1_0_4) main_v132
  let main_c_24 : IVec S_ 32 := constantI S_ 32 4#32
  let main_v160 : IVec S1024x16 32 := broadcastInDim S1024x16 ![] bcast_S_S1024x16 main_c_24
  let main_v161 : IVec S1024x16 1 := cmpi .sge main_v18 main_v160
  let main_v162 : IVec S1024x16 1 := broadcastInDim S1024x16 ![0, 1] bcast_S1024x1_S1024x16_0_1 main_v159
  fn_part8 (F := F) main_v15 main_v18 main_v132 main_v158 main_v161 main_v162

def fn_part6 {F : FTy → Type} [FloatOps F] (main_v15 : FVec F S1024x16 .f32) (main_v17 : IVec S1024x16 32) (main_v18 : IVec S1024x16 32) (main_v118 : IVec S1024x16 1) (main_v121 : IVec S1024x16 1) (main_c_17 : IVec S_ 32) : IVec S1024x16 1 × IVec S1024x16 1 :=
  let main_v122 : IVec S1024x16 32 := broadcastInDim S1024x16 ![] bcast_S_S1024x16 main_c_17
  let main_v123 : IVec S1024x16 1 := cmpi .sgt main_v18 main_v122
  let main_v124 : IVec S1024x16 1 := andi main_v121 main_v123
  let main_v125 : IVec S1024x16 1 := ori main_v118 main_v124
  let main_v126 : IVec S1024x1 32 := (extractStridedSlice S1024x1 ![0, 15] · slices_S1024x16_S1024x1_0_15) main_v17
  let main_v127 : IVec S1024x16 32 := broadcastInDim S1024x16 ![0, 1] bcast_S1024x1_S1024x16_0_1 main_v126
  let main_v128 : IVec S1024x16 1 := cmpi .eq main_v17 main_v127
  let main_c_18 : IVec S_ 32 := constantI S_ 32 15#32
  let main_v129 : IVec S1024x16 32 := broadcastInDim S1024x16 ![] bcast_S_S1024x16 main_c_18
  let main_v130 : IVec S1024x16 1 := cmpi .sgt main_v18 main_v129
  let main_v131 : IVec S1024x16 1 := andi main_v128 main_v130
  let main_v132 : IVec S1024x16 1 := ori main_v125 main_v131
  let main_c_19 : IVec S_ 32 := constantI S_ 32 0#32
  let main_v133 : IVec S1024x16 32 := broadcastInDim S1024x16 ![] bcast_S_S1024x16 main_c_19
  let main_v134 : IVec S1024x16 1 := cmpi .slt main_v18 main_v133
  let main_v135 : IVec S1024x1 1 := (extractStridedSlice S1024x1 ![0, 0] · slices_S1024x16_S1024x1_0_0) main_v132
  let main_c_20 : IVec S_ 32 := constantI S_ 32 0#32
  let main_v136 : IVec S1024x16 32 := broadcastInDim S1024x16 ![] bcast_S_S1024x16 main_c_20
  let main_v137 : IVec S1024x16 1 := cmpi .sge main_v18 main_v136
  let main_v138 : IVec S1024x16 1 := broadcastInDim S1024x16 ![0, 1] bcast_S1024x1_S1024x16_0_1 main_v135
  let main_v139 : IVec S1024x16 1 := andi main_v138 main_v137
  let main_v140 : IVec S1024x16 1 := ori main_v134 main_v139
  let main_v141 : IVec S1024x1 1 := (extractStridedSlice S1024x1 ![0, 1] · slices_S1024x16_S1024x1_0_1) main_v132
  let main_c_21 : IVec S_ 32 := constantI S_ 32 1#32
  fn_part7 (F := F) main_v15 main_v18 main_v132 main_v140 main_v141 main_c_21

def fn_part5 {F : FTy → Type} [FloatOps F] (main_v15 : FVec F S1024x16 .f32) (main_v17 : IVec S1024x16 32) (main_v18 : IVec S1024x16 32) (main_v97 : IVec S1024x16 1) (main_v100 : IVec S1024x16 1) (main_c_14 : IVec S_ 32) : IVec S1024x16 1 × IVec S1024x16 1 :=
  let main_v101 : IVec S1024x16 32 := broadcastInDim S1024x16 ![] bcast_S_S1024x16 main_c_14
  let main_v102 : IVec S1024x16 1 := cmpi .sgt main_v18 main_v101
  let main_v103 : IVec S1024x16 1 := andi main_v100 main_v102
  let main_v104 : IVec S1024x16 1 := ori main_v97 main_v103
  let main_v105 : IVec S1024x1 32 := (extractStridedSlice S1024x1 ![0, 12] · slices_S1024x16_S1024x1_0_12) main_v17
  let main_v106 : IVec S1024x16 32 := broadcastInDim S1024x16 ![0, 1] bcast_S1024x1_S1024x16_0_1 main_v105
  let main_v107 : IVec S1024x16 1 := cmpi .eq main_v17 main_v106
  let main_c_15 : IVec S_ 32 := constantI S_ 32 12#32
  let main_v108 : IVec S1024x16 32 := broadcastInDim S1024x16 ![] bcast_S_S1024x16 main_c_15
  let main_v109 : IVec S1024x16 1 := cmpi .sgt main_v18 main_v108
  let main_v110 : IVec S1024x16 1 := andi main_v107 main_v109
  let main_v111 : IVec S1024x16 1 := ori main_v104 main_v110
  let main_v112 : IVec S1024x1 32 := (extractStridedSlice S1024x1 ![0, 13] · slices_S1024x16_S1024x1_0_13) main_v17
  let main_v113 : IVec S1024x16 32 := broadcastInDim S1024x16 ![0, 1] bcast_S1024x1_S1024x16_0_1 main_v112
  let main_v114 : IVec S1024x16 1 := cmpi .eq main_v17 main_v113
  let main_c_16 : IVec S_ 32 := constantI S_ 32 13#32
  let main_v115 : IVec S1024x16 32 := broadcastInDim S1024x16 ![] bcast_S_S1024x16 main_c_16
  let main_v116 : IVec S1024x16 1 := cmpi .sgt main_v18 main_v115
  let main_v117 : IVec S1024x16 1 := andi main_v114 main_v116
  let main_v118 : IVec S1024x16 1 := ori main_v111 main_v117
  let main_v119 : IVec S1024x1 32 := (extractStridedSlice S1024x1 ![0, 14] · slices_S1024x16_S1024x1_0_14) main_v17
  let main_v120 : IVec S1024x16 32 := broadcastInDim S1024x16 ![0, 1] bcast_S1024x1_S1024x16_0_1 main_v119
  let main_v121 : IVec S1024x16 1 := cmpi .eq main_v17 main_v120
  let main_c_17 : IVec S_ 32 := constantI S_ 32 14#32
  fn_part6 (F := F) main_v15 main_v17 main_v18 main_v118 main_v121 main_c_17

def fn_part4 {F : FTy → Type} [FloatOps F] (main_v15 : FVec F S1024x16 .f32) (main_v17 : IVec S1024x16 32) (main_v18 : IVec S1024x16 32) (main_v76 : IVec S1024x16 1) (main_v79 : IVec S1024x16 1) (main_c_11 : IVec S_ 32) : IVec S1024x16 1 × IVec S1024x16 1 :=
  let main_v80 : IVec S1024x16 32 := broadcastInDim S1024x16 ![] bcast_S_S1024x16 main_c_11
  let main_v81 : IVec S1024x16 1 := cmpi .sgt main_v18 main_v80
  let main_v82 : IVec S1024x16 1 := andi main_v79 main_v81
  let main_v83 : IVec S1024x16 1 := ori main_v76 main_v82
  let main_v84 : IVec S1024x1 32 := (extractStridedSlice S1024x1 ![0, 9] · slices_S1024x16_S1024x1_0_9) main_v17
  let main_v85 : IVec S1024x16 32 := broadcastInDim S1024x16 ![0, 1] bcast_S1024x1_S1024x16_0_1 main_v84
  let main_v86 : IVec S1024x16 1 := cmpi .eq main_v17 main_v85
  let main_c_12 : IVec S_ 32 := constantI S_ 32 9#32
  let main_v87 : IVec S1024x16 32 := broadcastInDim S1024x16 ![] bcast_S_S1024x16 main_c_12
  let main_v88 : IVec S1024x16 1 := cmpi .sgt main_v18 main_v87
  let main_v89 : IVec S1024x16 1 := andi main_v86 main_v88
  let main_v90 : IVec S1024x16 1 := ori main_v83 main_v89
  let main_v91 : IVec S1024x1 32 := (extractStridedSlice S1024x1 ![0, 10] · slices_S1024x16_S1024x1_0_10) main_v17
  let main_v92 : IVec S1024x16 32 := broadcastInDim S1024x16 ![0, 1] bcast_S1024x1_S1024x16_0_1 main_v91
  let main_v93 : IVec S1024x16 1 := cmpi .eq main_v17 main_v92
  let main_c_13 : IVec S_ 32 := constantI S_ 32 10#32
  let main_v94 : IVec S1024x16 32 := broadcastInDim S1024x16 ![] bcast_S_S1024x16 main_c_13
  let main_v95 : IVec S1024x16 1 := cmpi .sgt main_v18 main_v94
  let main_v96 : IVec S1024x16 1 := andi main_v93 main_v95
  let main_v97 : IVec S1024x16 1 := ori main_v90 main_v96
  let main_v98 : IVec S1024x1 32 := (extractStridedSlice S1024x1 ![0, 11] · slices_S1024x16_S1024x1_0_11) main_v17
  let main_v99 : IVec S1024x16 32 := broadcastInDim S1024x16 ![0, 1] bcast_S1024x1_S1024x16_0_1 main_v98
  let main_v100 : IVec S1024x16 1 := cmpi .eq main_v17 main_v99
  let main_c_14 : IVec S_ 32 := constantI S_ 32 11#32
  fn_part5 (F := F) main_v15 main_v17 main_v18 main_v97 main_v100 main_c_14

def fn_part3 {F : FTy → Type} [FloatOps F] (main_v15 : FVec F S1024x16 .f32) (main_v17 : IVec S1024x16 32) (main_v18 : IVec S1024x16 32) (main_v55 : IVec S1024x16 1) (main_v58 : IVec S1024x16 1) (main_c_8 : IVec S_ 32) : IVec S1024x16 1 × IVec S1024x16 1 :=
  let main_v59 : IVec S1024x16 32 := broadcastInDim S1024x16 ![] bcast_S_S1024x16 main_c_8
  let main_v60 : IVec S1024x16 1 := cmpi .sgt main_v18 main_v59
  let main_v61 : IVec S1024x16 1 := andi main_v58 main_v60
  let main_v62 : IVec S1024x16 1 := ori main_v55 main_v61
  let main_v63 : IVec S1024x1 32 := (extractStridedSlice S1024x1 ![0, 6] · slices_S1024x16_S1024x1_0_6) main_v17
  let main_v64 : IVec S1024x16 32 := broadcastInDim S1024x16 ![0, 1] bcast_S1024x1_S1024x16_0_1 main_v63
  let main_v65 : IVec S1024x16 1 := cmpi .eq main_v17 main_v64
  let main_c_9 : IVec S_ 32 := constantI S_ 32 6#32
  let main_v66 : IVec S1024x16 32 := broadcastInDim S1024x16 ![] bcast_S_S1024x16 main_c_9
  let main_v67 : IVec S1024x16 1 := cmpi .sgt main_v18 main_v66
  let main_v68 : IVec S1024x16 1 := andi main_v65 main_v67
  let main_v69 : IVec S1024x16 1 := ori main_v62 main_v68
  let main_v70 : IVec S1024x1 32 := (extractStridedSlice S1024x1 ![0, 7] · slices_S1024x16_S1024x1_0_7) main_v17
  let main_v71 : IVec S1024x16 32 := broadcastInDim S1024x16 ![0, 1] bcast_S1024x1_S1024x16_0_1 main_v70
  let main_v72 : IVec S1024x16 1 := cmpi .eq main_v17 main_v71
  let main_c_10 : IVec S_ 32 := constantI S_ 32 7#32
  let main_v73 : IVec S1024x16 32 := broadcastInDim S1024x16 ![] bcast_S_S1024x16 main_c_10
  let main_v74 : IVec S1024x16 1 := cmpi .sgt main_v18 main_v73
  let main_v75 : IVec S1024x16 1 := andi main_v72 main_v74
  let main_v76 : IVec S1024x16 1 := ori main_v69 main_v75
  let main_v77 : IVec S1024x1 32 := (extractStridedSlice S1024x1 ![0, 8] · slices_S1024x16_S1024x1_0_8) main_v17
  let main_v78 : IVec S1024x16 32 := broadcastInDim S1024x16 ![0, 1] bcast_S1024x1_S1024x16_0_1 main_v77
  let main_v79 : IVec S1024x16 1 := cmpi .eq main_v17 main_v78
  let main_c_11 : IVec S_ 32 := constantI S_ 32 8#32
  fn_part4 (F := F) main_v15 main_v17 main_v18 main_v76 main_v79 main_c_11

def fn_part2 {F : FTy → Type} [FloatOps F] (main_v15 : FVec F S1024x16 .f32) (main_v17 : IVec S1024x16 32) (main_v18 : IVec S1024x16 32) (main_v34 : IVec S1024x16 1) (main_v37 : IVec S1024x16 1) (main_c_5 : IVec S_ 32) : IVec S1024x16 1 × IVec S1024x16 1 :=
  let main_v38 : IVec S1024x16 32 := broadcastInDim S1024x16 ![] bcast_S_S1024x16 main_c_5
  let main_v39 : IVec S1024x16 1 := cmpi .sgt main_v18 main_v38
  let main_v40 : IVec S1024x16 1 := andi main_v37 main_v39
  let main_v41 : IVec S1024x16 1 := ori main_v34 main_v40
  let main_v42 : IVec S1024x1 32 := (extractStridedSlice S1024x1 ![0, 3] · slices_S1024x16_S1024x1_0_3) main_v17
  let main_v43 : IVec S1024x16 32 := broadcastInDim S1024x16 ![0, 1] bcast_S1024x1_S1024x16_0_1 main_v42
  let main_v44 : IVec S1024x16 1 := cmpi .eq main_v17 main_v43
  let main_c_6 : IVec S_ 32 := constantI S_ 32 3#32
  let main_v45 : IVec S1024x16 32 := broadcastInDim S1024x16 ![] bcast_S_S1024x16 main_c_6
  let main_v46 : IVec S1024x16 1 := cmpi .sgt main_v18 main_v45
  let main_v47 : IVec S1024x16 1 := andi main_v44 main_v46
  let main_v48 : IVec S1024x16 1 := ori main_v41 main_v47
  let main_v49 : IVec S1024x1 32 := (extractStridedSlice S1024x1 ![0, 4] · slices_S1024x16_S1024x1_0_4) main_v17
  let main_v50 : IVec S1024x16 32 := broadcastInDim S1024x16 ![0, 1] bcast_S1024x1_S1024x16_0_1 main_v49
  let main_v51 : IVec S1024x16 1 := cmpi .eq main_v17 main_v50
  let main_c_7 : IVec S_ 32 := constantI S_ 32 4#32
  let main_v52 : IVec S1024x16 32 := broadcastInDim S1024x16 ![] bcast_S_S1024x16 main_c_7
  let main_v53 : IVec S1024x16 1 := cmpi .sgt main_v18 main_v52
  let main_v54 : IVec S1024x16 1 := andi main_v51 main_v53
  let main_v55 : IVec S1024x16 1 := ori main_v48 main_v54
  let main_v56 : IVec S1024x1 32 := (extractStridedSlice S1024x1 ![0, 5] · slices_S1024x16_S1024x1_0_5) main_v17
  let main_v57 : IVec S1024x16 32 := broadcastInDim S1024x16 ![0, 1] bcast_S1024x1_S1024x16_0_1 main_v56
  let main_v58 : IVec S1024x16 1 := cmpi .eq main_v17 main_v57
  let main_c_8 : IVec S_ 32 := constantI S_ 32 5#32
  fn_part3 (F := F) main_v15 main_v17 main_v18 main_v55 main_v58 main_c_8

def fn_part1 {F : FTy → Type} [FloatOps F] (main_v15 : FVec F S1024x16 .f32) (main_v17 : IVec S1024x16 32) : IVec S1024x16 1 × IVec S1024x16 1 :=
  let main_v18 : IVec S1024x16 32 := iotaInDim S1024x16 32 1
  let main_c_2 : IVec S_ 32 := constantI S_ 32 0#32
  let main_v19 : IVec S1024x16 32 := broadcastInDim S1024x16 ![] bcast_S_S1024x16 main_c_2
  let main_v20 : IVec S1024x16 1 := cmpi .slt main_v18 main_v19
  let main_v21 : IVec S1024x1 32 := (extractStridedSlice S1024x1 ![0, 0] · slices_S1024x16_S1024x1_0_0) main_v17
  let main_v22 : IVec S1024x16 32 := broadcastInDim S1024x16 ![0, 1] bcast_S1024x1_S1024x16_0_1 main_v21
  let main_v23 : IVec S1024x16 1 := cmpi .eq main_v17 main_v22
  let main_c_3 : IVec S_ 32 := constantI S_ 32 0#32
  let main_v24 : IVec S1024x16 32 := broadcastInDim S1024x16 ![] bcast_S_S1024x16 main_c_3
  let main_v25 : IVec S1024x16 1 := cmpi .sgt main_v18 main_v24
  let main_v26 : IVec S1024x16 1 := andi main_v23 main_v25
  let main_v27 : IVec S1024x16 1 := ori main_v20 main_v26
  let main_v28 : IVec S1024x1 32 := (extractStridedSlice S1024x1 ![0, 1] · slices_S1024x16_S1024x1_0_1) main_v17
  let main_v29 : IVec S1024x16 32 := broadcastInDim S1024x16 ![0, 1] bcast_S1024x1_S1024x16_0_1 main_v28
  let main_v30 : IVec S1024x16 1 := cmpi .eq main_v17 main_v29
  let main_c_4 : IVec S_ 32 := constantI S_ 32 1#32
  let main_v31 : IVec S1024x16 32 := broadcastInDim S1024x16 ![] bcast_S_S1024x16 main_c_4
  let main_v32 : IVec S1024x16 1 := cmpi .sgt main_v18 main_v31
  let main_v33 : IVec S1024x16 1 := andi main_v30 main_v32
  let main_v34 : IVec S1024x16 1 := ori main_v27 main_v33
  let main_v35 : IVec S1024x1 32 := (extractStridedSlice S1024x1 ![0, 2] · slices_S1024x16_S1024x1_0_2) main_v17
  let main_v36 : IVec S1024x16 32 := broadcastInDim S1024x16 ![0, 1] bcast_S1024x1_S1024x16_0_1 main_v35
  let main_v37 : IVec S1024x16 1 := cmpi .eq main_v17 main_v36
  let main_c_5 : IVec S_ 32 := constantI S_ 32 2#32
  fn_part2 (F := F) main_v15 main_v17 main_v18 main_v34 main_v37 main_c_5

def fn {F : FTy → Type} [FloatOps F] (main_arg0 : FVec F S1024x128 .f32) (main_arg1 : FVec F S100000x128 .f32) : IVec S1024x16 1 × IVec S1024x16 1 :=
  let main_v0 : FVec F S1024x128 .f32 := mulf main_arg0 main_arg0
  let main_cst : FVec F S_ .f32 := constant S_ .f32 0x00000000#32
  let main_v1 : FVec F S1024 .f32 := (fun x v => Host.reduceAdd x v reducesTo_S1024x128_S1024_d1 h_S_) main_v0 main_cst
  let main_v2 : FVec F S1024x1 .f32 := broadcastInDim S1024x1 ![0] bcast_S1024_S1024x1_0 main_v1
  let main_v3 : FVec F S100000x128 .f32 := mulf main_arg1 main_arg1
  let main_cst_0 : FVec F S_ .f32 := constant S_ .f32 0x00000000#32
  let main_v4 : FVec F S100000 .f32 := (fun x v => Host.reduceAdd x v reducesTo_S100000x128_S100000_d1 h_S_) main_v3 main_cst_0
  let main_v5 : FVec F S1x100000 .f32 := broadcastInDim S1x100000 ![1] bcast_S100000_S1x100000_1 main_v4
  let main_v6 : FVec F S128x100000 .f32 := (transpose S128x100000 [1, 0] · transposes_S100000x128_S128x100000_1_0) main_arg1
  let main_v7 : FVec F S1024x100000 .f32 := (fun l r => Host.dotGeneral dot_S1024x128_S128x100000_S1024x100000_1_0_0_1_n_n none l r) main_arg0 main_v6
  let main_cst_1 : FVec F S_ .f32 := constant S_ .f32 0x40000000#32
  let main_v8 : FVec F S1024x100000 .f32 := broadcastInDim S1024x100000 ![] bcast_S_S1024x100000 main_cst_1
  let main_v9 : FVec F S1024x100000 .f32 := mulf main_v8 main_v7
  let main_v10 : FVec F S1024x100000 .f32 := broadcastInDim S1024x100000 ![0, 1] bcast_S1024x1_S1024x100000_0_1 main_v2
  let main_v11 : FVec F S1024x100000 .f32 := subf main_v10 main_v9
  let main_v12 : FVec F S1024x100000 .f32 := broadcastInDim S1024x100000 ![0, 1] bcast_S1x100000_S1024x100000_0_1 main_v5
  let main_v13 : FVec F S1024x100000 .f32 := addf main_v11 main_v12
  let main_v14 : FVec F S1024x100000 .f32 := Host.negf main_v13
  let main_values : FVec F S1024x16 .f32 := (fun x => (Host.topK S1024x16 1 (FloatOps.cmpfTotal .gt) x sliceFits_S1024x100000_S1024x16).1) main_v14
  let main_indices : IVec S1024x16 32 := (fun x => (Host.topK S1024x16 1 (FloatOps.cmpfTotal .gt) x sliceFits_S1024x100000_S1024x16).2) main_v14
  let main_v15 : FVec F S1024x16 .f32 := Host.negf main_values
  let main_c : IVec S_ 32 := constantI S_ 32 127#32
  let main_v16 : IVec S1024x16 32 := broadcastInDim S1024x16 ![] bcast_S_S1024x16 main_c
  let main_v17 : IVec S1024x16 32 := andi main_indices main_v16
  fn_part1 (F := F) main_v15 main_v17
-- ==== Kernel.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S352 : Shape := ⟨1, ![352]⟩
abbrev S100352 : Shape := ⟨1, ![100352]⟩
abbrev S1x100352 : Shape := ⟨2, ![1, 100352]⟩
abbrev S100352x128 : Shape := ⟨2, ![100352, 128]⟩
abbrev S2048x128 : Shape := ⟨2, ![2048, 128]⟩
abbrev S1x2048 : Shape := ⟨2, ![1, 2048]⟩
abbrev S1024x2048 : Shape := ⟨2, ![1024, 2048]⟩
abbrev S1024x16 : Shape := ⟨2, ![1024, 16]⟩
abbrev S1024x64 : Shape := ⟨2, ![1024, 64]⟩
abbrev S1x1024x1 : Shape := ⟨3, ![1, 1024, 1]⟩
abbrev S1 : Shape := ⟨1, ![1]⟩
abbrev S1x1x1 : Shape := ⟨3, ![1, 1, 1]⟩
abbrev S1024x192 : Shape := ⟨2, ![1024, 192]⟩

abbrev nBuf : Space → Nat
  | .hbm => 23
  | .vmem => 24
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S_, .f32⟩
  | .hbm, ⟨10, _⟩ => ⟨S352, .f32⟩
  | .hbm, ⟨11, _⟩ => ⟨S100352, .f32⟩
  | .hbm, ⟨12, _⟩ => ⟨S1x100352, .f32⟩
  | .hbm, ⟨13, _⟩ => ⟨S1024x128, .bf16⟩
  | .hbm, ⟨14, _⟩ => ⟨S100000x128, .bf16⟩
  | .hbm, ⟨15, _⟩ => ⟨S_, .i32⟩
  | .hbm, ⟨16, _⟩ => ⟨S_, .bf16⟩
  | .hbm, ⟨17, _⟩ => ⟨S100352x128, .bf16⟩
  | .hbm, ⟨18, _⟩ => ⟨S1024x128, .f32⟩
  | .hbm, ⟨19, _⟩ => ⟨S1024x128, .i32⟩
  | .hbm, ⟨20, _⟩ => ⟨S1024x1, .f32⟩
  | .hbm, ⟨21, _⟩ => ⟨S1024x16, .f32⟩
  | .hbm, ⟨22, _⟩ => ⟨S1024x16, .i32⟩
  | .local _ .vmem, ⟨0, _⟩ => ⟨S1024x128, .bf16⟩
  | .local _ .vmem, ⟨1, _⟩ => ⟨S2048x128, .bf16⟩
  | .local _ .vmem, ⟨2, _⟩ => ⟨S2048x128, .bf16⟩
  | .local _ .vmem, ⟨3, _⟩ => ⟨S1024x1, .f32⟩
  | .local _ .vmem, ⟨4, _⟩ => ⟨S1x2048, .f32⟩
  | .local _ .vmem, ⟨5, _⟩ => ⟨S1x2048, .f32⟩
  | .local _ .vmem, ⟨6, _⟩ => ⟨S1024x128, .f32⟩
  | .local _ .vmem, ⟨7, _⟩ => ⟨S1024x128, .i32⟩
  | .local _ .vmem, ⟨8, _⟩ => ⟨S1024x1, .f32⟩
  | .local _ .vmem, ⟨9, _⟩ => ⟨S1024x128, .bf16⟩
  | .local _ .vmem, ⟨10, _⟩ => ⟨S2048x128, .bf16⟩
  | .local _ .vmem, ⟨11, _⟩ => ⟨S2048x128, .bf16⟩
  | .local _ .vmem, ⟨12, _⟩ => ⟨S1024x1, .f32⟩
  | .local _ .vmem, ⟨13, _⟩ => ⟨S1x2048, .f32⟩
  | .local _ .vmem, ⟨14, _⟩ => ⟨S1x2048, .f32⟩
  | .local _ .vmem, ⟨15, _⟩ => ⟨S1024x128, .f32⟩
  | .local _ .vmem, ⟨16, _⟩ => ⟨S1024x128, .i32⟩
  | .local _ .vmem, ⟨17, _⟩ => ⟨S1024x1, .f32⟩
  | .local _ .vmem, ⟨18, _⟩ => ⟨S1024x16, .f32⟩
  | .local _ .vmem, ⟨19, _⟩ => ⟨S1024x16, .i32⟩
  | .local _ .vmem, ⟨20, _⟩ => ⟨S1024x64, .f32⟩
  | .local _ .vmem, ⟨21, _⟩ => ⟨S1024x64, .i32⟩
  | .local _ .vmem, ⟨22, _⟩ => ⟨S1024x1, .i32⟩
  | .local _ .vmem, ⟨23, _⟩ => ⟨S1024x2048, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v116 : BitVec 1 := Scalar.cmpi .eq arg0 c48_i32
  let v117 : BitVec 32 := Scalar.extui v116
  let c0_i32_20 : BitVec 32 := 0#32
  let v118 : BitVec 1 := Scalar.cmpi .ne v117 c0_i32_20
  v118

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![49], ![false]⟩

@[reducible] def k1_t1_loop (v313 : BitVec 32) : Scf.Loop 32 :=
  let c0_i32_54 : BitVec 32 := 0#32
  let v319 : BitVec 32 := Scalar.subi v313 c0_i32_54
  let c1_i32_55 : BitVec 32 := 1#32
  let v321 : BitVec 32 := Scalar.divsi v319 c1_i32_55
  let v322 : BitVec 32 := Scalar.muli v321 c1_i32_55
  let v323 : BitVec 32 := Scalar.addi c0_i32_54 v322
  let c1_i32_56 : BitVec 32 := 1#32
  ⟨c0_i32_54, v323, c1_i32_56⟩

@[reducible] def k1_t2_loop (v313 : BitVec 32) : Scf.Loop 32 :=
  let c0_i32_54 : BitVec 32 := 0#32
  let v319 : BitVec 32 := Scalar.subi v313 c0_i32_54
  let c1_i32_55 : BitVec 32 := 1#32
  let v321 : BitVec 32 := Scalar.divsi v319 c1_i32_55
  let v322 : BitVec 32 := Scalar.muli v321 c1_i32_55
  let v323 : BitVec 32 := Scalar.addi c0_i32_54 v322
  let v320 : BitVec 32 := Scalar.addi c0_i32_54 v319
  let c1_i32_57 : BitVec 32 := 1#32
  ⟨v323, v320, c1_i32_57⟩

def k1_chk1 (v313 : BitVec 32) : Prop :=
  ((k1_t1_loop v313).OK) ∧
  ((k1_t2_loop v313).OK)
theorem k1_t1_ok : ∀ (v313 : BitVec 32) (k1_hw1 : k1_chk1 v313), (k1_t1_loop v313).OK := fun v313 k1_hw1 => k1_hw1.1
theorem k1_t2_ok : ∀ (v313 : BitVec 32) (k1_hw1 : k1_chk1 v313), (k1_t2_loop v313).OK := fun v313 k1_hw1 => k1_hw1.2

@[reducible] def k1_t3_loop (v317 : BitVec 32) : Scf.Loop 32 :=
  let c0_i32_110 : BitVec 32 := 0#32
  let v444 : BitVec 32 := Scalar.subi v317 c0_i32_110
  let c1_i32_112 : BitVec 32 := 1#32
  let v446 : BitVec 32 := Scalar.divsi v444 c1_i32_112
  let v447 : BitVec 32 := Scalar.muli v446 c1_i32_112
  let v448 : BitVec 32 := Scalar.addi c0_i32_110 v447
  let c1_i32_113 : BitVec 32 := 1#32
  ⟨c0_i32_110, v448, c1_i32_113⟩
def k1_cond2 (v317 : BitVec 32) : BitVec 1 :=
  let c0_i32_58 : BitVec 32 := 0#32
  let v326 : BitVec 1 := Scalar.cmpi .sgt v317 c0_i32_58
  let v327 : BitVec 32 := Scalar.extui v326
  let c0_i32_59 : BitVec 32 := 0#32
  let v328 : BitVec 1 := Scalar.cmpi .ne v327 c0_i32_59
  v328

@[reducible] def k1_t4_loop (v317 : BitVec 32) : Scf.Loop 32 :=
  let c0_i32_110 : BitVec 32 := 0#32
  let v444 : BitVec 32 := Scalar.subi v317 c0_i32_110
  let c1_i32_112 : BitVec 32 := 1#32
  let v446 : BitVec 32 := Scalar.divsi v444 c1_i32_112
  let v447 : BitVec 32 := Scalar.muli v446 c1_i32_112
  let v448 : BitVec 32 := Scalar.addi c0_i32_110 v447
  let v445 : BitVec 32 := Scalar.addi c0_i32_110 v444
  let c1_i32_114 : BitVec 32 := 1#32
  ⟨v448, v445, c1_i32_114⟩

def k1_chk2 (v317 : BitVec 32) : Prop :=
  (∀ (k1_h2 : k1_cond2 v317 = 1#1), (k1_t3_loop v317).OK) ∧
  (∀ (k1_h2 : k1_cond2 v317 = 1#1), (k1_t4_loop v317).OK)
theorem k1_t3_ok : ∀ (v317 : BitVec 32) (k1_hw2 : k1_chk2 v317), ∀ (k1_h2 : k1_cond2 v317 = 1#1), (k1_t3_loop v317).OK := fun v317 k1_hw2 k1_h2 => k1_hw2.1 k1_h2
theorem k1_t4_ok : ∀ (v317 : BitVec 32) (k1_hw2 : k1_chk2 v317), ∀ (k1_h2 : k1_cond2 v317 = 1#1), (k1_t4_loop v317).OK := fun v317 k1_hw2 k1_h2 => k1_hw2.2 k1_h2

def k1_cond3 (i : grid1.Coords) : BitVec 1 :=
  let arg0 : BitVec 32 := BitVec.ofNat 32 (i 0).val
  let c48_i32 : BitVec 32 := 48#32
  let v329 : BitVec 1 := Scalar.cmpi .eq arg0 c48_i32
  let v330 : BitVec 32 := Scalar.extui v329
  let c0_i32_60 : BitVec 32 := 0#32
  let v331 : BitVec 1 := Scalar.cmpi .ne v330 c0_i32_60
  v331

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x16 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S128x100000 : Shape := ⟨2, ![128, 100000]⟩
abbrev S1024x100000 : Shape := ⟨2, ![1024, 100000]⟩
abbrev S1024x16 : Shape := ⟨2, ![1024, 16]⟩

abbrev nBuf : Space → Nat
  | .hbm => 23
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S128x100000, .f32⟩
  | .hbm, ⟨11, _⟩ => ⟨S1024x100000, .f32⟩
  | .hbm, ⟨12, _⟩ => ⟨S_, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x16, .f32⟩
  | .hbm, ⟨21, _⟩ => ⟨S1024x16, .i32⟩
  | .hbm, ⟨22, _⟩ => ⟨S1024x16, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.PassA.lean ====
/-
  Pass A (the first pipeline): what one grid point of its body computes, and its triple.
-/
module

public import proofs.«01_k».proof.Proof.Gen.KernelIdeal.Regions
public import proofs.«01_k».proof.Proof.Gen.KernelIdeal.Loops
public import Idealize.ShloMosaic.Lib.Tactic
public import Idealize.ShloMosaic.Lib.VecWindow
public import Idealize.ShloMosaic.Lib.Pipeline.Value

@[expose] public section

noncomputable section

namespace Cert.Proof.PassA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The all-zero offset. -/
theorem hz : (![0, 0] : Fin 2 → Nat) = fun _ => 0 := funext fun a => by fin_cases a <;> rfl

/-- A load of a whole buffer after stores, the last of them whole, reads the last payload. -/
theorem readCov_last {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  unfold View.readCov
  rw [View.readAt_eq_ld, View.read_writes_full, View.ld_unit_zero h]

/-- Whether this is the first grid point, as the body computes it. -/
def first (i : grid0.Coords) : BitVec 1 :=
  Scalar.cmpi .ne (Scalar.extui (Scalar.cmpi .eq (BitVec.ofNat 32 (i 0).val) 0#32) : BitVec 32) 0#32

/-- The lane minima of one block of distances. -/
def bmin (x1 : Vec F S1024x128 .bf16) (x2 : Vec F S2048x128 .bf16) (x3 : Vec F S1024x1 .f32) (x4 : Vec F S1x2048 .f32) : FVec F S1024x128 .f32 :=
  k0_pay35 (k0_pay31 x1 x2 x3 x4) (k0_pay32 x1 x2 x3 x4) (k0_pay33 x1 x2 x3 x4) (k0_pay34 x1 x2 x3 x4)

/-- The least slice number attaining the lane minimum, except for the last two comparisons. -/
def barg (x1 : Vec F S1024x128 .bf16) (x2 : Vec F S2048x128 .bf16) (x3 : Vec F S1024x1 .f32) (x4 : Vec F S1x2048 .f32) : IVec S1024x128 32 :=
  k0_pay36 (k0_pay18 x1 x2 x3 x4) (k0_pay19 x1 x2 x3 x4) (k0_pay20 x1 x2 x3 x4) (k0_pay21 x1 x2 x3 x4) (k0_pay22 x1 x2 x3 x4)
    (k0_pay23 x1 x2 x3 x4) (k0_pay24 x1 x2 x3 x4) (k0_pay25 x1 x2 x3 x4) (k0_pay26 x1 x2 x3 x4) (k0_pay27 x1 x2 x3 x4)
    (k0_pay28 x1 x2 x3 x4) (k0_pay29 x1 x2 x3 x4) (k0_pay30 x1 x2 x3 x4)
    (k0_pay31 x1 x2 x3 x4) (k0_pay32 x1 x2 x3 x4) (k0_pay33 x1 x2 x3 x4) (k0_pay34 x1 x2 x3 x4)

/-- The lane minima the point starts from: all `+∞` at the first point, else what it found. -/
def cmin0 (i : grid0.Coords) (X5 : Vec F S1024x128 .f32) : Vec F S1024x128 .f32 :=
  if first i = 1#1 then k0_pay12 else X5

/-- The indices the point starts from. -/
def cidx0 (i : grid0.Coords) (X6 : Vec F S1024x128 .i32) : Vec F S1024x128 .i32 :=
  if first i = 1#1 then k0_pay13 else X6

/-- The lane minima the point leaves. -/
def cminN (i : grid0.Coords) (x1 : Vec F S1024x128 .bf16) (x2 : Vec F S2048x128 .bf16) (x3 : Vec F S1024x1 .f32) (x4 : Vec F S1x2048 .f32)
    (X5 : Vec F S1024x128 .f32) : Vec F S1024x128 .f32 :=
  k0_pay3 (bmin x1 x2 x3 x4) (cmin0 i X5) (cmin0 i X5)

/-- The indices the point leaves. -/
def cidxN (i : grid0.Coords) (x1 : Vec F S1024x128 .bf16) (x2 : Vec F S2048x128 .bf16) (x3 : Vec F S1024x1 .f32) (x4 : Vec F S1x2048 .f32)
    (X5 : Vec F S1024x128 .f32) (X6 : Vec F S1024x128 .i32) : Vec F S1024x128 .i32 :=
  k0_pay2 (BitVec.ofNat 32 (i 0).val) (k0_pay15 x1 x2 x3 x4) (k0_pay16 x1 x2 x3 x4) (bmin x1 x2 x3 x4) (barg x1 x2 x3 x4)
    (k0_pay37 (k0_pay17 x1 x2 x3 x4) (k0_pay31 x1 x2 x3 x4) (k0_pay32 x1 x2 x3 x4) (k0_pay33 x1 x2 x3 x4) (k0_pay34 x1 x2 x3 x4))
    k0_pay38 (cmin0 i X5) (cidx0 i X6)

/-- The lane numbers. -/
def lanes : IVec S1024x128 32 := iota .tc S1024x128 32 [1] iota_S1024x128_d1_w32

/-- The sixteenth round's minimum of the lane minima `w`. -/
def thrOf (w : Vec F S1024x128 .f32) : Vec F S1024x1 .f32 :=
  let a := k0_pay5 lanes w
  let b := k0_pay6 lanes w
  let a2 := k0_pay7 lanes a b
  let b2 := k0_pay8 lanes a b
  let a3 := k0_pay9 lanes a2 b2
  k0_pay4 (k0_pay10 lanes a3) (k0_pay11 lanes a3)

/-- The threshold column the point leaves: written at the last point only. -/
def thrN (i : grid0.Coords) (w : Vec F S1024x128 .f32) (X7 : Vec F S1024x1 .f32) : Vec F S1024x1 .f32 :=
  if k0_cond2 i = 1#1 then thrOf w else X7

/-- The body of pass A at one grid point: the four inputs as found, the lane minima, their indices and the
    threshold column as the functions above say. -/
theorem run (c : Dev nD) (i : grid0.Coords)
    (M1 : Memref sig .tc .vmem S1024x128 .bf16) (h1 : M1.IsWhole) (M2 : Memref sig .tc .vmem S2048x128 .bf16) (h2 : M2.IsWhole)
    (M3 : Memref sig .tc .vmem S1024x1 .f32) (h3 : M3.IsWhole) (M4 : Memref sig .tc .vmem S1x2048 .f32) (h4 : M4.IsWhole)
    (M5 : Memref sig .tc .vmem S1024x128 .f32) (h5 : M5.IsWhole) (M6 : Memref sig .tc .vmem S1024x128 .i32) (h6 : M6.IsWhole)
    (M7 : Memref sig .tc .vmem S1024x1 .f32) (h7 : M7.IsWhole)
    (X1 : Vec F S1024x128 .bf16) (X2 : Vec F S2048x128 .bf16) (X3 : Vec F S1024x1 .f32) (X4 : Vec F S1x2048 .f32)
    (X5 : Vec F S1024x128 .f32) (X6 : Vec F S1024x128 .i32) (X7 : Vec F S1024x1 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare (cminN i X1 X2 X3 X4 X5)
            ∗ owns (c : Thread nD τ) M6 fullShare (cidxN i X1 X2 X3 X4 X5 X6)
            ∗ owns (c : Thread nD τ) M7 fullShare (thrN i (cminN i X1 X2 X3 X4 X5) X7)) -∗ Q ⟨⟩))
      ⊢ wp frame (wpE (defs₀ (F := F)) Variants.none c none) E (cc0__pass_a_body i M1 h1 M2 h2 M3 h3 M4 h4 M5 h5 M6 h6 M7 h7) Q := by
  simp only [cc0__pass_a_body_eq_skeleton]; unfold cc0__pass_a_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  by_cases hc1 : first i = 1#1 <;> by_cases hc2 : k0_cond2 i = 1#1
  all_goals
    sl_exec (disch := first | exact hc1 | exact hc2)
    sl_step
    iapply Hk
    isplitl [H1]; · iexists _; isplitr; swap; (· iexact H1); ipureintro; exact e1
    isplitl [H2]; · iexists _; isplitr; swap; (· iexact H2); ipureintro; exact e2
    isplitl [H3]; · iexists _; isplitr; swap; (· iexact H3); ipureintro; exact e3
    isplitl [H4]; · iexists _; isplitr; swap; (· iexact H4); ipureintro; exact e4
    subst e1 e2 e3 e4 e5 e6 e7
    isplitl [H5]
    · iexists _; isplitr; swap; (· iexact H5); ipureintro
      sl_unfold_words
      rw [View.read_writes_full]
      simp only [View.readAt_eq_ld, View.ld_unit_zero (S := S1024x128) hz, View.ld_unit_zero (S := S2048x128) hz, View.ld_unit_zero (S := S1024x1) hz,
        View.ld_unit_zero (S := S1x2048) hz, readCov_last (S := S1024x128) _ hz, cminN, cmin0, hc1, if_true, if_false]
      rfl
    isplitl [H6]
    · iexists _; isplitr; swap; (· iexact H6); ipureintro
      sl_unfold_words
      rw [View.read_writes_full]
      simp only [View.readAt_eq_ld, View.ld_unit_zero (S := S1024x128) hz, View.ld_unit_zero (S := S2048x128) hz, View.ld_unit_zero (S := S1024x1) hz,
        View.ld_unit_zero (S := S1x2048) hz, readCov_last (S := S1024x128) _ hz, cidxN, cidx0, cmin0, hc1, if_true, if_false]
      rfl
    iexists _; isplitr; swap; (· iexact H7); ipureintro
    sl_unfold_words
    first
      | rw [View.read_writes_full]
      | skip
    simp only [View.readAt_eq_ld, View.ld_unit_zero (S := S1024x128) hz, View.ld_unit_zero (S := S2048x128) hz, View.ld_unit_zero (S := S1024x1) hz,
        View.ld_unit_zero (S := S1x2048) hz, readCov_last (S := S1024x128) _ hz, thrN, cminN, cmin0, hc1, hc2, if_true, if_false]
    try rfl

end Cert.Proof.PassA

end
-- ==== Proof.RegionA.lean ====
/-
  Pass A's pipeline: what its windows hold at every grid point, as a function of the buffers it is entered with.
-/
module

public import proofs.«01_k».proof.Proof.PassA
public import proofs.«01_k».proof.Proof.Gen.KernelIdeal.Points
public import proofs.«01_k».proof.Proof.Gen.KernelIdeal.Launch
public import Idealize.ShloMosaic.Lib.Pipeline.FrameBody

@[expose] public section

noncomputable section

namespace Cert.Proof.RegionA

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → Valuation τ sig (Elt F)) (c : Dev nD)

/-- The queries as the point's fetch stages them. -/
def qIn (t : Fin cfg0.N) : Vec F S1024x128 .bf16 := ((cfg0.win 0).blk t).view.read (Elt F) (V c (Pipeline.arrRef spec0 0))
/-- The point's block of keys. -/
def kIn (t : Fin cfg0.N) : Vec F S2048x128 .bf16 := ((cfg0.win 1).blk t).view.read (Elt F) (V c (Pipeline.arrRef spec0 1))
/-- The queries' squared norms. -/
def qqIn (t : Fin cfg0.N) : Vec F S1024x1 .f32 := ((cfg0.win 2).blk t).view.read (Elt F) (V c (Pipeline.arrRef spec0 2))
/-- The point's block of the keys' squared norms. -/
def kkIn (t : Fin cfg0.N) : Vec F S1x2048 .f32 := ((cfg0.win 3).blk t).view.read (Elt F) (V c (Pipeline.arrRef spec0 3))

/-- One point's step on the lane minima and their indices. -/
def step (t : Fin cfg0.N) (s : Vec F S1024x128 .f32 × Vec F S1024x128 .i32) : Vec F S1024x128 .f32 × Vec F S1024x128 .i32 :=
  (PassA.cminN (grid0.coords t) (qIn V c t) (kIn V c t) (qqIn V c t) (kkIn V c t) s.1,
    PassA.cidxN (grid0.coords t) (qIn V c t) (kIn V c t) (qqIn V c t) (kkIn V c t) s.1 s.2)

/-- The lane minima and their indices before point `n`. -/
def state : ℕ → Vec F S1024x128 .f32 × Vec F S1024x128 .i32
  | 0 => (k0_pay12, k0_pay13)
  | n + 1 => if h : n < cfg0.N then step V c ⟨n, h⟩ (state n) else state n

/-- The state after a point is the point's step. -/
theorem state_succ (t : Fin cfg0.N) : state V c (t.val + 1) = step V c t (state V c t.val) := by
  rw [state, dif_pos t.isLt]

/-- At the first point nothing of what was there before is kept. -/
theorem first_iff : ∀ t : Fin cfg0.N, PassA.first (grid0.coords t) = 1#1 ↔ t.val = 0 := by decide

/-- The last point is the one that writes the threshold. -/
theorem last_iff : ∀ t : Fin cfg0.N, k0_cond2 (grid0.coords t) = 1#1 ↔ t.val = 48 := by decide

/-- The step at the first point does not read the state. -/
theorem step_first (t : Fin cfg0.N) (h : t.val = 0) (s s' : Vec F S1024x128 .f32 × Vec F S1024x128 .i32) : step V c t s = step V c t s' := by
  have e := (first_iff t).mpr h
  unfold step PassA.cminN PassA.cidxN PassA.cmin0 PassA.cidx0
  simp only [if_pos e]

/-- The proof data: the arrays as entered, the four inputs as fetched, the lane minima and indices by the state, the
    threshold written at the last point. -/
def dat : Dat τ (Elt F) Unit ℕ (UR sig nD τ) ℕ cfg0 c where
  A w := V c (Pipeline.arrRef spec0 w)
  after w t := match w with
    | ⟨0, _⟩ => qIn V c t
    | ⟨1, _⟩ => kIn V c t
    | ⟨2, _⟩ => qqIn V c t
    | ⟨3, _⟩ => kkIn V c t
    | ⟨4, _⟩ => (state V c (t.val + 1)).1
    | ⟨5, _⟩ => (state V c (t.val + 1)).2
    | ⟨6, _⟩ => PassA.thrOf (state V c (t.val + 1)).1
  Φ _ := Pipeline.scopedRest (Ix := Unit) (Name := ℕ) (U := UR sig nD τ) (Lvl := ℕ) (Val := Elt F) spec0 c
  q _ := fullShare
  owed _ := 0

/-- The queries' window holds the queries at every point. -/
theorem before_0 (t : Fin cfg0.N) (d) : (dat V c).before 0 t d = qIn V c t :=
  ((dat V c).before_in_eq_fetched 0 rfl (fun _ => rfl) (fun _ _ _ => rfl) (fun t => by dsimp only [dat]; rfl) t d).trans rfl
/-- The keys' window holds the point's block. -/
theorem before_1 (t : Fin cfg0.N) (d) : (dat V c).before 1 t d = kIn V c t :=
  ((dat V c).before_in_eq_fetched 1 rfl (fun _ => rfl) (fun _ _ _ => rfl) (fun t => by dsimp only [dat]; rfl) t d).trans rfl
/-- The queries' norms at every point. -/
theorem before_2 (t : Fin cfg0.N) (d) : (dat V c).before 2 t d = qqIn V c t :=
  ((dat V c).before_in_eq_fetched 2 rfl (fun _ => rfl) (fun _ _ _ => rfl) (fun t => by dsimp only [dat]; rfl) t d).trans rfl
/-- The keys' norms' window holds the point's block. -/
theorem before_3 (t : Fin cfg0.N) (d) : (dat V c).before 3 t d = kkIn V c t :=
  ((dat V c).before_in_eq_fetched 3 rfl (fun _ => rfl) (fun _ _ _ => rfl) (fun t => by dsimp only [dat]; rfl) t d).trans rfl

/-- After the first point the lane minima's window holds the state. -/
theorem before_4 (t : Fin cfg0.N) (h : t.val ≠ 0) (d) : (dat V c).before 4 t d = (state V c t.val).1 := by
  rw [(dat V c).before_of_pos 4 t h rfl d]
  have hN : t.val < 49 := N_0 ▸ t.isLt
  rw [if_neg (fun e => by have := (flush0_4 _).mp e; dsimp only at this; omega)]
  have e : t.val - 1 + 1 = t.val := by omega
  exact congrArg (fun n => (state V c n).1) e

/-- After the first point the indices' window holds the state. -/
theorem before_5 (t : Fin cfg0.N) (h : t.val ≠ 0) (d) : (dat V c).before 5 t d = (state V c t.val).2 := by
  rw [(dat V c).before_of_pos 5 t h rfl d]
  have hN : t.val < 49 := N_0 ▸ t.isLt
  rw [if_neg (fun e => by have := (flush0_5 _).mp e; dsimp only at this; omega)]
  have e : t.val - 1 + 1 = t.val := by omega
  exact congrArg (fun n => (state V c n).2) e

/-- What the step makes of what the two windows hold is the next state. -/
theorem step_before (t : Fin cfg0.N) (d4 : Vec F S1024x128 .f32) (d5 : Vec F S1024x128 .i32) :
    step V c t ((dat V c).before 4 t d4, (dat V c).before 5 t d5) = state V c (t.val + 1) := by
  rw [state_succ]
  by_cases h : t.val = 0
  · exact step_first V c t h _ _
  · rw [before_4 V c t h, before_5 V c t h]

/-- The threshold's window is left as found but at the last point. -/
theorem idle_6 (t : Fin cfg0.N) (h : ¬ t.val = 48) : cfg0.idle 6 (cfg0.grid.coords t) = true := by
  have := fun e => h ((last_iff t).mp e)
  show (!(k0_cond2 (grid0.coords t) == 1#1)) = true
  rw [beq_eq_false_iff_ne.mpr this]; rfl

/-- At the last point it is written. -/
theorem live_6 (t : Fin cfg0.N) (h : t.val = 48) : cfg0.idle 6 (cfg0.grid.coords t) = false := by
  show (!(k0_cond2 (grid0.coords t) == 1#1)) = false
  rw [(last_iff t).mpr h]; rfl

/-- The body table's row for pass A. -/
theorem defs₀_row (t : Fin cfg0.N) : defs₀ (F := F) .tc cfg0.body (cfg0.bodyArgs t (cfg0.slots t)) = bodyAt0 t := by
  unfold defs₀; rw [Defs.onTc_tc]

/-- What the body leaves of a window the point writes. -/
theorem leavesExact_live {cfg : Pipeline.Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

/-- The threshold's window as the body leaves it. -/
theorem thr_left (t : Fin cfg0.N) (d6 : Vec F S1024x1 .f32) :
    owns (c : Thread nD τ) (st0_6 t) fullShare (PassA.thrN (grid0.coords t) (state V c (t.val + 1)).1 ((dat V c).before 6 t d6))
      ⊢ ((dat V c).leavesExact 6 t : sProp 𝕄) := by
  by_cases h : t.val = 48
  · rw [leavesExact_live (dat V c) 6 t (live_6 t h)]
    unfold PassA.thrN; rw [if_pos ((last_iff t).mpr h)]
    dsimp only [dat]
    exact .rfl
  · have hN : t.val < 49 := N_0 ▸ t.isLt
    rw [(dat V c).leavesExact_idle 6 t (idle_6 t h) (by rw [Bool.eq_false_iff]; intro e; have := (flush0_6 t).mp e; omega)]
    unfold PassA.thrN; rw [if_neg (fun e => h ((last_iff t).mp e))]
    iintro H; iexists d6; iexact H

set_option maxHeartbeats 800000 in
/-- The body at every point. -/
theorem body_obligation : BodyObligation (dat V c) (defs₀ (F := F)) Variants.none () Set.univ := fun t => by
  rw [bigSep_W0, bigSep_W0, defs₀_row]
  rw [show (dat V c).Φ t.castSucc = (dat V c).Φ t.succ from rfl, show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before_0, before_1, before_2, before_3]
  iapply (PassA.run c (grid0.coords t) (st0_0 t) _ (st0_1 t) _ (st0_2 t) _ (st0_3 t) _ (st0_4 t) _ (st0_5 t) _ (st0_6 t) _
    (qIn V c t) (kIn V c t) (qqIn V c t) (kkIn V c t) ((dat V c).before 4 t d4) ((dat V c).before 5 t d5) ((dat V c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  have e4 : PassA.cminN (grid0.coords t) (qIn V c t) (kIn V c t) (qqIn V c t) (kkIn V c t) ((dat V c).before 4 t d4) = (state V c (t.val + 1)).1 :=
    congrArg Prod.fst (step_before V c t d4 d5)
  have e5 : PassA.cidxN (grid0.coords t) (qIn V c t) (kIn V c t) (qqIn V c t) (kkIn V c t) ((dat V c).before 4 t d4) ((dat V c).before 5 t d5) = (state V c (t.val + 1)).2 :=
    congrArg Prod.snd (step_before V c t d4 d5)
  rw [e4, e5]
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iapply (thr_left V c t d6)
  iexact H6

end Cert.Proof.RegionA

end
-- ==== Proof.PassBLoops.lean ====
/-
  Pass B (the second pipeline), its counted loops: what one trip computes, and the loops as iterates of it.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.LoopEntry
public import Idealize.ShloMosaic.Lib.LoopRemainder
public import Idealize.ShloMosaic.Lib.VecWindow
public import Idealize.ShloMosaic.Lib.WritesUnit
public import Idealize.ShloMosaic.Lib.Pipeline.Value

@[expose] public section

noncomputable section

namespace Cert.Proof.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The all-zero offset. -/
theorem hz : (![0, 0] : Fin 2 → Nat) = fun _ => 0 := funext fun a => by fin_cases a <;> rfl

/-- The lane numbers of the extras' buffer. -/
def io64 : IVec S1024x64 32 := iota .tc S1024x64 32 [1] iota_S1024x64_d1_w32

/-- The lane numbers of a slice. -/
def io128 : IVec S1024x128 32 := iota .tc S1024x128 32 [1] iota_S1024x128_d1_w32

/-- What the fast loop carries and keeps: the remaining flagged minima of the lanes, the extras' values and indices,
    and how many extras there are. -/
abbrev Fast (F : FTy → Type) : Type := Vec F S1024x128 .f32 × Vec F S1024x64 .f32 × Vec F S1024x64 .i32 × Vec F S1024x1 .i32

/-- One trip of the fast loop: the least remaining flagged minimum appended to the extras, and struck out. -/
def fastStep (fidx : IVec S1024x128 32) (s : Fast F) : Fast F :=
  (k1_pay8 fidx s.1, k1_pay5 io64 s.1 s.2.2.2 s.2.1, k1_pay6 fidx io64 s.1 s.2.2.2 s.2.2.1, k1_pay7 s.1 s.2.2.2)

/-- The slices of the slow loop's buffer lie inside it. -/
theorem inbS (g : Fin 16) : ∀ a, (![0, 128 * g.val] : Fin 2 → Nat) a + S1024x128.size a ≤ S1024x2048.size a := by
  intro a; have := g.isLt; fin_cases a
  · exact Nat.le_refl 1024
  · show 128 * g.val + 128 ≤ 2048; omega

/-- Slice `g` of a block of 2048 columns: columns `128 g` to `128 g + 127`. -/
def slice (X : Vec F S1024x2048 .f32) (g : Fin 16) : Vec F S1024x128 .f32 :=
  fun y => X ((Rect.unit (s := S1024x2048) ![0, 128 * g.val] S1024x128.size (inbS g)).emb y)

/-- What the slow loop keeps: the remaining flagged values of the block by slices, the extras' values and indices, and
    how many extras there are. -/
abbrev Slow (F : FTy → Type) : Type := (Fin 16 → Vec F S1024x128 .f32) × Vec F S1024x64 .f32 × Vec F S1024x64 .i32 × Vec F S1024x1 .i32

/-- The first partial minima of the sixteen slices, in the order the slow loop takes them. -/
def part28 (w : Fin 16 → Vec F S1024x128 .f32) : FVec F S1024x128 .f32 := k1_pay28 (w 12) (w 13)
def part29 (w : Fin 16 → Vec F S1024x128 .f32) : FVec F S1024x128 .f32 := k1_pay29 (w 14) (w 15)
def part30 (w : Fin 16 → Vec F S1024x128 .f32) : FVec F S1024x128 .f32 := k1_pay30 (w 0) (w 1) (w 2) (w 3)
def part31 (w : Fin 16 → Vec F S1024x128 .f32) : FVec F S1024x128 .f32 := k1_pay31 (w 4) (w 5) (w 6) (w 7)
def part32 (w : Fin 16 → Vec F S1024x128 .f32) : FVec F S1024x128 .f32 := k1_pay32 (w 8) (w 9) (w 10) (w 11)

/-- The lane minima of the sixteen slices. -/
def slowMin (w : Fin 16 → Vec F S1024x128 .f32) : FVec F S1024x128 .f32 := k1_pay33 (part28 w) (part29 w) (part30 w) (part31 w) (part32 w)
/-- The least remaining value of each row. -/
def slowRow (w : Fin 16 → Vec F S1024x128 .f32) : FVec F S1024x1 .f32 := k1_pay34 (part28 w) (part29 w) (part30 w) (part31 w) (part32 w)
/-- Whether anything remains in the row. -/
def slowOk (w : Fin 16 → Vec F S1024x128 .f32) : IVec S1024x1 1 := k1_pay35 (part28 w) (part29 w) (part30 w) (part31 w) (part32 w)
/-- The least slice from the fifth on attaining the lane minimum. -/
def slowArg (w : Fin 16 → Vec F S1024x128 .f32) : IVec S1024x128 32 :=
  k1_pay36 (w 4) (w 5) (w 6) (w 7) (w 8) (w 9) (w 10) (w 11) (w 12) (w 13) (w 14) (w 15) (part28 w) (part29 w) (part30 w) (part31 w) (part32 w)
/-- The least index attaining the row's least remaining value. -/
def slowIdx (j : BitVec 32) (w : Fin 16 → Vec F S1024x128 .f32) : IVec S1024x1 32 :=
  k1_pay37 j io128 (w 0) (w 1) (w 2) (w 3) (slowMin w) (slowRow w) (slowArg w)

/-- The slices with the element taken struck out. -/
def slowStrike (j : BitVec 32) (w : Fin 16 → Vec F S1024x128 .f32) : Fin 16 → Vec F S1024x128 .f32 :=
  ![k1_pay43 j io128 (w 0) (slowIdx j w), k1_pay44 j io128 (w 1) (slowIdx j w), k1_pay46 (k1_pay45 j io128 (w 2) (slowIdx j w)),
    k1_pay47 j io128 (w 3) (slowIdx j w), k1_pay48 j io128 (w 4) (slowIdx j w), k1_pay49 j io128 (w 5) (slowIdx j w),
    k1_pay52 (w 6) (k1_pay50 j io128) (k1_pay51 (slowIdx j w)), k1_pay53 j io128 (w 7) (slowIdx j w), k1_pay54 j io128 (w 8) (slowIdx j w),
    k1_pay55 j io128 (w 9) (slowIdx j w), k1_pay56 j io128 (w 10) (slowIdx j w), k1_pay57 j io128 (w 11) (slowIdx j w),
    k1_pay58 j io128 (w 12) (slowIdx j w), k1_pay18 (w 13) (k1_pay59 j io128 (slowIdx j w)), k1_pay19 j io128 (w 14) (slowIdx j w),
    k1_pay20 j io128 (w 15) (slowIdx j w)]

/-- One trip of the slow loop: the least remaining flagged value appended to the extras, and struck out. -/
def slowStep (j : BitVec 32) (s : Slow F) : Slow F :=
  (slowStrike j s.1, k1_pay39 io64 (slowRow s.1) (slowOk s.1) s.2.2.2 s.2.1,
    k1_pay41 (k1_pay40 j io128 io64 (s.1 0) (s.1 1) (s.1 2) (s.1 3) (slowMin s.1) (slowRow s.1) (slowOk s.1) (slowArg s.1) s.2.2.2 s.2.2.1),
    k1_pay42 (slowOk s.1) s.2.2.2)

/-- A column before a slice is not read from the slice's store. -/
theorem read_skip {κ : Kind} {sp : Space} (v : View sig κ sp S1024x2048 .f32) (f : v.ty.Contents (Elt F)) (o : Nat)
    (inb : ∀ a, (![0, o] : Fin 2 → Nat) a + S1024x128.size a ≤ S1024x2048.size a) (w : Vec F S1024x128 .f32)
    (L : List (View.Piece (Elt F) S1024x2048 .f32)) (Y : S1024x2048.Idx) (h : (Y 1).val < o) :
    v.read (Elt F) (v.writes (Elt F) f (⟨Rect.unit (s := S1024x2048) ![0, o] S1024x128.size inb, w⟩ :: L)) Y
      = v.read (Elt F) (v.writes (Elt F) f L) Y :=
  View.read_writes_cons_unit_of_not_mem v f inb w L Y rfl 1 (Or.inl h)

/-- A column of a slice is read from the slice's store. -/
theorem read_hit {κ : Kind} {sp : Space} (v : View sig κ sp S1024x2048 .f32) (f : v.ty.Contents (Elt F)) (o : Nat)
    (inb : ∀ a, (![0, o] : Fin 2 → Nat) a + S1024x128.size a ≤ S1024x2048.size a) (w : Vec F S1024x128 .f32)
    (L : List (View.Piece (Elt F) S1024x2048 .f32)) (Y : S1024x2048.Idx) (y : S1024x128.Idx) (h0 : (Y 0).val = (y 0).val)
    (h1 : (Y 1).val = o + (y 1).val) :
    v.read (Elt F) (v.writes (Elt F) f (⟨Rect.unit (s := S1024x2048) ![0, o] S1024x128.size inb, w⟩ :: L)) Y = w y :=
  View.read_writes_cons_unit_of_mem v f inb w L Y y rfl fun a => by
    fin_cases a
    · exact h0.trans (Nat.zero_add _).symm
    · exact h1

/-- A load of 128 columns of the buffer is a slice. -/
theorem readAt_slice {κ : Kind} {sp : Space} (v : View sig κ sp S1024x2048 .f32) (f : v.ty.Contents (Elt F)) (o : Nat) (g : Fin 16) (h : o = 128 * g.val)
    (inb : ∀ a, (![0, o] : Fin 2 → Nat) a + S1024x128.size a ≤ S1024x2048.size a) :
    v.readAt (Elt F) (Rect.unit (s := S1024x2048) ![0, o] S1024x128.size inb).toLoadRect f = slice (v.read (Elt F) f) g := by
  subst h
  rfl

set_option maxHeartbeats 4000000 in
/-- Sixteen stores, one per slice, leave each slice at its payload. -/
theorem slices_writes {κ : Kind} {sp : Space} (v : View sig κ sp S1024x2048 .f32) (f : v.ty.Contents (Elt F)) (p : Fin 16 → Vec F S1024x128 .f32) (g : Fin 16) :
    slice (v.read (Elt F) (v.writes (Elt F) f
      [⟨Rect.unit (s := S1024x2048) ![0, 1920] S1024x128.size inb_S1024x2048_S1024x128_0_1920, p 15⟩,
       ⟨Rect.unit (s := S1024x2048) ![0, 1792] S1024x128.size inb_S1024x2048_S1024x128_0_1792, p 14⟩,
       ⟨Rect.unit (s := S1024x2048) ![0, 1664] S1024x128.size inb_S1024x2048_S1024x128_0_1664, p 13⟩,
       ⟨Rect.unit (s := S1024x2048) ![0, 1536] S1024x128.size inb_S1024x2048_S1024x128_0_1536, p 12⟩,
       ⟨Rect.unit (s := S1024x2048) ![0, 1408] S1024x128.size inb_S1024x2048_S1024x128_0_1408, p 11⟩,
       ⟨Rect.unit (s := S1024x2048) ![0, 1280] S1024x128.size inb_S1024x2048_S1024x128_0_1280, p 10⟩,
       ⟨Rect.unit (s := S1024x2048) ![0, 1152] S1024x128.size inb_S1024x2048_S1024x128_0_1152, p 9⟩,
       ⟨Rect.unit (s := S1024x2048) ![0, 1024] S1024x128.size inb_S1024x2048_S1024x128_0_1024, p 8⟩,
       ⟨Rect.unit (s := S1024x2048) ![0, 896] S1024x128.size inb_S1024x2048_S1024x128_0_896, p 7⟩,
       ⟨Rect.unit (s := S1024x2048) ![0, 768] S1024x128.size inb_S1024x2048_S1024x128_0_768, p 6⟩,
       ⟨Rect.unit (s := S1024x2048) ![0, 640] S1024x128.size inb_S1024x2048_S1024x128_0_640, p 5⟩,
       ⟨Rect.unit (s := S1024x2048) ![0, 512] S1024x128.size inb_S1024x2048_S1024x128_0_512, p 4⟩,
       ⟨Rect.unit (s := S1024x2048) ![0, 384] S1024x128.size inb_S1024x2048_S1024x128_0_384, p 3⟩,
       ⟨Rect.unit (s := S1024x2048) ![0, 256] S1024x128.size inb_S1024x2048_S1024x128_0_256, p 2⟩,
       ⟨Rect.unit (s := S1024x2048) ![0, 128] S1024x128.size inb_S1024x2048_S1024x128_0_128, p 1⟩,
       ⟨Rect.unit (s := S1024x2048) ![0, 0] S1024x128.size inb_S1024x2048_S1024x128_0_0, p 0⟩])) g = p g := by
  funext y
  have hy : (y 1).val < 128 := (y 1).isLt
  have e0 : ((Rect.unit (s := S1024x2048) ![0, 128 * g.val] S1024x128.size (inbS g)).emb y 0).val = (y 0).val := by
    show 0 + 1 * (y 0).val = _; omega
  have e1 : ((Rect.unit (s := S1024x2048) ![0, 128 * g.val] S1024x128.size (inbS g)).emb y 1).val = 128 * g.val + (y 1).val := by
    show 128 * g.val + 1 * (y 1).val = _; omega
  have e2 : ((Rect.unit (s := S1024x2048) ![0, 128 * g.val] S1024x128.size (inbS g)).emb y 1).val < 128 * g.val + 128 := by omega
  unfold slice
  fin_cases g
  all_goals
    repeat
      first
      | refine (read_skip v f _ _ _ _ _ (lt_of_lt_of_le e2 (by decide))).trans ?_
      | exact read_hit v f _ _ _ _ _ y e0 e1

section Trips

variable (c : Dev nD) (i : grid1.Coords)
  (M1 : Memref sig .tc .vmem S1024x128 .bf16) (h1 : M1.IsWhole) (M2 : Memref sig .tc .vmem S2048x128 .bf16) (h2 : M2.IsWhole)
  (M3 : Memref sig .tc .vmem S1024x1 .f32) (h3 : M3.IsWhole) (M4 : Memref sig .tc .vmem S1x2048 .f32) (h4 : M4.IsWhole)
  (M5 : Memref sig .tc .vmem S1024x128 .f32) (h5 : M5.IsWhole) (M6 : Memref sig .tc .vmem S1024x128 .i32) (h6 : M6.IsWhole)
  (M7 : Memref sig .tc .vmem S1024x1 .f32) (h7 : M7.IsWhole) (M8 : Memref sig .tc .vmem S1024x16 .f32) (h8 : M8.IsWhole)
  (M9 : Memref sig .tc .vmem S1024x16 .i32) (h9 : M9.IsWhole) (M10 : Memref sig .tc .vmem S1024x64 .f32) (h10 : M10.IsWhole)
  (M11 : Memref sig .tc .vmem S1024x64 .i32) (h11 : M11.IsWhole) (M12 : Memref sig .tc .vmem S1024x1 .i32) (h12 : M12.IsWhole)
  (M13 : Memref sig .tc .vmem S1024x2048 .f32) (h13 : M13.IsWhole)

/-- The extras' three buffers at given contents. -/
abbrev extras (ev : Vec F S1024x64 .f32) (ei : Vec F S1024x64 .i32) (pc : Vec F S1024x1 .i32) : sProp 𝕄 :=
  iprop(owns (c : Thread nD τ) M10 fullShare ev ∗ owns (c : Thread nD τ) M11 fullShare ei ∗ owns (c : Thread nD τ) M12 fullShare pc)

/-- One trip of the first fast loop is one step. -/
theorem trip1 (fidx : IVec S1024x128 32) (v : BitVec 32) (hw : k1_chk1 v) (k : Fin (k1_t1_loop v).trips) (s : Fast F) (E : Set ℕ) :
    extras c M10 M11 M12 s.2.1 s.2.2.1 s.2.2.2
      ⊢ wp frame (wpE (defs₀ (F := F)) Variants.none c none) E
          (k1_t1_body i M1 h1 M2 h2 M3 h3 M4 h4 M5 h5 M6 h6 M7 h7 M8 h8 M9 h9 M10 h10 M11 h11 M12 h12 M13 h13 fidx v hw io64 k s.1)
          (fun r => iprop(⌜r = (fastStep fidx s).1⌝ ∗ extras c M10 M11 M12 (fastStep fidx s).2.1 (fastStep fidx s).2.2.1 (fastStep fidx s).2.2.2)) := by
  obtain ⟨fm, ev, ei, pc⟩ := s
  unfold k1_t1_body
  unfold extras owns
  iintro ⟨⟨%f1, %e1, H1⟩, ⟨%f2, %e2, H2⟩, ⟨%f3, %e3, H3⟩⟩
  sl_exec
  sl_step
  dsimp only at e1 e2 e3
  subst e1 e2 e3
  isplitr; · ipureintro; sl_unfold_words; dsimp only [fastStep]
  isplitl [H1]
  · iexists _; isplitr; swap; (· iexact H1); ipureintro
    sl_unfold_words
    rw [View.read_writes_full]
    simp only [View.readAt_eq_ld, View.ld_unit_zero (S := S1024x64) hz, View.ld_unit_zero (S := S1024x1) hz]
    rfl
  isplitl [H2]
  · iexists _; isplitr; swap; (· iexact H2); ipureintro
    sl_unfold_words
    rw [View.read_writes_full]
    simp only [View.readAt_eq_ld, View.ld_unit_zero (S := S1024x64) hz, View.ld_unit_zero (S := S1024x1) hz]
    rfl
  iexists _; isplitr; swap; (· iexact H3); ipureintro
  sl_unfold_words
  rw [View.read_writes_full]
  simp only [View.readAt_eq_ld, View.ld_unit_zero (S := S1024x64) hz, View.ld_unit_zero (S := S1024x1) hz]
  rfl

/-- The first fast loop runs the step as often as it has trips. -/
theorem loop1 (fidx : IVec S1024x128 32) (v : BitVec 32) (hw : k1_chk1 v) (s S : Fast F) (hS : (fastStep fidx)^[(k1_t1_loop v).trips] s = S) (E : Set ℕ)
    {β : Type} (kk : FVec F S1024x128 .f32 → Prog (TpuEff nD τ sig (Elt F) Λ₀ .tc) β) (Q : β → sProp 𝕄) :
    iprop(extras c M10 M11 M12 s.2.1 s.2.2.1 s.2.2.2
        ∗ (extras c M10 M11 M12 S.2.1 S.2.2.1
              S.2.2.2
            -∗ wp frame (wpE (defs₀ (F := F)) Variants.none c none) E (kk S.1) Q))
      ⊢ wp frame (wpE (defs₀ (F := F)) Variants.none c none) E
          (Scf.Loop.for (k1_t1_loop v) (k1_t1_ok v hw) s.1
            (k1_t1_body i M1 h1 M2 h2 M3 h3 M4 h4 M5 h5 M6 h6 M7 h7 M8 h8 M9 h9 M10 h10 M11 h11 M12 h12 M13 h13 fidx v hw io64) >>= kk) Q := by
  subst hS
  iintro ⟨H, HK⟩
  iapply (Scf.wp_for_bind frame (wpE (defs₀ (F := F)) Variants.none c none) E _ _ _ _ _ _
    (fun n r => iprop(⌜r = ((fastStep fidx)^[n] s).1⌝ ∗ extras c M10 M11 M12 ((fastStep fidx)^[n] s).2.1 ((fastStep fidx)^[n] s).2.2.1 ((fastStep fidx)^[n] s).2.2.2))
    (fun k acc => by
      iintro ⟨%e, H⟩
      subst e
      rw [Function.iterate_succ_apply']
      iapply (trip1 c i M1 h1 M2 h2 M3 h3 M4 h4 M5 h5 M6 h6 M7 h7 M8 h8 M9 h9 M10 h10 M11 h11 M12 h12 M13 h13 fidx v hw k _ E)
      iexact H)) $$ [H]
  · isplitr; · ipureintro; rfl
    iexact H
  iintro %acc ⟨%e, H⟩
  subst e
  iapply HK; iexact H

/-- The second fast loop makes no trip. -/
theorem loop2 (fidx : IVec S1024x128 32) (v : BitVec 32) (hw : k1_chk1 v) (fm : FVec F S1024x128 .f32) :
    Scf.Loop.for (k1_t2_loop v) (k1_t2_ok v hw) fm
        (k1_t2_body (F := F) i M1 h1 M2 h2 M3 h3 M4 h4 M5 h5 M6 h6 M7 h7 M8 h8 M9 h9 M10 h10 M11 h11 M12 h12 M13 h13 fidx v hw io64) = .ret fm :=
  Scf.for_eq_ret _ _ _ _ _ _ (Nat.le_zero.mp (k1_t2_abs v).2.1)

/-- The slow loop's buffer with each slice at given contents. -/
abbrev slices (w : Fin 16 → Vec F S1024x128 .f32) : sProp 𝕄 :=
  iprop(∃ X, ⌜∀ g, slice X g = w g⌝ ∗ owns (c : Thread nD τ) M13 fullShare X)

set_option maxRecDepth 65536 in
set_option maxHeartbeats 2000000 in
/-- One trip of the first slow loop is one step. -/
theorem trip3 (j : BitVec 32) (v : BitVec 32) (hw : k1_chk2 v) (hc : k1_cond2 v = 1#1) (k : Fin (k1_t3_loop v).trips) (s : Slow F) (a : BitVec 32) (E : Set ℕ) :
    iprop(extras c M10 M11 M12 s.2.1 s.2.2.1 s.2.2.2 ∗ slices c M13 s.1)
      ⊢ wp frame (wpE (defs₀ (F := F)) Variants.none c none) E
          (k1_t3_body i M1 h1 M2 h2 M3 h3 M4 h4 M5 h5 M6 h6 M7 h7 M8 h8 M9 h9 M10 h10 M11 h11 M12 h12 M13 h13 j io128 v hw io64 hc k a)
          (fun r => iprop(⌜r = 0#32⌝ ∗ extras c M10 M11 M12 (slowStep j s).2.1 (slowStep j s).2.2.1 (slowStep j s).2.2.2 ∗ slices c M13 (slowStep j s).1)) := by
  obtain ⟨w, ev, ei, pc⟩ := s
  unfold k1_t3_body
  simp only [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel k1_part6_skel k1_part7_skel
  unfold slices extras owns
  iintro ⟨⟨⟨%f1, %e1, H1⟩, ⟨%f2, %e2, H2⟩, ⟨%f3, %e3, H3⟩⟩, ⟨%X, %hX, ⟨%f4, %e4, H4⟩⟩⟩
  sl_exec
  sl_step
  dsimp only at e1 e2 e3 hX
  subst e1 e2 e3 e4
  obtain rfl : w = slice (M13.view.read (Elt F) f4) := funext fun g => (hX g).symm
  have rs := readAt_slice M13.view f4
  sl_unfold_words
  simp only [rs 0 0 rfl, rs 128 1 rfl, rs 256 2 rfl, rs 384 3 rfl, rs 512 4 rfl, rs 640 5 rfl, rs 768 6 rfl, rs 896 7 rfl, rs 1024 8 rfl,
      rs 1152 9 rfl, rs 1280 10 rfl, rs 1408 11 rfl, rs 1536 12 rfl, rs 1664 13 rfl, rs 1792 14 rfl, rs 1920 15 rfl]
  simp only [View.readAt_eq_ld, View.ld_unit_zero (S := S1024x64) hz, View.ld_unit_zero (S := S1024x1) hz]
  isplitr; · ipureintro; exact trivial
  isplitl [H1 H2 H3]
  · isplitl [H1]
    · iexists _; isplitr; swap; (· iexact H1); ipureintro
      rw [View.read_writes_full]
      simp only [slowStep, slowStrike, slowIdx, slowMin, slowRow, slowOk, slowArg, part28, part29, part30, part31, part32]
    isplitl [H2]
    · iexists _; isplitr; swap; (· iexact H2); ipureintro
      rw [View.read_writes_full]
      simp only [slowStep, slowStrike, slowIdx, slowMin, slowRow, slowOk, slowArg, part28, part29, part30, part31, part32]
    iexists _; isplitr; swap; (· iexact H3); ipureintro
    rw [View.read_writes_full]
    simp only [slowStep, slowStrike, slowIdx, slowMin, slowRow, slowOk, slowArg, part28, part29, part30, part31, part32]
  iexists _; isplitr; swap
  · iexists _; isplitr; swap; (· iexact H4); ipureintro; rfl
  ipureintro
  intro g
  have h := slices_writes M13.view f4 (slowStrike j (slice (M13.view.read (Elt F) f4))) g
  simp only [slowStep, slowStrike, slowIdx, slowMin, slowRow, slowOk, slowArg, part28, part29, part30, part31, part32, Matrix.cons_val] at h ⊢
  exact h

/-- The first slow loop runs the step as often as it has trips. -/
theorem loop3 (j : BitVec 32) (v : BitVec 32) (hw : k1_chk2 v) (hc : k1_cond2 v = 1#1) (s S : Slow F) (hS : (slowStep j)^[(k1_t3_loop v).trips] s = S) (E : Set ℕ)
    {β : Type} (kk : BitVec 32 → Prog (TpuEff nD τ sig (Elt F) Λ₀ .tc) β) (Q : β → sProp 𝕄) :
    iprop((extras c M10 M11 M12 s.2.1 s.2.2.1 s.2.2.2 ∗ slices c M13 s.1)
        ∗ ((extras c M10 M11 M12 S.2.1 S.2.2.1
              S.2.2.2 ∗ slices c M13 S.1)
            -∗ wp frame (wpE (defs₀ (F := F)) Variants.none c none) E (kk 0#32) Q))
      ⊢ wp frame (wpE (defs₀ (F := F)) Variants.none c none) E
          (Scf.Loop.for (k1_t3_loop v) (k1_t3_ok v hw hc) 0#32
            (k1_t3_body i M1 h1 M2 h2 M3 h3 M4 h4 M5 h5 M6 h6 M7 h7 M8 h8 M9 h9 M10 h10 M11 h11 M12 h12 M13 h13 j io128 v hw io64 hc) >>= kk) Q := by
  subst hS
  iintro ⟨H, HK⟩
  iapply (Scf.wp_for_bind frame (wpE (defs₀ (F := F)) Variants.none c none) E _ _ _ _ _ _
    (fun n r => iprop(⌜r = 0#32⌝ ∗ extras c M10 M11 M12 ((slowStep j)^[n] s).2.1 ((slowStep j)^[n] s).2.2.1 ((slowStep j)^[n] s).2.2.2
      ∗ slices c M13 ((slowStep j)^[n] s).1))
    (fun k acc => by
      iintro ⟨-, H⟩
      rw [Function.iterate_succ_apply']
      iapply (trip3 c i M1 h1 M2 h2 M3 h3 M4 h4 M5 h5 M6 h6 M7 h7 M8 h8 M9 h9 M10 h10 M11 h11 M12 h12 M13 h13 j v hw hc k _ acc E)
      iexact H)) $$ [H]
  · isplitr; · ipureintro; rfl
    iexact H
  iintro %acc ⟨%e, H⟩
  subst e
  iapply HK; iexact H

/-- The second slow loop makes no trip. -/
theorem loop4 (j : BitVec 32) (v : BitVec 32) (hw : k1_chk2 v) (hc : k1_cond2 v = 1#1) (u : BitVec 32) (a : BitVec 32) :
    Scf.Loop.for (k1_t4_loop v) (k1_t4_ok v hw hc) a
        (k1_t4_body (F := F) i M1 h1 M2 h2 M3 h3 M4 h4 M5 h5 M6 h6 M7 h7 M8 h8 M9 h9 M10 h10 M11 h11 M12 h12 M13 h13 j io128 v hw io64 hc u) = .ret a :=
  Scf.for_eq_ret _ _ _ _ _ _ (Nat.le_zero.mp (k1_t4_abs v).2.1)

end Trips

end Cert.Proof.PassB
-- ==== Proof.PassB.lean ====
/-
  Pass B (the second pipeline): what one grid point of its body computes.
-/
module

public import proofs.«01_k».proof.Proof.PassBLoops

@[expose] public section

noncomputable section

namespace Cert.Proof.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole buffer after stores, the last of them whole, reads the last payload. -/
theorem readCov_last {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  unfold View.readCov
  rw [View.readAt_eq_ld, View.read_writes_full, View.ld_unit_zero h]

/-- Whether this is the first grid point, as the body computes it. -/
def first (i : grid1.Coords) : BitVec 1 :=
  Scalar.cmpi .ne (Scalar.extui (Scalar.cmpi .eq (BitVec.ofNat 32 (i 0).val) 0#32) : BitVec 32) 0#32

/-- The grid point's number. -/
def pt (i : grid1.Coords) : BitVec 32 := BitVec.ofNat 32 (i 0).val

section Block

variable (i : grid1.Coords) (X1 : Vec F S1024x128 .bf16) (X2 : Vec F S2048x128 .bf16) (X3 : Vec F S1024x1 .f32) (X4 : Vec F S1x2048 .f32)
  (X6 : Vec F S1024x128 .i32) (X7 : Vec F S1024x1 .f32)

/-- The block's distances. -/
def dist : FVec F S1024x2048 .f32 := k1_pay161 X1 X2 X3 X4

/-- The flagged values of the sixteen slices: the distance where it is at most the threshold and not the lane's own
    minimum, `+∞` elsewhere. -/
def wv : Fin 16 → Vec F S1024x128 .f32 :=
  let j := pt i
  let d := dist X1 X2 X3 X4
  let t := k1_pay162 X7
  let ci := k1_pay163 X6
  ![k1_pay166 i X1 X2 X3 X4 X7 X6, k1_pay170 j t ci io128 (k1_pay168 X1 X2 X3 X4), k1_pay173 j d t ci io128, k1_pay176 j d t ci io128,
    k1_pay181 (k1_pay178 d) (k1_pay179 j d t ci io128) k1_pay180, k1_pay184 j d t ci io128, k1_pay187 j d t ci io128, k1_pay190 j d t ci io128,
    k1_pay196 ci (k1_pay192 d) (k1_pay193 d t) (k1_pay194 j io128), k1_pay199 j d t ci io128, k1_pay202 j d t ci io128, k1_pay205 j d t ci io128,
    k1_pay210 ci io128 (k1_pay207 d) (k1_pay208 d t) (Scalar.muli j 2048#32), k1_pay213 j d t ci io128, k1_pay216 j d t ci io128,
    k1_pay219 j d t ci io128]

/-- How many flagged values each lane holds. -/
def count : IVec S1024x128 32 :=
  let j := pt i
  let d := dist X1 X2 X3 X4
  let t := k1_pay162 X7
  let ci := k1_pay163 X6
  let a := k1_pay177 j d t ci io128 (k1_pay167 i X1 X2 X3 X4 X7 X6) (k1_pay168 X1 X2 X3 X4)
  let b := k1_pay191 j d t ci io128 a (k1_pay179 j d t ci io128)
  let e := k1_pay206 j d t ci io128 b (k1_pay193 d t) (k1_pay194 j io128)
  k1_pay220 j d t ci io128 e (k1_pay208 d t) (Scalar.muli j 2048#32)

/-- The lane minima of sixteen slices. -/
def fminOf (w : Fin 16 → Vec F S1024x128 .f32) : FVec F S1024x128 .f32 :=
  k1_pay222 (w 2) (w 3) (w 4) (w 5) (w 6) (w 7) (w 8) (w 9) (w 10) (w 11) (w 12) (w 13) (w 14) (w 15) (k1_pay221 (w 0) (w 1))

/-- The least slice attaining the lane minimum, the first five slices left out. -/
def fargOf (w : Fin 16 → Vec F S1024x128 .f32) : IVec S1024x128 32 :=
  k1_pay223 (w 2) (w 3) (w 4) (w 5) (w 6) (w 7) (w 8) (w 9) (w 10) (w 11) (w 12) (w 13) (w 14) (w 15) (k1_pay221 (w 0) (w 1))

/-- The least slice attaining the lane minimum. -/
def fsubOf (w : Fin 16 → Vec F S1024x128 .f32) : IVec S1024x128 32 :=
  k1_pay224 (w 0) (w 1) (w 2) (w 3) (w 4) (fminOf w) (fargOf w)

/-- The index of the lane minimum. -/
def fidxOf (j : BitVec 32) (w : Fin 16 → Vec F S1024x128 .f32) : IVec S1024x128 32 :=
  k1_pay225 j io128 (w 0) (w 1) (w 2) (w 3) (w 4) (fminOf w) (fargOf w)

/-- The trips of the fast loop: the most lanes any row has with a flagged value. -/
def nmaxOf (w : Fin 16 → Vec F S1024x128 .f32) : BitVec 32 := extractAt ![0, 0, 0] (k1_pay227 (fminOf w)) inpos_S1x1x1_p0_0_0

/-- The trips of the slow loop: the most flagged values any row has beyond its lane minima. -/
def nresOf (cl : IVec S1024x128 32) (w : Fin 16 → Vec F S1024x128 .f32) : BitVec 32 :=
  extractAt ![0, 0, 0] (k1_pay228 cl (fminOf w)) inpos_S1x1x1_p0_0_0

/-- The flagged values with the lane minima struck out. -/
def residOf (w : Fin 16 → Vec F S1024x128 .f32) : Fin 16 → Vec F S1024x128 .f32 :=
  ![k1_pay92 (w 0) (fsubOf w), k1_pay93 (w 1) (fsubOf w), k1_pay94 (w 2) (fsubOf w), k1_pay95 (w 3) (fsubOf w), k1_pay96 (w 4) (fsubOf w),
    k1_pay97 (w 5) (fsubOf w), k1_pay98 (w 6) (fsubOf w), k1_pay99 (w 7) (fsubOf w), k1_pay100 (w 8) (fsubOf w), k1_pay101 (w 9) (fsubOf w),
    k1_pay102 (w 10) (fsubOf w), k1_pay103 (w 11) (fsubOf w), k1_pay104 (w 12) (fsubOf w), k1_pay105 (w 13) (fsubOf w), k1_pay106 (w 14) (fsubOf w),
    k1_pay17 (w 15) (fsubOf w)]

/-- The extras: their values, their indices, how many there are. -/
abbrev Ext (F : FTy → Type) : Type := Vec F S1024x64 .f32 × Vec F S1024x64 .i32 × Vec F S1024x1 .i32

/-- The extras the point starts from: none at the first point, else what it found. -/
def ext0 (s : Ext F) : Ext F := if first i = 1#1 then (k1_pay158, k1_pay159, k1_pay160) else s

/-- The state after the fast loop. -/
def fastOf (j : BitVec 32) (w : Fin 16 → Vec F S1024x128 .f32) (s : Ext F) : Fast F :=
  (fastStep (fidxOf j w))^[(k1_t1_loop (nmaxOf w)).trips] (fminOf w, s)

/-- The fast loop's state is its step iterated. -/
theorem fastOf_eq (j : BitVec 32) (w : Fin 16 → Vec F S1024x128 .f32) (s : Ext F) :
    (fastStep (fidxOf j w))^[(k1_t1_loop (nmaxOf w)).trips] (fminOf w, s) = fastOf j w s := by unfold fastOf; rfl

/-- The state after the slow loop. -/
def slowOf (j : BitVec 32) (cl : IVec S1024x128 32) (w : Fin 16 → Vec F S1024x128 .f32) (s : Ext F) : Slow F :=
  (slowStep j)^[(k1_t3_loop (nresOf cl w)).trips] (residOf w, (fastOf j w s).2)

/-- The slow loop's state is its step iterated. -/
theorem slowOf_eq (j : BitVec 32) (cl : IVec S1024x128 32) (w : Fin 16 → Vec F S1024x128 .f32) (s : Ext F) :
    (slowStep j)^[(k1_t3_loop (nresOf cl w)).trips] (residOf w, (fastOf j w s).2) = slowOf j cl w s := by unfold slowOf; rfl

/-- The extras after both loops. -/
def bothOf (j : BitVec 32) (cl : IVec S1024x128 32) (w : Fin 16 → Vec F S1024x128 .f32) (s : Ext F) : Ext F :=
  if k1_cond2 (nresOf cl w) = 1#1 then (slowOf j cl w s).2 else (fastOf j w s).2

/-- When the slow loop runs, the extras are its. -/
theorem bothOf_pos {j : BitVec 32} {cl : IVec S1024x128 32} {w : Fin 16 → Vec F S1024x128 .f32} {s : Ext F} (h : k1_cond2 (nresOf cl w) = 1#1) :
    bothOf j cl w s = (slowOf j cl w s).2 := by unfold bothOf; rw [if_pos h]

/-- When it does not, the extras are the fast loop's. -/
theorem bothOf_neg {j : BitVec 32} {cl : IVec S1024x128 32} {w : Fin 16 → Vec F S1024x128 .f32} {s : Ext F} (h : ¬ k1_cond2 (nresOf cl w) = 1#1) :
    bothOf j cl w s = (fastOf j w s).2 := by unfold bothOf; rw [if_neg h]

/-- The extras the point leaves. -/
def extN (s : Ext F) : Ext F := bothOf (pt i) (count i X1 X2 X3 X4 X6 X7) (wv i X1 X2 X3 X4 X6 X7) (ext0 i s)

end Block

/-- The index of row `r` in a single column. -/
def colIx (r : Fin 1024) : S1024x1.Idx := fun a => match a with
  | 0 => r
  | 1 => (0 : Fin 1)

/-- Sixteen columns side by side. -/
def ofCols {e : EltTy} (p : Fin 16 → Vec F S1024x1 e) : Vec F S1024x16 e := fun y => p (y 1) (colIx (y 0))

section Merge

variable (cm : Vec F S1024x128 .f32) (ev : Vec F S1024x64 .f32) (ci : Vec F S1024x128 .i32) (ei : Vec F S1024x64 .i32)

/-- All the candidates' indices. -/
def mi : IVec S1024x192 32 := k1_pay108 ci ei
/-- The candidates' values as the rounds go on, and their indices where they attain the round's minimum. -/
def ma1 : FVec F S1024x192 .f32 := k1_pay111 cm ev ci ei
def mb1 : IVec S1024x192 32 := k1_pay114 cm ev ci ei
def ma2 : FVec F S1024x192 .f32 := k1_pay121 (mi ci ei) (ma1 cm ev ci ei) (mb1 cm ev ci ei)
def mb2 : IVec S1024x192 32 := k1_pay123 (mi ci ei) (ma1 cm ev ci ei) (mb1 cm ev ci ei)
def ma3 : FVec F S1024x192 .f32 := k1_pay128 (mi ci ei) (ma2 cm ev ci ei) (mb2 cm ev ci ei)
def mb3 : IVec S1024x192 32 := k1_pay131 (mi ci ei) (ma2 cm ev ci ei) (mb2 cm ev ci ei)
def ma4 : FVec F S1024x192 .f32 := k1_pay138 (mi ci ei) (ma3 cm ev ci ei) (mb3 cm ev ci ei)
def mb4 : IVec S1024x192 32 := k1_pay140 (mi ci ei) (ma3 cm ev ci ei) (mb3 cm ev ci ei)
def ma5 : FVec F S1024x192 .f32 := k1_pay145 (mi ci ei) (ma4 cm ev ci ei) (mb4 cm ev ci ei)
def mb5 : IVec S1024x192 32 := k1_pay148 (mi ci ei) (ma4 cm ev ci ei) (mb4 cm ev ci ei)
def ma6 : FVec F S1024x192 .f32 := k1_pay155 (mi ci ei) (ma5 cm ev ci ei) (mb5 cm ev ci ei)
def mb6 : IVec S1024x192 32 := k1_pay157 (mi ci ei) (ma5 cm ev ci ei) (mb5 cm ev ci ei)

/-- The sixteen columns of least values. -/
def mergeV : Fin 16 → Vec F S1024x1 .f32 :=
  ![k1_pay109 cm ev, k1_pay112 cm ev ci ei,
    k1_pay116 (mi ci ei) (ma1 cm ev ci ei) (mb1 cm ev ci ei), k1_pay119 (mi ci ei) (ma1 cm ev ci ei) (mb1 cm ev ci ei),
    k1_pay122 (mi ci ei) (ma1 cm ev ci ei) (mb1 cm ev ci ei), k1_pay126 (mi ci ei) (ma2 cm ev ci ei) (mb2 cm ev ci ei),
    k1_pay129 (mi ci ei) (ma2 cm ev ci ei) (mb2 cm ev ci ei), k1_pay133 (mi ci ei) (ma3 cm ev ci ei) (mb3 cm ev ci ei),
    k1_pay136 (mi ci ei) (ma3 cm ev ci ei) (mb3 cm ev ci ei), k1_pay139 (mi ci ei) (ma3 cm ev ci ei) (mb3 cm ev ci ei),
    k1_pay143 (mi ci ei) (ma4 cm ev ci ei) (mb4 cm ev ci ei), k1_pay146 (mi ci ei) (ma4 cm ev ci ei) (mb4 cm ev ci ei),
    k1_pay150 (mi ci ei) (ma5 cm ev ci ei) (mb5 cm ev ci ei), k1_pay153 (mi ci ei) (ma5 cm ev ci ei) (mb5 cm ev ci ei),
    k1_pay156 (mi ci ei) (ma5 cm ev ci ei) (mb5 cm ev ci ei), k1_pay26 (mi ci ei) (ma6 cm ev ci ei) (mb6 cm ev ci ei)]

/-- The sixteen columns of their indices. -/
def mergeI : Fin 16 → Vec F S1024x1 .i32 :=
  ![k1_pay110 cm ev ci ei, k1_pay113 cm ev ci ei,
    k1_pay117 (mi ci ei) (ma1 cm ev ci ei) (mb1 cm ev ci ei), k1_pay120 (mi ci ei) (ma1 cm ev ci ei) (mb1 cm ev ci ei),
    k1_pay124 (mb2 cm ev ci ei), k1_pay127 (mi ci ei) (ma2 cm ev ci ei) (mb2 cm ev ci ei),
    k1_pay130 (mi ci ei) (ma2 cm ev ci ei) (mb2 cm ev ci ei), k1_pay134 (mi ci ei) (ma3 cm ev ci ei) (mb3 cm ev ci ei),
    k1_pay137 (mi ci ei) (ma3 cm ev ci ei) (mb3 cm ev ci ei), k1_pay141 (mb4 cm ev ci ei),
    k1_pay144 (mi ci ei) (ma4 cm ev ci ei) (mb4 cm ev ci ei), k1_pay147 (mi ci ei) (ma4 cm ev ci ei) (mb4 cm ev ci ei),
    k1_pay151 (mi ci ei) (ma5 cm ev ci ei) (mb5 cm ev ci ei), k1_pay154 (mi ci ei) (ma5 cm ev ci ei) (mb5 cm ev ci ei),
    k1_pay24 (mb6 cm ev ci ei), k1_pay27 (mi ci ei) (ma6 cm ev ci ei) (mb6 cm ev ci ei)]

end Merge

/-- A column before the stored one is not read from the store. -/
theorem col_skip {κ : Kind} {sp : Space} {e : EltTy} (v : View sig κ sp S1024x16 e) (f : v.ty.Contents (Elt F)) (o : Nat)
    (inb : ∀ a, (![0, o] : Fin 2 → Nat) a + S1024x1.size a ≤ S1024x16.size a) (w : Vec F S1024x1 e)
    (L : List (View.Piece (Elt F) S1024x16 e)) (Y : S1024x16.Idx) (h : (Y 1).val < o) :
    v.read (Elt F) (v.writes (Elt F) f (⟨Rect.unit (s := S1024x16) ![0, o] S1024x1.size inb, w⟩ :: L)) Y
      = v.read (Elt F) (v.writes (Elt F) f L) Y :=
  View.read_writes_cons_unit_of_not_mem v f inb w L Y rfl 1 (Or.inl h)

/-- The stored column is read from the store. -/
theorem col_hit {κ : Kind} {sp : Space} {e : EltTy} (v : View sig κ sp S1024x16 e) (f : v.ty.Contents (Elt F)) (o : Nat)
    (inb : ∀ a, (![0, o] : Fin 2 → Nat) a + S1024x1.size a ≤ S1024x16.size a) (w : Vec F S1024x1 e)
    (L : List (View.Piece (Elt F) S1024x16 e)) (Y : S1024x16.Idx) (h : (Y 1).val = o) :
    v.read (Elt F) (v.writes (Elt F) f (⟨Rect.unit (s := S1024x16) ![0, o] S1024x1.size inb, w⟩ :: L)) Y = w (colIx (Y 0)) :=
  View.read_writes_cons_unit_of_mem v f inb w L Y (colIx (Y 0)) rfl fun a => by
    fin_cases a
    · exact (Nat.zero_add _).symm
    · exact h

set_option maxHeartbeats 4000000 in
/-- Sixteen stores, one per column, leave the columns side by side. -/
theorem cols_writes {κ : Kind} {sp : Space} {e : EltTy} (v : View sig κ sp S1024x16 e) (f : v.ty.Contents (Elt F)) (p : Fin 16 → Vec F S1024x1 e) :
    v.read (Elt F) (v.writes (Elt F) f
      [⟨Rect.unit (s := S1024x16) ![0, 15] S1024x1.size inb_S1024x16_S1024x1_0_15, p 15⟩,
       ⟨Rect.unit (s := S1024x16) ![0, 14] S1024x1.size inb_S1024x16_S1024x1_0_14, p 14⟩,
       ⟨Rect.unit (s := S1024x16) ![0, 13] S1024x1.size inb_S1024x16_S1024x1_0_13, p 13⟩,
       ⟨Rect.unit (s := S1024x16) ![0, 12] S1024x1.size inb_S1024x16_S1024x1_0_12, p 12⟩,
       ⟨Rect.unit (s := S1024x16) ![0, 11] S1024x1.size inb_S1024x16_S1024x1_0_11, p 11⟩,
       ⟨Rect.unit (s := S1024x16) ![0, 10] S1024x1.size inb_S1024x16_S1024x1_0_10, p 10⟩,
       ⟨Rect.unit (s := S1024x16) ![0, 9] S1024x1.size inb_S1024x16_S1024x1_0_9, p 9⟩,
       ⟨Rect.unit (s := S1024x16) ![0, 8] S1024x1.size inb_S1024x16_S1024x1_0_8, p 8⟩,
       ⟨Rect.unit (s := S1024x16) ![0, 7] S1024x1.size inb_S1024x16_S1024x1_0_7, p 7⟩,
       ⟨Rect.unit (s := S1024x16) ![0, 6] S1024x1.size inb_S1024x16_S1024x1_0_6, p 6⟩,
       ⟨Rect.unit (s := S1024x16) ![0, 5] S1024x1.size inb_S1024x16_S1024x1_0_5, p 5⟩,
       ⟨Rect.unit (s := S1024x16) ![0, 4] S1024x1.size inb_S1024x16_S1024x1_0_4, p 4⟩,
       ⟨Rect.unit (s := S1024x16) ![0, 3] S1024x1.size inb_S1024x16_S1024x1_0_3, p 3⟩,
       ⟨Rect.unit (s := S1024x16) ![0, 2] S1024x1.size inb_S1024x16_S1024x1_0_2, p 2⟩,
       ⟨Rect.unit (s := S1024x16) ![0, 1] S1024x1.size inb_S1024x16_S1024x1_0_1, p 1⟩,
       ⟨Rect.unit (s := S1024x16) ![0, 0] S1024x1.size inb_S1024x16_S1024x1_0_0, p 0⟩]) = ofCols p := by
  funext y
  have key : ∀ g : Fin 16, y 1 = g → p g (colIx (y 0)) = ofCols p y := fun g h => by unfold ofCols; rw [h]
  have e1 : (y 1).val = (y 1).val := rfl
  generalize hg : y 1 = g at e1
  rw [← key g hg]
  have e2 : (y 1).val < g.val + 1 := by rw [hg]; exact Nat.lt_succ_self _
  have e3 : (y 1).val = g.val := by rw [hg]
  clear e1 hg key
  fin_cases g
  all_goals
    repeat
      first
      | refine (col_skip v f _ _ _ _ _ (lt_of_lt_of_le e2 (by decide))).trans ?_
      | exact col_hit v f _ _ _ _ _ e3

section Body

variable (c : Dev nD) (i : grid1.Coords)
  (M1 : Memref sig .tc .vmem S1024x128 .bf16) (h1 : M1.IsWhole) (M2 : Memref sig .tc .vmem S2048x128 .bf16) (h2 : M2.IsWhole)
  (M3 : Memref sig .tc .vmem S1024x1 .f32) (h3 : M3.IsWhole) (M4 : Memref sig .tc .vmem S1x2048 .f32) (h4 : M4.IsWhole)
  (M5 : Memref sig .tc .vmem S1024x128 .f32) (h5 : M5.IsWhole) (M6 : Memref sig .tc .vmem S1024x128 .i32) (h6 : M6.IsWhole)
  (M7 : Memref sig .tc .vmem S1024x1 .f32) (h7 : M7.IsWhole) (M8 : Memref sig .tc .vmem S1024x16 .f32) (h8 : M8.IsWhole)
  (M9 : Memref sig .tc .vmem S1024x16 .i32) (h9 : M9.IsWhole) (M10 : Memref sig .tc .vmem S1024x64 .f32) (h10 : M10.IsWhole)
  (M11 : Memref sig .tc .vmem S1024x64 .i32) (h11 : M11.IsWhole) (M12 : Memref sig .tc .vmem S1024x1 .i32) (h12 : M12.IsWhole)
  (M13 : Memref sig .tc .vmem S1024x2048 .f32) (h13 : M13.IsWhole)

/-- The seven inputs at given contents. -/
abbrev inputs (X1 : Vec F S1024x128 .bf16) (X2 : Vec F S2048x128 .bf16) (X3 : Vec F S1024x1 .f32) (X4 : Vec F S1x2048 .f32)
    (X5 : Vec F S1024x128 .f32) (X6 : Vec F S1024x128 .i32) (X7 : Vec F S1024x1 .f32) : sProp 𝕄 :=
  iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7)

set_option maxRecDepth 65536 in
/-- The body's head: the extras reset at the first point, the inputs read. -/
theorem head (X1 : Vec F S1024x128 .bf16) (X2 : Vec F S2048x128 .bf16) (X3 : Vec F S1024x1 .f32) (X4 : Vec F S1x2048 .f32)
    (X5 : Vec F S1024x128 .f32) (X6 : Vec F S1024x128 .i32) (X7 : Vec F S1024x1 .f32) (s : Ext F) (E : Set ℕ) :
    iprop(inputs c M1 M2 M3 M4 M5 M6 M7 X1 X2 X3 X4 X5 X6 X7 ∗ extras c M10 M11 M12 s.1 s.2.1 s.2.2)
      ⊢ wp frame (wpE (defs₀ (F := F)) Variants.none c none) E
          (k1_part24 i M1 h1 M2 h2 M3 h3 M4 h4 M5 h5 M6 h6 M7 h7 M8 h8 M9 h9 M10 h10 M11 h11 M12 h12 M13 h13)
          (fun r => iprop(⌜r = ⟨pt i, dist X1 X2 X3 X4, k1_pay162 X7, k1_pay163 X6, io128, k1_pay166 i X1 X2 X3 X4 X7 X6,
              k1_pay167 i X1 X2 X3 X4 X7 X6, k1_pay168 X1 X2 X3 X4⟩⌝
            ∗ inputs c M1 M2 M3 M4 M5 M6 M7 X1 X2 X3 X4 X5 X6 X7 ∗ extras c M10 M11 M12 (ext0 i s).1 (ext0 i s).2.1 (ext0 i s).2.2)) := by
  obtain ⟨ev, ei, pc⟩ := s
  simp only [k1_part24_eq_skeleton]
  unfold k1_part24_skel
  unfold inputs extras owns
  iintro ⟨⟨⟨%f1, %e1, H1⟩, ⟨%f2, %e2, H2⟩, ⟨%f3, %e3, H3⟩, ⟨%f4, %e4, H4⟩, H5, ⟨%f6, %e6, H6⟩, ⟨%f7, %e7, H7⟩⟩, ⟨%f10, %e10, H10⟩, ⟨%f11, %e11, H11⟩, ⟨%f12, %e12, H12⟩⟩
  dsimp only at e10 e11 e12
  by_cases hc1 : first i = 1#1
  all_goals
    sl_exec (disch := exact hc1)
    sl_step
    subst e1 e2 e3 e4 e6 e7 e10 e11 e12
    sl_unfold_words
    simp only [View.readAt_eq_ld, View.ld_unit_zero (S := S1024x128) hz, View.ld_unit_zero (S := S2048x128) hz, View.ld_unit_zero (S := S1024x1) hz,
      View.ld_unit_zero (S := S1x2048) hz]
    isplitr; · ipureintro; rfl
    isplitl [H1 H2 H3 H4 H5 H6 H7]
    · isplitl [H1]; · iexists _; isplitr; swap; (· iexact H1); ipureintro; rfl
      isplitl [H2]; · iexists _; isplitr; swap; (· iexact H2); ipureintro; rfl
      isplitl [H3]; · iexists _; isplitr; swap; (· iexact H3); ipureintro; rfl
      isplitl [H4]; · iexists _; isplitr; swap; (· iexact H4); ipureintro; rfl
      isplitl [H5]; · iexact H5
      isplitl [H6]; · iexists _; isplitr; swap; (· iexact H6); ipureintro; rfl
      iexists _; isplitr; swap; (· iexact H7); ipureintro; rfl
    simp only [ext0, hc1, if_true, if_false]
    isplitl [H10]; · iexists _; isplitr; swap; (· iexact H10); ipureintro; first | rw [View.read_writes_full] | rfl
    isplitl [H11]; · iexists _; isplitr; swap; (· iexact H11); ipureintro; first | rw [View.read_writes_full] | rfl
    iexists _; isplitr; swap; (· iexact H12); ipureintro; first | rw [View.read_writes_full] | rfl

/-- A program that only returns hands its value on. -/
theorem ret_bind {α β : Type} (a : α) (k : α → Prog (TpuEff nD τ sig (Elt F) Λ₀ .tc) β) : (Prog.ret a >>= k) = k a := rfl

set_option maxRecDepth 65536 in
/-- A stretch of pass B's body returns the minima, sublanes and counts it names. -/
theorem part25_eq (arg0 : BitVec 32) (v17 : FVec F S1024x2048 .f32) (v19 : FVec F S1024x1 .f32) (v21 : IVec S1024x128 32) (v22 : IVec S1024x128 32) (v36 : IVec S1024x128 32) (v37 : FVec F S1024x128 .f32) :
    k1_part25 i M1 h1 M2 h2 M3 h3 M4 h4 M5 h5 M6 h6 M7 h7 M8 h8 M9 h9 M10 h10 M11 h11 M12 h12 M13 h13 arg0 v17 v19 v21 v22 v36 v37
      = .ret ⟨k1_pay170 arg0 v19 v21 v22 v37, k1_pay173 arg0 v17 v19 v21 v22, k1_pay176 arg0 v17 v19 v21 v22, k1_pay177 arg0 v17 v19 v21 v22 v36 v37, k1_pay178 v17, k1_pay179 arg0 v17 v19 v21 v22, k1_pay180 (F := F)⟩ := rfl

set_option maxRecDepth 65536 in
/-- A stretch of pass B's body returns the minima, sublanes and counts it names. -/
theorem part26_eq (arg0 : BitVec 32) (v17 : FVec F S1024x2048 .f32) (v19 : FVec F S1024x1 .f32) (v21 : IVec S1024x128 32) (v22 : IVec S1024x128 32) (v75 : IVec S1024x128 32) (v76 : FVec F S1024x128 .f32) (v84 : IVec S1024x128 1) (v85 : FVec F S1024x128 .f32) :
    k1_part26 i M1 h1 M2 h2 M3 h3 M4 h4 M5 h5 M6 h6 M7 h7 M8 h8 M9 h9 M10 h10 M11 h11 M12 h12 M13 h13 arg0 v17 v19 v21 v22 v75 v76 v84 v85
      = .ret ⟨k1_pay181 v76 v84 v85, k1_pay184 arg0 v17 v19 v21 v22, k1_pay187 arg0 v17 v19 v21 v22, k1_pay190 arg0 v17 v19 v21 v22, k1_pay191 arg0 v17 v19 v21 v22 v75 v84, k1_pay192 v17, k1_pay193 v17 v19, k1_pay194 arg0 v22⟩ := rfl

set_option maxRecDepth 65536 in
/-- A stretch of pass B's body returns the minima, sublanes and counts it names. -/
theorem part27_eq (arg0 : BitVec 32) (v17 : FVec F S1024x2048 .f32) (v19 : FVec F S1024x1 .f32) (v21 : IVec S1024x128 32) (v22 : IVec S1024x128 32) (v127 : IVec S1024x128 32) (v128 : FVec F S1024x128 .f32) (v130 : IVec S1024x128 1) (v134 : IVec S1024x128 32) :
    k1_part27 i M1 h1 M2 h2 M3 h3 M4 h4 M5 h5 M6 h6 M7 h7 M8 h8 M9 h9 M10 h10 M11 h11 M12 h12 M13 h13 arg0 v17 v19 v21 v22 v127 v128 v130 v134
      = .ret ⟨k1_pay196 v21 v128 v130 v134, k1_pay199 arg0 v17 v19 v21 v22, k1_pay202 arg0 v17 v19 v21 v22, k1_pay205 arg0 v17 v19 v21 v22, k1_pay206 arg0 v17 v19 v21 v22 v127 v130 v134, k1_pay207 v17, k1_pay208 v17 v19, (Scalar.muli arg0 2048#32)⟩ := rfl

set_option maxRecDepth 65536 in
/-- A stretch of pass B's body returns the minima, sublanes and counts it names. -/
theorem part28_eq (arg0 : BitVec 32) (v17 : FVec F S1024x2048 .f32) (v19 : FVec F S1024x1 .f32) (v21 : IVec S1024x128 32) (v22 : IVec S1024x128 32) (v34 : FVec F S1024x128 .f32) (v47 : FVec F S1024x128 .f32) (v179 : IVec S1024x128 32) (v180 : FVec F S1024x128 .f32) (v182 : IVec S1024x128 1) (v183 : BitVec 32) :
    k1_part28 i M1 h1 M2 h2 M3 h3 M4 h4 M5 h5 M6 h6 M7 h7 M8 h8 M9 h9 M10 h10 M11 h11 M12 h12 M13 h13 arg0 v17 v19 v21 v22 v34 v47 v179 v180 v182 v183
      = .ret ⟨k1_pay210 v21 v22 v180 v182 v183, k1_pay213 arg0 v17 v19 v21 v22, k1_pay216 arg0 v17 v19 v21 v22, k1_pay219 arg0 v17 v19 v21 v22, k1_pay220 arg0 v17 v19 v21 v22 v179 v182 v183, k1_pay221 v34 v47⟩ := rfl

set_option maxRecDepth 65536 in
/-- A stretch of pass B's body returns the minima, sublanes and counts it names. -/
theorem part29_eq (v60 : FVec F S1024x128 .f32) (v73 : FVec F S1024x128 .f32) (v86 : FVec F S1024x128 .f32) (v99 : FVec F S1024x128 .f32) (v112 : FVec F S1024x128 .f32) (v125 : FVec F S1024x128 .f32) (v138 : FVec F S1024x128 .f32) (v151 : FVec F S1024x128 .f32) (v164 : FVec F S1024x128 .f32) (v177 : FVec F S1024x128 .f32) (v190 : FVec F S1024x128 .f32) (v203 : FVec F S1024x128 .f32) (v216 : FVec F S1024x128 .f32) (v229 : FVec F S1024x128 .f32) (v232 : FVec F S1024x128 .f32) :
    k1_part29 i M1 h1 M2 h2 M3 h3 M4 h4 M5 h5 M6 h6 M7 h7 M8 h8 M9 h9 M10 h10 M11 h11 M12 h12 M13 h13 v60 v73 v86 v99 v112 v125 v138 v151 v164 v177 v190 v203 v216 v229 v232
      = .ret ⟨k1_pay222 v60 v73 v86 v99 v112 v125 v138 v151 v164 v177 v190 v203 v216 v229 v232, k1_pay223 v60 v73 v86 v99 v112 v125 v138 v151 v164 v177 v190 v203 v216 v229 v232⟩ := rfl

set_option maxRecDepth 65536 in
/-- The body's counts of trips: the machine's side conditions on them always hold. -/
theorem counts (j : BitVec 32) (cl : IVec S1024x128 32) (w : Fin 16 → Vec F S1024x128 .f32) (E : Set ℕ) :
    (emp : sProp 𝕄) ⊢ wp frame (wpE (defs₀ (F := F)) Variants.none c none) E
      (k1_part30 i M1 h1 M2 h2 M3 h3 M4 h4 M5 h5 M6 h6 M7 h7 M8 h8 M9 h9 M10 h10 M11 h11 M12 h12 M13 h13 j io128 (w 0) (w 1) (w 2) (w 3) (w 4) cl (fminOf w) (fargOf w))
      (fun r => iprop(⌜∃ a b, r = ⟨fsubOf w, fidxOf j w, nmaxOf w, a, nresOf cl w, b, io64, 0#32,
        Scalar.addi 0#32 (Scalar.muli (Scalar.divsi (Scalar.subi (nmaxOf w) 0#32) 1#32) 1#32), 1#32⟩⌝)) := by
  simp only [k1_part30_eq_skeleton]; unfold k1_part30_skel
  iintro -
  sl_exec
  sl_step
  ipureintro
  exact ⟨_, _, rfl⟩

/-- The body's last part: at the last point the sixteen least candidates of each row are written out. -/
def mergeProg : Prog (TpuEff nD τ sig (Elt F) Λ₀ .tc) PUnit := do
  if k1_h3 : k1_cond3 i = 1#1 then do
    let ⟨v339, v353, v364⟩ : Σ' (v339 : IVec S1024x192 32) (v353 : FVec F S1024x192 .f32), IVec S1024x192 32 ← k1_part18 i M1 h1 M2 h2 M3 h3 M4 h4 M5 h5 M6 h6 M7 h7 M8 h8 M9 h9 M10 h10 M11 h11 M12 h12 M13 h13
    let ⟨v395, v397, v401⟩ : Σ' (v395 : FVec F S1024x192 .f32) (v397 : FVec F S1024x1 .f32), IVec S1024x192 32 ← k1_part19 i M1 h1 M2 h2 M3 h3 M4 h4 M5 h5 M6 h6 M7 h7 M8 h8 M9 h9 M10 h10 M11 h11 M12 h12 M13 h13 v339 v353 v364
    let ⟨v423, v434⟩ : Σ' (v423 : FVec F S1024x192 .f32), IVec S1024x192 32 ← k1_part20 i M1 h1 M2 h2 M3 h3 M4 h4 M5 h5 M6 h6 M7 h7 M8 h8 M9 h9 M10 h10 M11 h11 M12 h12 M13 h13 v339 v395 v397 v401
    let ⟨v465, v467, v471⟩ : Σ' (v465 : FVec F S1024x192 .f32) (v467 : FVec F S1024x1 .f32), IVec S1024x192 32 ← k1_part21 i M1 h1 M2 h2 M3 h3 M4 h4 M5 h5 M6 h6 M7 h7 M8 h8 M9 h9 M10 h10 M11 h11 M12 h12 M13 h13 v339 v423 v434
    let ⟨v493, v504⟩ : Σ' (v493 : FVec F S1024x192 .f32), IVec S1024x192 32 ← k1_part22 i M1 h1 M2 h2 M3 h3 M4 h4 M5 h5 M6 h6 M7 h7 M8 h8 M9 h9 M10 h10 M11 h11 M12 h12 M13 h13 v339 v465 v467 v471
    let ⟨v535, v537, v541⟩ : Σ' (v535 : FVec F S1024x192 .f32) (v537 : FVec F S1024x1 .f32), IVec S1024x192 32 ← k1_part23 i M1 h1 M2 h2 M3 h3 M4 h4 M5 h5 M6 h6 M7 h7 M8 h8 M9 h9 M10 h10 M11 h11 M12 h12 M13 h13 v339 v493 v504
    let v544 : Vec F S1024x1 .f32 ← Prog.lift (.load M8 (Rect.unit (s := S1024x16) ![0, 14] S1024x1.size inb_S1024x16_S1024x1_0_14).toLoadRect (View.loadsAt_vmem h_S1024x1))
    Prog.lift (.store M8 (Rect.unit (s := S1024x16) ![0, 14] S1024x1.size inb_S1024x16_S1024x1_0_14) v537 Finset.univ (View.stores_vmem_bits_univ h_S1024x1 rfl) (.inl rfl))
    let v545 : Vec F S1024x1 .i32 ← Prog.lift (.load M9 (Rect.unit (s := S1024x16) ![0, 14] S1024x1.size inb_S1024x16_S1024x1_0_14).toLoadRect (View.loadsAt_vmem h_S1024x1))
    Prog.lift (.store M9 (Rect.unit (s := S1024x16) ![0, 14] S1024x1.size inb_S1024x16_S1024x1_0_14) (k1_pay24 v541) Finset.univ (View.stores_vmem_bits_univ h_S1024x1 rfl) (.inl rfl))
    let v558 : Vec F S1024x1 .f32 ← Prog.lift (.load M8 (Rect.unit (s := S1024x16) ![0, 15] S1024x1.size inb_S1024x16_S1024x1_0_15).toLoadRect (View.loadsAt_vmem h_S1024x1))
    Prog.lift (.store M8 (Rect.unit (s := S1024x16) ![0, 15] S1024x1.size inb_S1024x16_S1024x1_0_15) (k1_pay26 v339 v535 v541) Finset.univ (View.stores_vmem_bits_univ h_S1024x1 rfl) (.inl rfl))
    let v559 : Vec F S1024x1 .i32 ← Prog.lift (.load M9 (Rect.unit (s := S1024x16) ![0, 15] S1024x1.size inb_S1024x16_S1024x1_0_15).toLoadRect (View.loadsAt_vmem h_S1024x1))
    Prog.lift (.store M9 (Rect.unit (s := S1024x16) ![0, 15] S1024x1.size inb_S1024x16_S1024x1_0_15) (k1_pay27 v339 v535 v541) Finset.univ (View.stores_vmem_bits_univ h_S1024x1 rfl) (.inl rfl))
    pure ⟨⟩
  else do
    pure ⟨⟩

set_option maxRecDepth 65536 in
set_option maxHeartbeats 2000000 in
/-- The body's last part: the two results written at the last point, else left. -/
theorem finish (X5 : Vec F S1024x128 .f32) (X6 : Vec F S1024x128 .i32) (X8 : Vec F S1024x16 .f32) (X9 : Vec F S1024x16 .i32)
    (s : Ext F) (E : Set ℕ) :
    iprop(owns (c : Thread nD τ) M5 fullShare X5 ∗ owns (c : Thread nD τ) M6 fullShare X6 ∗ extras c M10 M11 M12 s.1 s.2.1 s.2.2
        ∗ owns (c : Thread nD τ) M8 fullShare X8 ∗ owns (c : Thread nD τ) M9 fullShare X9)
      ⊢ wp frame (wpE (defs₀ (F := F)) Variants.none c none) E (mergeProg i M1 h1 M2 h2 M3 h3 M4 h4 M5 h5 M6 h6 M7 h7 M8 h8 M9 h9 M10 h10 M11 h11 M12 h12 M13 h13)
        (fun _ => iprop(owns (c : Thread nD τ) M5 fullShare X5 ∗ owns (c : Thread nD τ) M6 fullShare X6 ∗ extras c M10 M11 M12 s.1 s.2.1 s.2.2
          ∗ owns (c : Thread nD τ) M8 fullShare (if k1_cond3 i = 1#1 then ofCols (mergeV X5 s.1 X6 s.2.1) else X8)
          ∗ owns (c : Thread nD τ) M9 fullShare (if k1_cond3 i = 1#1 then ofCols (mergeI X5 s.1 X6 s.2.1) else X9))) := by
  obtain ⟨ev, ei, pc⟩ := s
  unfold mergeProg
  unfold extras owns
  iintro ⟨⟨%f5, %e5, H5⟩, ⟨%f6, %e6, H6⟩, ⟨⟨%f10, %e10, H10⟩, ⟨%f11, %e11, H11⟩, H12⟩, ⟨%f8, %e8, H8⟩, ⟨%f9, %e9, H9⟩⟩
  dsimp only at e10 e11
  by_cases hc : k1_cond3 i = 1#1
  · simp only [k1_part18_eq_skeleton, k1_part19_eq_skeleton, k1_part20_eq_skeleton, k1_part21_eq_skeleton, k1_part22_eq_skeleton, k1_part23_eq_skeleton]
    unfold k1_part18_skel k1_part19_skel k1_part20_skel k1_part21_skel k1_part22_skel k1_part23_skel
    sl_exec (disch := exact hc)
    sl_step
    subst e5 e6 e8 e9 e10 e11
    sl_unfold_words
    simp only [View.readAt_eq_ld, View.ld_unit_zero (S := S1024x128) hz, View.ld_unit_zero (S := S1024x64) hz, hc, if_true]
    isplitl [H5]; · iexists _; isplitr; swap; (· iexact H5); ipureintro; rfl
    isplitl [H6]; · iexists _; isplitr; swap; (· iexact H6); ipureintro; rfl
    isplitl [H10 H11 H12]
    · isplitl [H10]; · iexists _; isplitr; swap; (· iexact H10); ipureintro; rfl
      isplitl [H11]; · iexists _; isplitr; swap; (· iexact H11); ipureintro; rfl
      iexact H12
    isplitl [H8]
    · iexists _; isplitr; swap; (· iexact H8); ipureintro
      have h := cols_writes M8.view f8 (mergeV (M5.view.read (Elt F) f5) (M10.view.read (Elt F) f10) (M6.view.read (Elt F) f6) (M11.view.read (Elt F) f11))
      refine Eq.trans ?_ h
      simp only [mergeV, Matrix.cons_val]
      rfl
    iexists _; isplitr; swap; (· iexact H9); ipureintro
    have h := cols_writes M9.view f9 (mergeI (M5.view.read (Elt F) f5) (M10.view.read (Elt F) f10) (M6.view.read (Elt F) f6) (M11.view.read (Elt F) f11))
    refine Eq.trans ?_ h
    simp only [mergeI, Matrix.cons_val]
    rfl
  · sl_exec (disch := exact hc)
    sl_step
    simp only [hc, if_false]
    isplitl [H5]; · iexists _; isplitr; swap; (· iexact H5); ipureintro; exact e5
    isplitl [H6]; · iexists _; isplitr; swap; (· iexact H6); ipureintro; exact e6
    isplitl [H10 H11 H12]
    · isplitl [H10]; · iexists _; isplitr; swap; (· iexact H10); ipureintro; exact e10
      isplitl [H11]; · iexists _; isplitr; swap; (· iexact H11); ipureintro; exact e11
      iexact H12
    isplitl [H8]; · iexists _; isplitr; swap; (· iexact H8); ipureintro; exact e8
    iexists _; isplitr; swap; (· iexact H9); ipureintro; exact e9

/-- The second fast loop hands on what it was given. -/
theorem loop2_step (fidx : IVec S1024x128 32) (v : BitVec 32) (hw : k1_chk1 v) (fm : FVec F S1024x128 .f32) (E : Set ℕ)
    {β : Type} (kk : FVec F S1024x128 .f32 → Prog (TpuEff nD τ sig (Elt F) Λ₀ .tc) β) (Q : β → sProp 𝕄) :
    wp frame (wpE (defs₀ (F := F)) Variants.none c none) E (kk fm) Q
      ⊢ wp frame (wpE (defs₀ (F := F)) Variants.none c none) E
          (Scf.Loop.for (k1_t2_loop v) (k1_t2_ok v hw) fm (k1_t2_body (F := F) i M1 h1 M2 h2 M3 h3 M4 h4 M5 h5 M6 h6 M7 h7 M8 h8 M9 h9 M10 h10 M11 h11 M12 h12 M13 h13 fidx v hw io64) >>= kk) Q := by
  rw [loop2, ret_bind]

/-- The second slow loop hands on what it was given. -/
theorem loop4_step (j : BitVec 32) (v : BitVec 32) (hw : k1_chk2 v) (hc : k1_cond2 v = 1#1) (u : BitVec 32) (a : BitVec 32) (E : Set ℕ)
    {β : Type} (kk : BitVec 32 → Prog (TpuEff nD τ sig (Elt F) Λ₀ .tc) β) (Q : β → sProp 𝕄) :
    wp frame (wpE (defs₀ (F := F)) Variants.none c none) E (kk a) Q
      ⊢ wp frame (wpE (defs₀ (F := F)) Variants.none c none) E
          (Scf.Loop.for (k1_t4_loop v) (k1_t4_ok v hw hc) a (k1_t4_body (F := F) i M1 h1 M2 h2 M3 h3 M4 h4 M5 h5 M6 h6 M7 h7 M8 h8 M9 h9 M10 h10 M11 h11 M12 h12 M13 h13 j io128 v hw io64 hc u) >>= kk) Q := by
  rw [loop4, ret_bind]

set_option maxRecDepth 65536 in
set_option maxHeartbeats 2000000 in
/-- The lane minima struck out: the slow loop's buffer filled, and the rest of the body run from there. -/
theorem strike (w : Fin 16 → Vec F S1024x128 .f32) (X : Vec F S1024x2048 .f32) (E : Set ℕ)
    {β : Type} (kk : Prog (TpuEff nD τ sig (Elt F) Λ₀ .tc) β) (Q : β → sProp 𝕄) :
    iprop(owns (c : Thread nD τ) M13 fullShare X
        ∗ (slices c M13 (residOf w) -∗ wp frame (wpE (defs₀ (F := F)) Variants.none c none) E kk Q))
      ⊢ wp frame (wpE (defs₀ (F := F)) Variants.none c none) E (do
          k1_part15 i M1 h1 M2 h2 M3 h3 M4 h4 M5 h5 M6 h6 M7 h7 M8 h8 M9 h9 M10 h10 M11 h11 M12 h12 M13 h13 (w 0) (w 1) (w 2) (w 3) (w 4) (fsubOf w)
          k1_part16 i M1 h1 M2 h2 M3 h3 M4 h4 M5 h5 M6 h6 M7 h7 M8 h8 M9 h9 M10 h10 M11 h11 M12 h12 M13 h13 (w 5) (w 6) (w 7) (w 8) (w 9) (fsubOf w)
          k1_part17 i M1 h1 M2 h2 M3 h3 M4 h4 M5 h5 M6 h6 M7 h7 M8 h8 M9 h9 M10 h10 M11 h11 M12 h12 M13 h13 (w 10) (w 11) (w 12) (w 13) (w 14) (fsubOf w)
          let _ : Vec F S1024x128 .f32 ← Prog.lift (.load M13 (Rect.unit (s := S1024x2048) ![0, 1920] S1024x128.size inb_S1024x2048_S1024x128_0_1920).toLoadRect (View.loadsAt_vmem h_S1024x128))
          Prog.lift (.store M13 (Rect.unit (s := S1024x2048) ![0, 1920] S1024x128.size inb_S1024x2048_S1024x128_0_1920) (k1_pay17 (w 15) (fsubOf w)) Finset.univ (View.stores_vmem_bits_univ h_S1024x128 rfl) (.inl rfl))
          kk) Q := by
  simp only [k1_part15_eq_skeleton, k1_part16_eq_skeleton, k1_part17_eq_skeleton]
  unfold k1_part15_skel k1_part16_skel k1_part17_skel
  unfold slices owns
  iintro ⟨⟨%f, %e, H⟩, HK⟩
  sl_exec
  iapply HK
  sl_unfold_words
  iexists _; isplitr; swap
  · iexists _; isplitr; swap; (· iexact H); ipureintro; rfl
  ipureintro
  intro g
  have h := slices_writes M13.view f (residOf w) g
  simp only [residOf, Matrix.cons_val] at h ⊢
  exact h

end Body

end Cert.Proof.PassB
-- ==== Proof.PassBRun.lean ====
/-
  Pass B (the second pipeline): the triple of one grid point of its body.
-/
module

public import proofs.«01_k».proof.Proof.PassB

@[expose] public section

noncomputable section

namespace Cert.Proof.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid1.Coords)
  (M1 : Memref sig .tc .vmem S1024x128 .bf16) (h1 : M1.IsWhole) (M2 : Memref sig .tc .vmem S2048x128 .bf16) (h2 : M2.IsWhole)
  (M3 : Memref sig .tc .vmem S1024x1 .f32) (h3 : M3.IsWhole) (M4 : Memref sig .tc .vmem S1x2048 .f32) (h4 : M4.IsWhole)
  (M5 : Memref sig .tc .vmem S1024x128 .f32) (h5 : M5.IsWhole) (M6 : Memref sig .tc .vmem S1024x128 .i32) (h6 : M6.IsWhole)
  (M7 : Memref sig .tc .vmem S1024x1 .f32) (h7 : M7.IsWhole) (M8 : Memref sig .tc .vmem S1024x16 .f32) (h8 : M8.IsWhole)
  (M9 : Memref sig .tc .vmem S1024x16 .i32) (h9 : M9.IsWhole) (M10 : Memref sig .tc .vmem S1024x64 .f32) (h10 : M10.IsWhole)
  (M11 : Memref sig .tc .vmem S1024x64 .i32) (h11 : M11.IsWhole) (M12 : Memref sig .tc .vmem S1024x1 .i32) (h12 : M12.IsWhole)
  (M13 : Memref sig .tc .vmem S1024x2048 .f32) (h13 : M13.IsWhole)

/-- The slow loop and what follows it. -/
def slowProg (arg0 : BitVec 32) (v22 : IVec S1024x128 32) (v317 : BitVec 32) (hw2 : k1_chk2 v317) (v318 : IVec S1024x64 32) (hc : k1_cond2 v317 = 1#1) :
    Prog (TpuEff nD τ sig (Elt F) Λ₀ .tc) PUnit := do
  let v449 : BitVec 32 ← Scf.Loop.for (k1_t3_loop v317) (k1_t3_ok v317 hw2 hc) 0#32 (k1_t3_body (F := F) i M1 h1 M2 h2 M3 h3 M4 h4 M5 h5 M6 h6 M7 h7 M8 h8 M9 h9 M10 h10 M11 h11 M12 h12 M13 h13 arg0 v22 v317 hw2 v318 hc)
  let _ : BitVec 32 ← Scf.Loop.for (k1_t4_loop v317) (k1_t4_ok v317 hw2 hc) v449 (k1_t4_body i M1 h1 M2 h2 M3 h3 M4 h4 M5 h5 M6 h6 M7 h7 M8 h8 M9 h9 M10 h10 M11 h11 M12 h12 M13 h13 arg0 v22 v317 hw2 v318 hc
    (Scalar.addi 0#32 (Scalar.muli (Scalar.divsi (Scalar.subi v317 0#32) 1#32) 1#32)))
  mergeProg i M1 h1 M2 h2 M3 h3 M4 h4 M5 h5 M6 h6 M7 h7 M8 h8 M9 h9 M10 h10 M11 h11 M12 h12 M13 h13

/-- The striking of the lane minima and what follows it. -/
def strikeProg (kk : Prog (TpuEff nD τ sig (Elt F) Λ₀ .tc) PUnit) (v34 v47 v60 v73 v86 v99 v112 v125 v138 v151 v164 v177 v190 v203 v216 v229 : FVec F S1024x128 .f32) (v295 : IVec S1024x128 32) :
    Prog (TpuEff nD τ sig (Elt F) Λ₀ .tc) PUnit := do
  k1_part15 i M1 h1 M2 h2 M3 h3 M4 h4 M5 h5 M6 h6 M7 h7 M8 h8 M9 h9 M10 h10 M11 h11 M12 h12 M13 h13 v34 v47 v60 v73 v86 v295
  k1_part16 i M1 h1 M2 h2 M3 h3 M4 h4 M5 h5 M6 h6 M7 h7 M8 h8 M9 h9 M10 h10 M11 h11 M12 h12 M13 h13 v99 v112 v125 v138 v151 v295
  k1_part17 i M1 h1 M2 h2 M3 h3 M4 h4 M5 h5 M6 h6 M7 h7 M8 h8 M9 h9 M10 h10 M11 h11 M12 h12 M13 h13 v164 v177 v190 v203 v216 v295
  let _ : Vec F S1024x128 .f32 ← Prog.lift (.load M13 (Rect.unit (s := S1024x2048) ![0, 1920] S1024x128.size inb_S1024x2048_S1024x128_0_1920).toLoadRect (View.loadsAt_vmem h_S1024x128))
  Prog.lift (.store M13 (Rect.unit (s := S1024x2048) ![0, 1920] S1024x128.size inb_S1024x2048_S1024x128_0_1920) (k1_pay17 v229 v295) Finset.univ (View.stores_vmem_bits_univ h_S1024x128 rfl) (.inl rfl))
  kk

/-- The body from the branch on. -/
def branchProg (arg0 : BitVec 32) (v22 : IVec S1024x128 32) (v34 v47 v60 v73 v86 v99 v112 v125 v138 v151 v164 v177 v190 v203 v216 v229 : FVec F S1024x128 .f32) (v295 : IVec S1024x128 32)
    (v317 : BitVec 32) (hw2 : k1_chk2 v317) (v318 : IVec S1024x64 32) : Prog (TpuEff nD τ sig (Elt F) Λ₀ .tc) PUnit :=
  if hc : k1_cond2 v317 = 1#1 then strikeProg i M1 h1 M2 h2 M3 h3 M4 h4 M5 h5 M6 h6 M7 h7 M8 h8 M9 h9 M10 h10 M11 h11 M12 h12 M13 h13 (slowProg i M1 h1 M2 h2 M3 h3 M4 h4 M5 h5 M6 h6 M7 h7 M8 h8 M9 h9 M10 h10 M11 h11 M12 h12 M13 h13 arg0 v22 v317 hw2 v318 hc) v34 v47 v60 v73 v86 v99 v112 v125 v138 v151 v164 v177 v190 v203 v216 v229 v295 else mergeProg i M1 h1 M2 h2 M3 h3 M4 h4 M5 h5 M6 h6 M7 h7 M8 h8 M9 h9 M10 h10 M11 h11 M12 h12 M13 h13

/-- The body from its first loop on. -/
def rest (arg0 : BitVec 32) (v22 : IVec S1024x128 32) (v34 v47 v60 v73 v86 v99 v112 v125 v138 v151 v164 v177 v190 v203 v216 v229 : FVec F S1024x128 .f32) (v246 : FVec F S1024x128 .f32) (v295 v301 : IVec S1024x128 32)
    (v313 : BitVec 32) (hw1 : k1_chk1 v313) (v317 : BitVec 32) (hw2 : k1_chk2 v317) (v318 : IVec S1024x64 32) :
    Prog (TpuEff nD τ sig (Elt F) Λ₀ .tc) PUnit := do
  let v324 : FVec F S1024x128 .f32 ← Scf.Loop.for (k1_t1_loop v313) (k1_t1_ok v313 hw1) v246 (k1_t1_body (F := F) i M1 h1 M2 h2 M3 h3 M4 h4 M5 h5 M6 h6 M7 h7 M8 h8 M9 h9 M10 h10 M11 h11 M12 h12 M13 h13 v301 v313 hw1 v318)
  let _ : FVec F S1024x128 .f32 ← Scf.Loop.for (k1_t2_loop v313) (k1_t2_ok v313 hw1) v324 (k1_t2_body i M1 h1 M2 h2 M3 h3 M4 h4 M5 h5 M6 h6 M7 h7 M8 h8 M9 h9 M10 h10 M11 h11 M12 h12 M13 h13 v301 v313 hw1 v318)
  branchProg i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v295 v317 hw2 v318

set_option maxRecDepth 65536 in
/-- The body: its head, the block's values, and the rest. -/
theorem body_eq : cc1__pass_b_body_skel i M1 h1 M2 h2 M3 h3 M4 h4 M5 h5 M6 h6 M7 h7 M8 h8 M9 h9 M10 h10 M11 h11 M12 h12 M13 h13 = (do
  let ⟨arg0, v17, v19, v21, v22, v34, v36, v37⟩ : Σ' (arg0 : BitVec 32) (v17 : FVec F S1024x2048 .f32) (v19 : FVec F S1024x1 .f32) (v21 : IVec S1024x128 32) (v22 : IVec S1024x128 32) (v34 : FVec F S1024x128 .f32) (v36 : IVec S1024x128 32), FVec F S1024x128 .f32 ← k1_part24 i M1 h1 M2 h2 M3 h3 M4 h4 M5 h5 M6 h6 M7 h7 M8 h8 M9 h9 M10 h10 M11 h11 M12 h12 M13 h13
  let ⟨v47, v60, v73, v75, v76, v84, v85⟩ : Σ' (v47 : FVec F S1024x128 .f32) (v60 : FVec F S1024x128 .f32) (v73 : FVec F S1024x128 .f32) (v75 : IVec S1024x128 32) (v76 : FVec F S1024x128 .f32) (v84 : IVec S1024x128 1), FVec F S1024x128 .f32 ← k1_part25 i M1 h1 M2 h2 M3 h3 M4 h4 M5 h5 M6 h6 M7 h7 M8 h8 M9 h9 M10 h10 M11 h11 M12 h12 M13 h13 arg0 v17 v19 v21 v22 v36 v37
  let ⟨v86, v99, v112, v125, v127, v128, v130, v134⟩ : Σ' (v86 : FVec F S1024x128 .f32) (v99 : FVec F S1024x128 .f32) (v112 : FVec F S1024x128 .f32) (v125 : FVec F S1024x128 .f32) (v127 : IVec S1024x128 32) (v128 : FVec F S1024x128 .f32) (v130 : IVec S1024x128 1), IVec S1024x128 32 ← k1_part26 i M1 h1 M2 h2 M3 h3 M4 h4 M5 h5 M6 h6 M7 h7 M8 h8 M9 h9 M10 h10 M11 h11 M12 h12 M13 h13 arg0 v17 v19 v21 v22 v75 v76 v84 v85
  let ⟨v138, v151, v164, v177, v179, v180, v182, v183⟩ : Σ' (v138 : FVec F S1024x128 .f32) (v151 : FVec F S1024x128 .f32) (v164 : FVec F S1024x128 .f32) (v177 : FVec F S1024x128 .f32) (v179 : IVec S1024x128 32) (v180 : FVec F S1024x128 .f32) (v182 : IVec S1024x128 1), BitVec 32 ← k1_part27 i M1 h1 M2 h2 M3 h3 M4 h4 M5 h5 M6 h6 M7 h7 M8 h8 M9 h9 M10 h10 M11 h11 M12 h12 M13 h13 arg0 v17 v19 v21 v22 v127 v128 v130 v134
  let ⟨v190, v203, v216, v229, v231, v232⟩ : Σ' (v190 : FVec F S1024x128 .f32) (v203 : FVec F S1024x128 .f32) (v216 : FVec F S1024x128 .f32) (v229 : FVec F S1024x128 .f32) (v231 : IVec S1024x128 32), FVec F S1024x128 .f32 ← k1_part28 i M1 h1 M2 h2 M3 h3 M4 h4 M5 h5 M6 h6 M7 h7 M8 h8 M9 h9 M10 h10 M11 h11 M12 h12 M13 h13 arg0 v17 v19 v21 v22 v34 v47 v179 v180 v182 v183
  let ⟨v246, v280⟩ : Σ' (v246 : FVec F S1024x128 .f32), IVec S1024x128 32 ← k1_part29 i M1 h1 M2 h2 M3 h3 M4 h4 M5 h5 M6 h6 M7 h7 M8 h8 M9 h9 M10 h10 M11 h11 M12 h12 M13 h13 v60 v73 v86 v99 v112 v125 v138 v151 v164 v177 v190 v203 v216 v229 v232
  let ⟨v295, v301, v313, k1_hw1, v317, k1_hw2, v318, c0_i32_54, v323, c1_i32_56⟩ : Σ' (v295 : IVec S1024x128 32) (v301 : IVec S1024x128 32) (v313 : BitVec 32) (k1_hw1 : k1_chk1 v313) (v317 : BitVec 32) (k1_hw2 : k1_chk2 v317) (v318 : IVec S1024x64 32) (c0_i32_54 : BitVec 32) (v323 : BitVec 32), BitVec 32 ← k1_part30 i M1 h1 M2 h2 M3 h3 M4 h4 M5 h5 M6 h6 M7 h7 M8 h8 M9 h9 M10 h10 M11 h11 M12 h12 M13 h13 arg0 v22 v34 v47 v60 v73 v86 v231 v246 v280
  rest i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v246 v295 v301 v313 k1_hw1 v317 k1_hw2 v318) := rfl

/-- The second fast loop drops out. -/
theorem rest_eq (arg0 : BitVec 32) (v22 : IVec S1024x128 32) (v34 v47 v60 v73 v86 v99 v112 v125 v138 v151 v164 v177 v190 v203 v216 v229 : FVec F S1024x128 .f32) (v246 : FVec F S1024x128 .f32) (v295 v301 : IVec S1024x128 32)
    (v313 : BitVec 32) (hw1 : k1_chk1 v313) (v317 : BitVec 32) (hw2 : k1_chk2 v317) :
    rest i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v246 v295 v301 v313 hw1 v317 hw2 io64
      = (Scf.Loop.for (k1_t1_loop v313) (k1_t1_ok v313 hw1) v246 (k1_t1_body (F := F) i M1 h1 M2 h2 M3 h3 M4 h4 M5 h5 M6 h6 M7 h7 M8 h8 M9 h9 M10 h10 M11 h11 M12 h12 M13 h13 v301 v313 hw1 io64)
          >>= fun _ => branchProg i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v295 v317 hw2 io64) :=
  congrArg (fun k => (Scf.Loop.for (k1_t1_loop v313) (k1_t1_ok v313 hw1) v246 (k1_t1_body (F := F) i M1 h1 M2 h2 M3 h3 M4 h4 M5 h5 M6 h6 M7 h7 M8 h8 M9 h9 M10 h10 M11 h11 M12 h12 M13 h13 v301 v313 hw1 io64) >>= k))
    (funext fun v => congrArg (fun p : Prog (TpuEff nD τ sig (Elt F) Λ₀ .tc) (FVec F S1024x128 .f32) => (p >>= fun _ => branchProg i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v295 v317 hw2 io64))
      (loop2 i M1 h1 M2 h2 M3 h3 M4 h4 M5 h5 M6 h6 M7 h7 M8 h8 M9 h9 M10 h10 M11 h11 M12 h12 M13 h13 v301 v313 hw1 v))

/-- The second slow loop drops out. -/
theorem slow_eq (arg0 : BitVec 32) (v317 : BitVec 32) (hw2 : k1_chk2 v317) (hc : k1_cond2 v317 = 1#1) :
    slowProg i M1 h1 M2 h2 M3 h3 M4 h4 M5 h5 M6 h6 M7 h7 M8 h8 M9 h9 M10 h10 M11 h11 M12 h12 M13 h13 arg0 io128 v317 hw2 io64 hc
      = (Scf.Loop.for (k1_t3_loop v317) (k1_t3_ok v317 hw2 hc) 0#32 (k1_t3_body (F := F) i M1 h1 M2 h2 M3 h3 M4 h4 M5 h5 M6 h6 M7 h7 M8 h8 M9 h9 M10 h10 M11 h11 M12 h12 M13 h13 arg0 io128 v317 hw2 io64 hc)
          >>= fun _ => mergeProg i M1 h1 M2 h2 M3 h3 M4 h4 M5 h5 M6 h6 M7 h7 M8 h8 M9 h9 M10 h10 M11 h11 M12 h12 M13 h13) :=
  congrArg (fun k => (Scf.Loop.for (k1_t3_loop v317) (k1_t3_ok v317 hw2 hc) 0#32 (k1_t3_body (F := F) i M1 h1 M2 h2 M3 h3 M4 h4 M5 h5 M6 h6 M7 h7 M8 h8 M9 h9 M10 h10 M11 h11 M12 h12 M13 h13 arg0 io128 v317 hw2 io64 hc) >>= k))
    (funext fun v => congrArg (fun p : Prog (TpuEff nD τ sig (Elt F) Λ₀ .tc) (BitVec 32) => (p >>= fun _ => mergeProg i M1 h1 M2 h2 M3 h3 M4 h4 M5 h5 M6 h6 M7 h7 M8 h8 M9 h9 M10 h10 M11 h11 M12 h12 M13 h13)) (loop4 i M1 h1 M2 h2 M3 h3 M4 h4 M5 h5 M6 h6 M7 h7 M8 h8 M9 h9 M10 h10 M11 h11 M12 h12 M13 h13 arg0 v317 hw2 hc _ v))

/-- The branch, taken. -/
theorem branch_pos (arg0 : BitVec 32) (v22 : IVec S1024x128 32) (v34 v47 v60 v73 v86 v99 v112 v125 v138 v151 v164 v177 v190 v203 v216 v229 : FVec F S1024x128 .f32) (v295 : IVec S1024x128 32) (v317 : BitVec 32) (hw2 : k1_chk2 v317) (v318 : IVec S1024x64 32) (hc : k1_cond2 v317 = 1#1) :
    branchProg i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v295 v317 hw2 v318 = strikeProg i M1 h1 M2 h2 M3 h3 M4 h4 M5 h5 M6 h6 M7 h7 M8 h8 M9 h9 M10 h10 M11 h11 M12 h12 M13 h13 (slowProg i M1 h1 M2 h2 M3 h3 M4 h4 M5 h5 M6 h6 M7 h7 M8 h8 M9 h9 M10 h10 M11 h11 M12 h12 M13 h13 arg0 v22 v317 hw2 v318 hc) v34 v47 v60 v73 v86 v99 v112 v125 v138 v151 v164 v177 v190 v203 v216 v229 v295 := by
  unfold branchProg; rw [dif_pos hc]

/-- The branch, not taken. -/
theorem branch_neg (arg0 : BitVec 32) (v22 : IVec S1024x128 32) (v34 v47 v60 v73 v86 v99 v112 v125 v138 v151 v164 v177 v190 v203 v216 v229 : FVec F S1024x128 .f32) (v295 : IVec S1024x128 32) (v317 : BitVec 32) (hw2 : k1_chk2 v317) (v318 : IVec S1024x64 32) (hc : ¬ k1_cond2 v317 = 1#1) :
    branchProg i M1 h1 M2 h2 M3 h3 M4 h4 M5 h5 M6 h6 M7 h7 M8 h8 M9 h9 M10 h10 M11 h11 M12 h12 M13 h13 arg0 v22 v34 v47 v60 v73 v86 v99 v112 v125 v138 v151 v164 v177 v190 v203 v216 v229 v295 v317 hw2 v318 = mergeProg i M1 h1 M2 h2 M3 h3 M4 h4 M5 h5 M6 h6 M7 h7 M8 h8 M9 h9 M10 h10 M11 h11 M12 h12 M13 h13 := by
  unfold branchProg; rw [dif_neg hc]

set_option maxRecDepth 65536 in
/-- The branch: the slow loop's extras when it is taken, the same extras when not. -/
theorem branch (j : BitVec 32) (w : Fin 16 → Vec F S1024x128 .f32) (v : BitVec 32) (hw2 : k1_chk2 v)
    (X5 : Vec F S1024x128 .f32) (X6 : Vec F S1024x128 .i32) (X8 : Vec F S1024x16 .f32) (X9 : Vec F S1024x16 .i32) (X13 : Vec F S1024x2048 .f32)
    (T B : Ext F) (S : Slow F) (hS : (slowStep j)^[(k1_t3_loop v).trips] (residOf w, T) = S) (hB1 : k1_cond2 v = 1#1 → B = S.2) (hB0 : ¬ k1_cond2 v = 1#1 → B = T) (E : Set ℕ) :
    iprop(owns (c : Thread nD τ) M5 fullShare X5 ∗ owns (c : Thread nD τ) M6 fullShare X6 ∗ extras c M10 M11 M12 T.1 T.2.1 T.2.2
        ∗ owns (c : Thread nD τ) M8 fullShare X8 ∗ owns (c : Thread nD τ) M9 fullShare X9 ∗ owns (c : Thread nD τ) M13 fullShare X13)
      ⊢ wp frame (wpE (defs₀ (F := F)) Variants.none c none) E
        (branchProg i M1 h1 M2 h2 M3 h3 M4 h4 M5 h5 M6 h6 M7 h7 M8 h8 M9 h9 M10 h10 M11 h11 M12 h12 M13 h13 j io128 (w 0) (w 1) (w 2) (w 3) (w 4) (w 5) (w 6) (w 7) (w 8) (w 9) (w 10) (w 11) (w 12) (w 13) (w 14) (w 15) (fsubOf w) v hw2 io64)
        (fun _ => iprop((∃ X, owns (c : Thread nD τ) M13 fullShare X) ∗ (owns (c : Thread nD τ) M5 fullShare X5 ∗ owns (c : Thread nD τ) M6 fullShare X6
          ∗ extras c M10 M11 M12 B.1 B.2.1 B.2.2
          ∗ owns (c : Thread nD τ) M8 fullShare (if k1_cond3 i = 1#1 then ofCols (mergeV X5 B.1 X6 B.2.1) else X8)
          ∗ owns (c : Thread nD τ) M9 fullShare (if k1_cond3 i = 1#1 then ofCols (mergeI X5 B.1 X6 B.2.1) else X9)))) := by
  by_cases hc2 : k1_cond2 v = 1#1
  · rw [branch_pos (hc := hc2), hB1 hc2]
    unfold strikeProg
    iintro ⟨H5, H6, HX, H8, H9, H13⟩
    iapply (strike c i M1 h1 M2 h2 M3 h3 M4 h4 M5 h5 M6 h6 M7 h7 M8 h8 M9 h9 M10 h10 M11 h11 M12 h12 M13 h13 w X13 E _ _)
    isplitl [H13]; · iexact H13
    iintro H13
    rw [slow_eq]
    iapply (loop3 c i M1 h1 M2 h2 M3 h3 M4 h4 M5 h5 M6 h6 M7 h7 M8 h8 M9 h9 M10 h10 M11 h11 M12 h12 M13 h13 j v hw2 hc2 (residOf w, T) S hS E _ _)
    isplitl [HX H13]
    · isplitl [HX]; · iexact HX
      iexact H13
    iintro ⟨HX, ⟨%Y, %hY, H13⟩⟩
    iapply (wp_wand_r frame (wpE (defs₀ (F := F)) Variants.none c none) E)
    isplitr [H13]
    · iapply (finish c i M1 h1 M2 h2 M3 h3 M4 h4 M5 h5 M6 h6 M7 h7 M8 h8 M9 h9 M10 h10 M11 h11 M12 h12 M13 h13 X5 X6 X8 X9 S.2 E)
      isplitl [H5]; · iexact H5
      isplitl [H6]; · iexact H6
      isplitl [HX]; · iexact HX
      isplitl [H8]; · iexact H8
      iexact H9
    iintro %r H
    isplitl [H13]; · iexists Y; iexact H13
    iexact H

  · rw [branch_neg (hc := hc2), hB0 hc2]
    iintro ⟨H5, H6, HX, H8, H9, H13⟩
    iapply (wp_wand_r frame (wpE (defs₀ (F := F)) Variants.none c none) E)
    isplitr [H13]
    · iapply (finish c i M1 h1 M2 h2 M3 h3 M4 h4 M5 h5 M6 h6 M7 h7 M8 h8 M9 h9 M10 h10 M11 h11 M12 h12 M13 h13 X5 X6 X8 X9 T E)
      isplitl [H5]; · iexact H5
      isplitl [H6]; · iexact H6
      isplitl [HX]; · iexact HX
      isplitl [H8]; · iexact H8
      iexact H9
    iintro %r H
    isplitl [H13]; · iexists X13; iexact H13
    iexact H

set_option maxRecDepth 65536 in
/-- The fast loop, then the branch. -/
theorem loops (j : BitVec 32) (w : Fin 16 → Vec F S1024x128 .f32) (fm : Vec F S1024x128 .f32) (fi : IVec S1024x128 32) (u : BitVec 32) (hw1 : k1_chk1 u) (v : BitVec 32) (hw2 : k1_chk2 v)
    (X5 : Vec F S1024x128 .f32) (X6 : Vec F S1024x128 .i32) (X8 : Vec F S1024x16 .f32) (X9 : Vec F S1024x16 .i32) (X13 : Vec F S1024x2048 .f32)
    (T B : Ext F) (R : Fast F) (hR : (fastStep fi)^[(k1_t1_loop u).trips] (fm, T) = R)
    (S : Slow F) (hS : (slowStep j)^[(k1_t3_loop v).trips] (residOf w, R.2) = S) (hB1 : k1_cond2 v = 1#1 → B = S.2) (hB0 : ¬ k1_cond2 v = 1#1 → B = R.2) (E : Set ℕ) :
    iprop(owns (c : Thread nD τ) M5 fullShare X5 ∗ owns (c : Thread nD τ) M6 fullShare X6 ∗ extras c M10 M11 M12 T.1 T.2.1 T.2.2
        ∗ owns (c : Thread nD τ) M8 fullShare X8 ∗ owns (c : Thread nD τ) M9 fullShare X9 ∗ owns (c : Thread nD τ) M13 fullShare X13)
      ⊢ wp frame (wpE (defs₀ (F := F)) Variants.none c none) E
        (rest i M1 h1 M2 h2 M3 h3 M4 h4 M5 h5 M6 h6 M7 h7 M8 h8 M9 h9 M10 h10 M11 h11 M12 h12 M13 h13 j io128 (w 0) (w 1) (w 2) (w 3) (w 4) (w 5) (w 6) (w 7) (w 8) (w 9) (w 10) (w 11) (w 12) (w 13) (w 14) (w 15) fm (fsubOf w) fi u hw1 v hw2 io64)
        (fun _ => iprop((∃ X, owns (c : Thread nD τ) M13 fullShare X) ∗ (owns (c : Thread nD τ) M5 fullShare X5 ∗ owns (c : Thread nD τ) M6 fullShare X6
          ∗ extras c M10 M11 M12 B.1 B.2.1 B.2.2
          ∗ owns (c : Thread nD τ) M8 fullShare (if k1_cond3 i = 1#1 then ofCols (mergeV X5 B.1 X6 B.2.1) else X8)
          ∗ owns (c : Thread nD τ) M9 fullShare (if k1_cond3 i = 1#1 then ofCols (mergeI X5 B.1 X6 B.2.1) else X9)))) := by
  rw [rest_eq]
  iintro ⟨H5, H6, HX, H8, H9, H13⟩
  iapply (loop1 c i M1 h1 M2 h2 M3 h3 M4 h4 M5 h5 M6 h6 M7 h7 M8 h8 M9 h9 M10 h10 M11 h11 M12 h12 M13 h13 fi u hw1 (fm, T) R hR E _ _)
  isplitl [HX]; · iexact HX
  iintro HX
  iapply (branch c i M1 h1 M2 h2 M3 h3 M4 h4 M5 h5 M6 h6 M7 h7 M8 h8 M9 h9 M10 h10 M11 h11 M12 h12 M13 h13 j w v hw2 X5 X6 X8 X9 X13 R.2 B S hS hB1 hB0 E)
  isplitl [H5]; · iexact H5
  isplitl [H6]; · iexact H6
  isplitl [HX]; · iexact HX
  isplitl [H8]; · iexact H8
  isplitl [H9]; · iexact H9
  iexact H13

/-- The body's rest: the extras after both loops, the two results written at the last point. -/
theorem tail (j : BitVec 32) (cl : IVec S1024x128 32) (w : Fin 16 → Vec F S1024x128 .f32) (hw1 : k1_chk1 (nmaxOf w)) (hw2 : k1_chk2 (nresOf cl w))
    (X5 : Vec F S1024x128 .f32) (X6 : Vec F S1024x128 .i32) (X8 : Vec F S1024x16 .f32) (X9 : Vec F S1024x16 .i32) (X13 : Vec F S1024x2048 .f32)
    (T : Ext F) (B : Ext F) (hB : B = bothOf j cl w T) (E : Set ℕ) :
    iprop(owns (c : Thread nD τ) M5 fullShare X5 ∗ owns (c : Thread nD τ) M6 fullShare X6 ∗ extras c M10 M11 M12 T.1 T.2.1 T.2.2
        ∗ owns (c : Thread nD τ) M8 fullShare X8 ∗ owns (c : Thread nD τ) M9 fullShare X9 ∗ owns (c : Thread nD τ) M13 fullShare X13)
      ⊢ wp frame (wpE (defs₀ (F := F)) Variants.none c none) E
        (rest i M1 h1 M2 h2 M3 h3 M4 h4 M5 h5 M6 h6 M7 h7 M8 h8 M9 h9 M10 h10 M11 h11 M12 h12 M13 h13 j io128 (w 0) (w 1) (w 2) (w 3) (w 4) (w 5) (w 6) (w 7) (w 8) (w 9) (w 10) (w 11) (w 12) (w 13) (w 14) (w 15) (fminOf w) (fsubOf w) (fidxOf j w) (nmaxOf w) hw1 (nresOf cl w) hw2 io64)
        (fun _ => iprop((∃ X, owns (c : Thread nD τ) M13 fullShare X) ∗ (owns (c : Thread nD τ) M5 fullShare X5 ∗ owns (c : Thread nD τ) M6 fullShare X6
          ∗ extras c M10 M11 M12 B.1 B.2.1 B.2.2
          ∗ owns (c : Thread nD τ) M8 fullShare (if k1_cond3 i = 1#1 then ofCols (mergeV X5 B.1 X6 B.2.1) else X8)
          ∗ owns (c : Thread nD τ) M9 fullShare (if k1_cond3 i = 1#1 then ofCols (mergeI X5 B.1 X6 B.2.1) else X9)))) :=
  loops c i M1 h1 M2 h2 M3 h3 M4 h4 M5 h5 M6 h6 M7 h7 M8 h8 M9 h9 M10 h10 M11 h11 M12 h12 M13 h13 j w (fminOf w) (fidxOf j w) (nmaxOf w) hw1 (nresOf cl w) hw2 X5 X6 X8 X9 X13 T B (fastOf j w T) (fastOf_eq j w T)
    (slowOf j cl w T) (slowOf_eq j cl w T) (fun hc => hB.trans (bothOf_pos hc)) (fun hc => hB.trans (bothOf_neg hc)) E

/-- The counts, then the body's rest. -/
theorem fromCounts (j : BitVec 32) (cl : IVec S1024x128 32) (w : Fin 16 → Vec F S1024x128 .f32)
    (X5 : Vec F S1024x128 .f32) (X6 : Vec F S1024x128 .i32) (X8 : Vec F S1024x16 .f32) (X9 : Vec F S1024x16 .i32) (X13 : Vec F S1024x2048 .f32)
    (T : Ext F) (B : Ext F) (hB : B = bothOf j cl w T) (E : Set ℕ) :
    iprop(owns (c : Thread nD τ) M5 fullShare X5 ∗ owns (c : Thread nD τ) M6 fullShare X6 ∗ extras c M10 M11 M12 T.1 T.2.1 T.2.2
        ∗ owns (c : Thread nD τ) M8 fullShare X8 ∗ owns (c : Thread nD τ) M9 fullShare X9 ∗ owns (c : Thread nD τ) M13 fullShare X13)
      ⊢ wp frame (wpE (defs₀ (F := F)) Variants.none c none) E
        (do
          let ⟨v295, v301, v313, k1_hw1, v317, k1_hw2, v318, c0_i32_54, v323, c1_i32_56⟩ : Σ' (v295 : IVec S1024x128 32) (v301 : IVec S1024x128 32) (v313 : BitVec 32) (k1_hw1 : k1_chk1 v313) (v317 : BitVec 32) (k1_hw2 : k1_chk2 v317) (v318 : IVec S1024x64 32) (c0_i32_54 : BitVec 32) (v323 : BitVec 32), BitVec 32 ← k1_part30 i M1 h1 M2 h2 M3 h3 M4 h4 M5 h5 M6 h6 M7 h7 M8 h8 M9 h9 M10 h10 M11 h11 M12 h12 M13 h13 j io128 (w 0) (w 1) (w 2) (w 3) (w 4) cl (fminOf w) (fargOf w)
          rest i M1 h1 M2 h2 M3 h3 M4 h4 M5 h5 M6 h6 M7 h7 M8 h8 M9 h9 M10 h10 M11 h11 M12 h12 M13 h13 j io128 (w 0) (w 1) (w 2) (w 3) (w 4) (w 5) (w 6) (w 7) (w 8) (w 9) (w 10) (w 11) (w 12) (w 13) (w 14) (w 15) (fminOf w) v295 v301 v313 k1_hw1 v317 k1_hw2 v318)
        (fun _ => iprop((∃ X, owns (c : Thread nD τ) M13 fullShare X) ∗ (owns (c : Thread nD τ) M5 fullShare X5 ∗ owns (c : Thread nD τ) M6 fullShare X6
          ∗ extras c M10 M11 M12 B.1 B.2.1 B.2.2
          ∗ owns (c : Thread nD τ) M8 fullShare (if k1_cond3 i = 1#1 then ofCols (mergeV X5 B.1 X6 B.2.1) else X8)
          ∗ owns (c : Thread nD τ) M9 fullShare (if k1_cond3 i = 1#1 then ofCols (mergeI X5 B.1 X6 B.2.1) else X9)))) := by
  rw [wp_bind]
  iintro H
  iapply (wp_wand_r frame (wpE (defs₀ (F := F)) Variants.none c none) E)
  isplitr
  · iapply (counts c i M1 h1 M2 h2 M3 h3 M4 h4 M5 h5 M6 h6 M7 h7 M8 h8 M9 h9 M10 h10 M11 h11 M12 h12 M13 h13 j cl w E)
    iempintro
  iintro %r ⟨%er⟩
  obtain ⟨hw1, hw2, er⟩ := er
  subst er
  iapply (tail c i M1 h1 M2 h2 M3 h3 M4 h4 M5 h5 M6 h6 M7 h7 M8 h8 M9 h9 M10 h10 M11 h11 M12 h12 M13 h13 j cl w hw1 hw2 X5 X6 X8 X9 X13 T B hB E)
  iexact H

set_option maxRecDepth 65536 in
set_option maxHeartbeats 400000 in
/-- The body of pass B at one grid point: the inputs as found, the extras and the two results as the functions above say. -/
theorem run (X1 : Vec F S1024x128 .bf16) (X2 : Vec F S2048x128 .bf16) (X3 : Vec F S1024x1 .f32) (X4 : Vec F S1x2048 .f32)
    (X5 : Vec F S1024x128 .f32) (X6 : Vec F S1024x128 .i32) (X7 : Vec F S1024x1 .f32) (X8 : Vec F S1024x16 .f32) (X9 : Vec F S1024x16 .i32)
    (s B : Ext F) (hB : B = extN i X1 X2 X3 X4 X6 X7 s) (E : Set ℕ) (Q : PUnit → sProp 𝕄) :
    iprop(inputs c M1 M2 M3 M4 M5 M6 M7 X1 X2 X3 X4 X5 X6 X7 ∗ extras c M10 M11 M12 s.1 s.2.1 s.2.2
        ∗ owns (c : Thread nD τ) M8 fullShare X8 ∗ owns (c : Thread nD τ) M9 fullShare X9 ∗ (∃ X, owns (c : Thread nD τ) M13 fullShare X)
        ∗ (iprop(inputs c M1 M2 M3 M4 M5 M6 M7 X1 X2 X3 X4 X5 X6 X7
            ∗ extras c M10 M11 M12 B.1 B.2.1 B.2.2
            ∗ owns (c : Thread nD τ) M8 fullShare (if k1_cond3 i = 1#1 then ofCols (mergeV X5 B.1 X6 B.2.1) else X8)
            ∗ owns (c : Thread nD τ) M9 fullShare (if k1_cond3 i = 1#1 then ofCols (mergeI X5 B.1 X6 B.2.1) else X9)
            ∗ (∃ X, owns (c : Thread nD τ) M13 fullShare X)) -∗ Q ⟨⟩))
      ⊢ wp frame (wpE (defs₀ (F := F)) Variants.none c none) E
          (cc1__pass_b_body i M1 h1 M2 h2 M3 h3 M4 h4 M5 h5 M6 h6 M7 h7 M8 h8 M9 h9 M10 h10 M11 h11 M12 h12 M13 h13) Q := by
  have eX : extN i X1 X2 X3 X4 X6 X7 s = bothOf (pt i) (count i X1 X2 X3 X4 X6 X7) (wv i X1 X2 X3 X4 X6 X7) (ext0 i s) := rfl
  rw [eX] at hB; clear eX
  rw [cc1__pass_b_body_eq_skeleton, body_eq, wp_bind]
  iintro ⟨HI, HX, H8, H9, ⟨%X13, H13⟩, Hk⟩
  iapply (wp_wand_r frame (wpE (defs₀ (F := F)) Variants.none c none) E)
  isplitl [HI HX]
  · iapply (head c i M1 h1 M2 h2 M3 h3 M4 h4 M5 h5 M6 h6 M7 h7 M8 h8 M9 h9 M10 h10 M11 h11 M12 h12 M13 h13 X1 X2 X3 X4 X5 X6 X7 s E)
    isplitl [HI]; · iexact HI
    iexact HX
  iintro %r ⟨%er, HI, HX⟩
  subst er
  dsimp only
  rw [part25_eq, ret_bind]; dsimp only
  rw [part26_eq, ret_bind]; dsimp only
  rw [part27_eq, ret_bind]; dsimp only
  rw [part28_eq, ret_bind]; dsimp only
  rw [part29_eq, ret_bind]; dsimp only
  have ef : fminOf (wv i X1 X2 X3 X4 X6 X7) = fminOf (wv i X1 X2 X3 X4 X6 X7) := rfl
  have ea : fargOf (wv i X1 X2 X3 X4 X6 X7) = fargOf (wv i X1 X2 X3 X4 X6 X7) := rfl
  have ec : count i X1 X2 X3 X4 X6 X7 = count i X1 X2 X3 X4 X6 X7 := rfl
  conv_rhs at ef => simp only [fminOf, wv, Matrix.cons_val]
  conv_rhs at ea => simp only [fargOf, wv, Matrix.cons_val]
  conv_rhs at ec => simp only [count]
  have w0 : k1_pay166 i X1 X2 X3 X4 X7 X6 = wv i X1 X2 X3 X4 X6 X7 0 := by simp only [wv, Matrix.cons_val]
  have w1 : k1_pay170 (pt i) (k1_pay162 X7) (k1_pay163 X6) io128 (k1_pay168 X1 X2 X3 X4) = wv i X1 X2 X3 X4 X6 X7 1 := by simp only [wv, Matrix.cons_val]
  have w2 : k1_pay173 (pt i) (dist X1 X2 X3 X4) (k1_pay162 X7) (k1_pay163 X6) io128 = wv i X1 X2 X3 X4 X6 X7 2 := by simp only [wv, Matrix.cons_val]
  have w3 : k1_pay176 (pt i) (dist X1 X2 X3 X4) (k1_pay162 X7) (k1_pay163 X6) io128 = wv i X1 X2 X3 X4 X6 X7 3 := by simp only [wv, Matrix.cons_val]
  have w4 : k1_pay181 (k1_pay178 (dist X1 X2 X3 X4)) (k1_pay179 (pt i) (dist X1 X2 X3 X4) (k1_pay162 X7) (k1_pay163 X6) io128) k1_pay180 = wv i X1 X2 X3 X4 X6 X7 4 := by simp only [wv, Matrix.cons_val]
  have w5 : k1_pay184 (pt i) (dist X1 X2 X3 X4) (k1_pay162 X7) (k1_pay163 X6) io128 = wv i X1 X2 X3 X4 X6 X7 5 := by simp only [wv, Matrix.cons_val]
  have w6 : k1_pay187 (pt i) (dist X1 X2 X3 X4) (k1_pay162 X7) (k1_pay163 X6) io128 = wv i X1 X2 X3 X4 X6 X7 6 := by simp only [wv, Matrix.cons_val]
  have w7 : k1_pay190 (pt i) (dist X1 X2 X3 X4) (k1_pay162 X7) (k1_pay163 X6) io128 = wv i X1 X2 X3 X4 X6 X7 7 := by simp only [wv, Matrix.cons_val]
  have w8 : k1_pay196 (k1_pay163 X6) (k1_pay192 (dist X1 X2 X3 X4)) (k1_pay193 (dist X1 X2 X3 X4) (k1_pay162 X7)) (k1_pay194 (pt i) io128) = wv i X1 X2 X3 X4 X6 X7 8 := by simp only [wv, Matrix.cons_val]
  have w9 : k1_pay199 (pt i) (dist X1 X2 X3 X4) (k1_pay162 X7) (k1_pay163 X6) io128 = wv i X1 X2 X3 X4 X6 X7 9 := by simp only [wv, Matrix.cons_val]
  have w10 : k1_pay202 (pt i) (dist X1 X2 X3 X4) (k1_pay162 X7) (k1_pay163 X6) io128 = wv i X1 X2 X3 X4 X6 X7 10 := by simp only [wv, Matrix.cons_val]
  have w11 : k1_pay205 (pt i) (dist X1 X2 X3 X4) (k1_pay162 X7) (k1_pay163 X6) io128 = wv i X1 X2 X3 X4 X6 X7 11 := by simp only [wv, Matrix.cons_val]
  have w12 : k1_pay210 (k1_pay163 X6) io128 (k1_pay207 (dist X1 X2 X3 X4)) (k1_pay208 (dist X1 X2 X3 X4) (k1_pay162 X7)) (Scalar.muli (pt i) 2048#32) = wv i X1 X2 X3 X4 X6 X7 12 := by simp only [wv, Matrix.cons_val]
  have w13 : k1_pay213 (pt i) (dist X1 X2 X3 X4) (k1_pay162 X7) (k1_pay163 X6) io128 = wv i X1 X2 X3 X4 X6 X7 13 := by simp only [wv, Matrix.cons_val]
  have w14 : k1_pay216 (pt i) (dist X1 X2 X3 X4) (k1_pay162 X7) (k1_pay163 X6) io128 = wv i X1 X2 X3 X4 X6 X7 14 := by simp only [wv, Matrix.cons_val]
  have w15 : k1_pay219 (pt i) (dist X1 X2 X3 X4) (k1_pay162 X7) (k1_pay163 X6) io128 = wv i X1 X2 X3 X4 X6 X7 15 := by simp only [wv, Matrix.cons_val]
  rw [← ef, ← ea, ← ec, w0, w1, w2, w3, w4, w5, w6, w7, w8, w9, w10, w11, w12, w13, w14, w15]
  clear w0 w1 w2 w3 w4 w5 w6 w7 w8 w9 w10 w11 w12 w13 w14 w15 ef ea ec
  iapply (wp_wand_r frame (wpE (defs₀ (F := F)) Variants.none c none) E)
  icases HI with ⟨H1, H2, H3, H4, H5, H6, H7⟩
  isplitl [H5 H6 HX H8 H9 H13]
  · iapply (fromCounts c i M1 h1 M2 h2 M3 h3 M4 h4 M5 h5 M6 h6 M7 h7 M8 h8 M9 h9 M10 h10 M11 h11 M12 h12 M13 h13 (pt i) (count i X1 X2 X3 X4 X6 X7) (wv i X1 X2 X3 X4 X6 X7) X5 X6 X8 X9 X13 (ext0 i s) B hB E)
    isplitl [H5]; · iexact H5
    isplitl [H6]; · iexact H6
    isplitl [HX]; · iexact HX
    isplitl [H8]; · iexact H8
    isplitl [H9]; · iexact H9
    iexact H13
  iintro %r ⟨H13, H5, H6, HX, H8, H9⟩
  iapply Hk
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HX]; · iexact HX
  isplitl [H8]; · iexact H8
  isplitl [H9]; · iexact H9
  iexact H13

end Body

end Cert.Proof.PassB
-- ==== Proof.RegionB.lean ====
/-
  Pass B's pipeline: what its windows hold at every grid point, as a function of the buffers it is entered with.
-/
module

public import proofs.«01_k».proof.Proof.PassBRun
public import proofs.«01_k».proof.Proof.Gen.KernelIdeal.Points
public import proofs.«01_k».proof.Proof.Gen.KernelIdeal.Launch
public import Idealize.ShloMosaic.Lib.Pipeline.FrameBody

@[expose] public section

noncomputable section

namespace Cert.Proof.RegionB

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → Valuation τ sig (Elt F)) (c : Dev nD)

/-- The queries as the point's fetch stages them. -/
def qIn (t : Fin cfg1.N) : Vec F S1024x128 .bf16 := ((cfg1.win 0).blk t).view.read (Elt F) (V c (Pipeline.arrRef spec1 0))
/-- The point's block of keys. -/
def kIn (t : Fin cfg1.N) : Vec F S2048x128 .bf16 := ((cfg1.win 1).blk t).view.read (Elt F) (V c (Pipeline.arrRef spec1 1))
/-- The queries' squared norms. -/
def qqIn (t : Fin cfg1.N) : Vec F S1024x1 .f32 := ((cfg1.win 2).blk t).view.read (Elt F) (V c (Pipeline.arrRef spec1 2))
/-- The point's block of the keys' squared norms. -/
def kkIn (t : Fin cfg1.N) : Vec F S1x2048 .f32 := ((cfg1.win 3).blk t).view.read (Elt F) (V c (Pipeline.arrRef spec1 3))
/-- The lane minima. -/
def cmIn (t : Fin cfg1.N) : Vec F S1024x128 .f32 := ((cfg1.win 4).blk t).view.read (Elt F) (V c (Pipeline.arrRef spec1 4))
/-- The lane minima's indices. -/
def ciIn (t : Fin cfg1.N) : Vec F S1024x128 .i32 := ((cfg1.win 5).blk t).view.read (Elt F) (V c (Pipeline.arrRef spec1 5))
/-- The threshold. -/
def thIn (t : Fin cfg1.N) : Vec F S1024x1 .f32 := ((cfg1.win 6).blk t).view.read (Elt F) (V c (Pipeline.arrRef spec1 6))

/-- One point's step on the extras. -/
def step (t : Fin cfg1.N) (s : PassB.Ext F) : PassB.Ext F :=
  PassB.extN (grid1.coords t) (qIn V c t) (kIn V c t) (qqIn V c t) (kkIn V c t) (ciIn V c t) (thIn V c t) s

/-- The extras before point `n`. -/
def state : ℕ → PassB.Ext F
  | 0 => (k1_pay158, k1_pay159, k1_pay160)
  | n + 1 => if h : n < cfg1.N then step V c ⟨n, h⟩ (state n) else state n

/-- The state after a point is the point's step. -/
theorem state_succ (t : Fin cfg1.N) : state V c (t.val + 1) = step V c t (state V c t.val) := by
  rw [state, dif_pos t.isLt]

/-- At the first point nothing of what was there before is kept. -/
theorem first_iff : ∀ t : Fin cfg1.N, PassB.first (grid1.coords t) = 1#1 ↔ t.val = 0 := by decide

/-- The last point is the one that writes the results. -/
theorem last_iff : ∀ t : Fin cfg1.N, k1_cond3 (grid1.coords t) = 1#1 ↔ t.val = 48 := by decide

/-- The step from whatever the first point finds, or from the state later, is the next state. -/
theorem step_of (t : Fin cfg1.N) (s : PassB.Ext F) (h : t.val ≠ 0 → s = state V c t.val) : state V c (t.val + 1) = step V c t s := by
  rw [state_succ]
  by_cases h0 : t.val = 0
  · have e := (first_iff t).mpr h0
    unfold step PassB.extN PassB.ext0
    rw [if_pos e, if_pos e]
  · rw [h h0]

/-- The other kernel's staging buffers, held at something. -/
def others : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f))

/-- The invariant before point `n`: the extras at the state (at the first point at anything), the slow loop's buffer at
    something. -/
def inv (n : ℕ) : sProp 𝕄 :=
  iprop(∃ s : PassB.Ext F, ⌜n ≠ 0 → s = state V c n⌝ ∗ others c
    ∗ PassB.extras c (Memref.whole cc1_scratch0) (Memref.whole cc1_scratch1) (Memref.whole cc1_scratch2) s.1 s.2.1 s.2.2
    ∗ ∃ X, owns (c : Thread nD τ) (Memref.whole cc1_scratch3) fullShare X)

/-- The proof data: the arrays as entered, the seven inputs as fetched, the two results written at the last point. -/
def dat : Dat τ (Elt F) Unit ℕ (UR sig nD τ) ℕ cfg1 c where
  A w := V c (Pipeline.arrRef spec1 w)
  after w t := match w with
    | ⟨0, _⟩ => qIn V c t
    | ⟨1, _⟩ => kIn V c t
    | ⟨2, _⟩ => qqIn V c t
    | ⟨3, _⟩ => kkIn V c t
    | ⟨4, _⟩ => cmIn V c t
    | ⟨5, _⟩ => ciIn V c t
    | ⟨6, _⟩ => thIn V c t
    | ⟨7, _⟩ => PassB.ofCols (PassB.mergeV (cmIn V c t) (state V c (t.val + 1)).1 (ciIn V c t) (state V c (t.val + 1)).2.1)
    | ⟨8, _⟩ => PassB.ofCols (PassB.mergeI (cmIn V c t) (state V c (t.val + 1)).1 (ciIn V c t) (state V c (t.val + 1)).2.1)
  Φ t := inv V c t.val
  q _ := fullShare
  owed _ := 0

/-- Window 0 holds its block at every point. -/
theorem before_0 (t : Fin cfg1.N) (d) : (dat V c).before 0 t d = qIn V c t :=
  ((dat V c).before_in_eq_fetched 0 rfl (fun _ => rfl) (fun _ _ _ => rfl) (fun t => by dsimp only [dat]; rfl) t d).trans rfl
/-- Window 1 holds its block at every point. -/
theorem before_1 (t : Fin cfg1.N) (d) : (dat V c).before 1 t d = kIn V c t :=
  ((dat V c).before_in_eq_fetched 1 rfl (fun _ => rfl) (fun _ _ _ => rfl) (fun t => by dsimp only [dat]; rfl) t d).trans rfl
/-- Window 2 holds its block at every point. -/
theorem before_2 (t : Fin cfg1.N) (d) : (dat V c).before 2 t d = qqIn V c t :=
  ((dat V c).before_in_eq_fetched 2 rfl (fun _ => rfl) (fun _ _ _ => rfl) (fun t => by dsimp only [dat]; rfl) t d).trans rfl
/-- Window 3 holds its block at every point. -/
theorem before_3 (t : Fin cfg1.N) (d) : (dat V c).before 3 t d = kkIn V c t :=
  ((dat V c).before_in_eq_fetched 3 rfl (fun _ => rfl) (fun _ _ _ => rfl) (fun t => by dsimp only [dat]; rfl) t d).trans rfl
/-- Window 4 holds its block at every point. -/
theorem before_4 (t : Fin cfg1.N) (d) : (dat V c).before 4 t d = cmIn V c t :=
  ((dat V c).before_in_eq_fetched 4 rfl (fun _ => rfl) (fun _ _ _ => rfl) (fun t => by dsimp only [dat]; rfl) t d).trans rfl
/-- Window 5 holds its block at every point. -/
theorem before_5 (t : Fin cfg1.N) (d) : (dat V c).before 5 t d = ciIn V c t :=
  ((dat V c).before_in_eq_fetched 5 rfl (fun _ => rfl) (fun _ _ _ => rfl) (fun t => by dsimp only [dat]; rfl) t d).trans rfl
/-- Window 6 holds its block at every point. -/
theorem before_6 (t : Fin cfg1.N) (d) : (dat V c).before 6 t d = thIn V c t :=
  ((dat V c).before_in_eq_fetched 6 rfl (fun _ => rfl) (fun _ _ _ => rfl) (fun t => by dsimp only [dat]; rfl) t d).trans rfl

/-- The body table's row for pass B. -/
theorem defs₀_row (t : Fin cfg1.N) : defs₀ (F := F) .tc cfg1.body (cfg1.bodyArgs t (cfg1.slots t)) = bodyAt1 t := by
  unfold defs₀; rw [Defs.onTc_tc]

/-- What the body leaves of a window the point writes. -/
theorem leavesExact_live {cfg : Pipeline.Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

/-- Window 7 is left as found but at the last point. -/
theorem idle_7 (t : Fin cfg1.N) (h : ¬ t.val = 48) : cfg1.idle 7 (cfg1.grid.coords t) = true := by
  have := fun e => h ((last_iff t).mp e)
  show (!(k1_cond3 (grid1.coords t) == 1#1)) = true
  rw [beq_eq_false_iff_ne.mpr this]; rfl

/-- At the last point it is written. -/
theorem live_7 (t : Fin cfg1.N) (h : t.val = 48) : cfg1.idle 7 (cfg1.grid.coords t) = false := by
  show (!(k1_cond3 (grid1.coords t) == 1#1)) = false
  rw [(last_iff t).mpr h]; rfl

/-- Window 7 as the body leaves it. -/
theorem left_7 (t : Fin cfg1.N) (d : Vec F S1024x16 .f32) :
    owns (c : Thread nD τ) (st1_7 t) fullShare (if k1_cond3 (grid1.coords t) = 1#1 then
        PassB.ofCols (PassB.mergeV (cmIn V c t) (state V c (t.val + 1)).1 (ciIn V c t) (state V c (t.val + 1)).2.1) else (dat V c).before 7 t d)
      ⊢ ((dat V c).leavesExact 7 t : sProp 𝕄) := by
  by_cases h : t.val = 48
  · rw [leavesExact_live (dat V c) 7 t (live_7 t h)]
    rw [if_pos ((last_iff t).mpr h)]
    dsimp only [dat]
    exact .rfl
  · have hN : t.val < 49 := N_1 ▸ t.isLt
    rw [(dat V c).leavesExact_idle 7 t (idle_7 t h) (by rw [Bool.eq_false_iff]; intro e; have := (flush1_7 t).mp e; omega)]
    rw [if_neg (fun e => h ((last_iff t).mp e))]
    iintro H; iexists d; iexact H

/-- Window 8 is left as found but at the last point. -/
theorem idle_8 (t : Fin cfg1.N) (h : ¬ t.val = 48) : cfg1.idle 8 (cfg1.grid.coords t) = true := by
  have := fun e => h ((last_iff t).mp e)
  show (!(k1_cond3 (grid1.coords t) == 1#1)) = true
  rw [beq_eq_false_iff_ne.mpr this]; rfl

/-- At the last point it is written. -/
theorem live_8 (t : Fin cfg1.N) (h : t.val = 48) : cfg1.idle 8 (cfg1.grid.coords t) = false := by
  show (!(k1_cond3 (grid1.coords t) == 1#1)) = false
  rw [(last_iff t).mpr h]; rfl

/-- Window 8 as the body leaves it. -/
theorem left_8 (t : Fin cfg1.N) (d : Vec F S1024x16 .i32) :
    owns (c : Thread nD τ) (st1_8 t) fullShare (if k1_cond3 (grid1.coords t) = 1#1 then
        PassB.ofCols (PassB.mergeI (cmIn V c t) (state V c (t.val + 1)).1 (ciIn V c t) (state V c (t.val + 1)).2.1) else (dat V c).before 8 t d)
      ⊢ ((dat V c).leavesExact 8 t : sProp 𝕄) := by
  by_cases h : t.val = 48
  · rw [leavesExact_live (dat V c) 8 t (live_8 t h)]
    rw [if_pos ((last_iff t).mpr h)]
    dsimp only [dat]
    exact .rfl
  · have hN : t.val < 49 := N_1 ▸ t.isLt
    rw [(dat V c).leavesExact_idle 8 t (idle_8 t h) (by rw [Bool.eq_false_iff]; intro e; have := (flush1_8 t).mp e; omega)]
    rw [if_neg (fun e => h ((last_iff t).mp e))]
    iintro H; iexists d; iexact H

set_option maxHeartbeats 1600000 in
/-- The body at every point. -/
theorem body_obligation : BodyObligation (dat V c) (defs₀ (F := F)) Variants.none () Set.univ := fun t => by
  rw [bigSep_W1, bigSep_W1, defs₀_row]
  rw [show (dat V c).Φ t.castSucc = inv V c t.val from rfl, show (dat V c).Φ t.succ = inv V c (t.val + 1) from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold inv
  icases HΦ with ⟨%s, %hs, Ho, HX, HW⟩
  rw [before_0, before_1, before_2, before_3, before_4, before_5, before_6]
  iapply (PassB.run c (grid1.coords t) (st1_0 t) _ (st1_1 t) _ (st1_2 t) _ (st1_3 t) _ (st1_4 t) _ (st1_5 t) _ (st1_6 t) _ (st1_7 t) _ (st1_8 t) _
    (Memref.whole cc1_scratch0) _ (Memref.whole cc1_scratch1) _ (Memref.whole cc1_scratch2) _ (Memref.whole cc1_scratch3) _
    (qIn V c t) (kIn V c t) (qqIn V c t) (kkIn V c t) (cmIn V c t) (ciIn V c t) (thIn V c t) ((dat V c).before 7 t d7) ((dat V c).before 8 t d8)
    s (state V c (t.val + 1)) (step_of V c t s hs) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HX]; · iexact HX
  isplitl [H7]; · iexact H7
  isplitl [H8]; · iexact H8
  isplitl [HW]; · iexact HW
  iintro ⟨⟨H0, H1, H2, H3, H4, H5, H6⟩, HX, H7, H8, HW⟩
  isplitl [Ho HX HW]
  · iexists state V c (t.val + 1)
    isplitr; · ipureintro; exact fun _ => rfl
    isplitl [Ho]; · iexact Ho
    isplitl [HX]; · iexact HX
    iexact HW
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (left_7 V c t d7); iexact H7
  iapply (left_8 V c t d8); iexact H8

/-- The invariant at the start, from the scoped buffers. -/
theorem inv_start : (Pipeline.scopedRest (Ix := Unit) (Name := ℕ) (U := UR sig nD τ) (Lvl := ℕ) (Val := Elt F) spec1 c : sProp 𝕄) ⊢ inv V c 0 := by
  rw [scopedRest1_eq]
  unfold inv others PassB.extras
  iintro ⟨A0, A1, A2, A3, A4, A5, A6, A7, A8, ⟨%f0, S0⟩, ⟨%f1, S1⟩, ⟨%f2, S2⟩, ⟨%f3, S3⟩⟩
  iexists (f0, f1, f2)
  isplitr; · ipureintro; exact fun h => absurd rfl h
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  simp only [owns_whole_eq]
  isplitl [S0 S1 S2]
  · isplitl [S0]; · iexists f0; isplitr; (· ipureintro; rfl); iexact S0
    isplitl [S1]; · iexists f1; isplitr; (· ipureintro; rfl); iexact S1
    iexists f2; isplitr; (· ipureintro; rfl); iexact S2
  iexists f3; iexists f3; isplitr; (· ipureintro; rfl); iexact S3

/-- The scoped buffers, from the invariant at the end. -/
theorem inv_end (n : ℕ) : inv V c n ⊢ (Pipeline.scopedRest (Ix := Unit) (Name := ℕ) (U := UR sig nD τ) (Lvl := ℕ) (Val := Elt F) spec1 c : sProp 𝕄) := by
  rw [scopedRest1_eq]
  unfold inv others PassB.extras
  simp only [owns_whole_eq]
  iintro ⟨%s, %hs, ⟨A0, A1, A2, A3, A4, A5, A6, A7, A8⟩, ⟨⟨%f0, %e0, S0⟩, ⟨%f1, %e1, S1⟩, ⟨%f2, %e2, S2⟩⟩, ⟨%X, ⟨%f3, %e3, S3⟩⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists f0; iexact S0
  isplitl [S1]; · iexists f1; iexact S1
  isplitl [S2]; · iexists f2; iexact S2
  iexists f3; iexact S3

end Cert.Proof.RegionB

end
-- ==== Proof.Run.lean ====
/-
  The whole program run: from any memory with every counter at zero it ends, every counter at zero, and every buffer of
  the core that outlives the kernels is at the contents named here.
-/
module

public import proofs.«01_k».proof.Proof.RegionA
public import proofs.«01_k».proof.Proof.RegionB
public import proofs.«01_k».proof.Proof.Gen.KernelIdeal.Regions
public import Idealize.ShloMosaic.Lib.Pipeline.RegionArraysS
public import Idealize.ShloMosaic.Lib.StableHlo.RunHlo

@[expose] public section

noncomputable section

namespace Cert.Proof.Run

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ (UR sig nD τ) ℕ

/-- The waits' levels: every core's own cells are assigned. -/
abbrev L : GSem nD τ sig → Finset Unit := fun g => if g.1.2 = .tc then {()} else ∅
/-- All at level zero. -/
abbrev lv : GSem nD τ sig → Unit → ℕ := fun _ _ => 0

variable (m : (ℓ : Loc nD τ sig) → Buf (Elt F) ℓ)

/-- The buffers after pass A. -/
def W3 (c : Dev nD) : Valuation τ sig (Elt F) := Pipeline.afterRegion (RegionA.dat (V2 m) c) (V2 m c)

/-- The buffers after pass B. -/
def W4 (c : Dev nD) : Valuation τ sig (Elt F) := Pipeline.afterRegion (RegionB.dat (W3 m) c) (W3 m c)

/-- Both kernels' proof data. -/
def pdats : (p : Fin 2) → (c : Dev nD) → Dat τ (Elt F) Unit ℕ (UR sig nD τ) ℕ (cfgs p) c
  | ⟨0, _⟩ => fun c => RegionA.dat (V2 m) c
  | ⟨1, _⟩ => fun c => RegionB.dat (W3 m) c

/-- What rides beside the buffers: what the core owes, which is nothing. -/
abbrev E (_ : Fin 3) (c : Dev nD) : sProp 𝕄 := iprop((∃ Wd, owes (c : Thread nD τ) (0 : CellTallies nD τ sig Unit) Wd) ∗ BI.emp ∗ BI.emp)

/-- No core owes another anything, so every level will do. -/
theorem cut (p : Fin 2) : Pipeline.LevelCut (pcfgs (F := F)) adm () L lv p (fun _ => (0 : CellTallies nD τ sig Unit)) fun _ => 0 where
  hι c w s := by show () ∈ (if (Proc.tc : Proc τ) = .tc then ({()} : Finset Unit) else ∅); rw [if_pos rfl]; exact Finset.mem_singleton_self _
  hιb c w s := le_refl _
  hD c g i h := absurd h (lt_irrefl _)

/-- Pass A's invariant at the start. -/
theorem startA (c : Dev nD) : iprop(Pipeline.scopedRest (Ix := Unit) (Name := ℕ) (U := UR sig nD τ) (Lvl := ℕ) (Val := Elt F) spec0 c ∗ BI.emp) ⊢ (RegionA.dat (V2 m) c).Φ 0 := by
  show _ ⊢ Pipeline.scopedRest (Ix := Unit) (Name := ℕ) (U := UR sig nD τ) (Lvl := ℕ) (Val := Elt F) spec0 c
  iintro ⟨H, -⟩; iexact H

/-- Pass A's invariant at the end. -/
theorem endA (c : Dev nD) : (RegionA.dat (V2 m) c).Φ (Fin.last cfg0.N) ⊢ iprop(Pipeline.scopedRest (Ix := Unit) (Name := ℕ) (U := UR sig nD τ) (Lvl := ℕ) (Val := Elt F) spec0 c ∗ BI.emp) := by
  show Pipeline.scopedRest (Ix := Unit) (Name := ℕ) (U := UR sig nD τ) (Lvl := ℕ) (Val := Elt F) spec0 c ⊢ _
  iintro H; isplitl [H]; (· iexact H); iempintro

/-- Pass B's invariant at the start. -/
theorem startB (c : Dev nD) : iprop(Pipeline.scopedRest (Ix := Unit) (Name := ℕ) (U := UR sig nD τ) (Lvl := ℕ) (Val := Elt F) spec1 c ∗ BI.emp) ⊢ (RegionB.dat (W3 m) c).Φ 0 := by
  show _ ⊢ RegionB.inv (W3 m) c 0
  iintro ⟨H, -⟩; iapply (RegionB.inv_start (W3 m) c); iexact H

/-- Pass B's invariant at the end. -/
theorem endB (c : Dev nD) : (RegionB.dat (W3 m) c).Φ (Fin.last cfg1.N) ⊢ iprop(Pipeline.scopedRest (Ix := Unit) (Name := ℕ) (U := UR sig nD τ) (Lvl := ℕ) (Val := Elt F) spec1 c ∗ BI.emp) := by
  show RegionB.inv (W3 m) c cfg1.N ⊢ _
  iintro H; isplitl [H]; (· iapply (RegionB.inv_end (W3 m) c cfg1.N); iexact H); iempintro

set_option backward.isDefEq.respectTransparency.types false in
/-- Pass A as a segment of the program. -/
def segA : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => BI.emp) (fun _ => BI.emp) launch0.toP rfl (fun c => (RegionA.body_obligation (V2 m) c).loose) (fun _ _ => rfl) (fun _ => rfl)
    (fun c w => (pdats m 0 c).share_full (fun _ => rfl) w)
    (fun c => startA m c) (fun c => endA m c)
    (fun _ => 0) (cut 0) (fun _ => BI.emp) (V2 m) (fun _ _ => rfl)

set_option backward.isDefEq.respectTransparency.types false in
/-- Pass B as a segment of the program. -/
def segB : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => BI.emp) (fun _ => BI.emp) launch1.toP rfl (fun c => (RegionB.body_obligation (W3 m) c).loose) (fun _ _ => rfl) (fun _ => rfl)
    (fun c w => (pdats m 1 c).share_full (fun _ => rfl) w)
    (fun c => startB m c) (fun c => endB m c)
    (fun _ => 0) (cut 1) (fun _ => BI.emp) (W3 m) (fun _ _ => rfl)

/-- Pass A's arrays outlive the kernels. -/
theorem arrs0 : Pipeline.arrRefs (τ := τ) (pcfgs (F := F) 0).spec ⊆ Pipeline.ucRefs τ sig :=
  Pipeline.arrRefs_sub_ucRefs (τ := τ) spec0 (by decide)

/-- Pass B's arrays outlive the kernels. -/
theorem arrs1 : Pipeline.arrRefs (τ := τ) (pcfgs (F := F) 1).spec ⊆ Pipeline.ucRefs τ sig :=
  Pipeline.arrRefs_sub_ucRefs (τ := τ) spec1 (by decide)

set_option backward.isDefEq.respectTransparency.types false in
/-- Entering pass A. -/
theorem preA (c : Dev nD) : iprop(StableHlo.held (c : Thread nD τ) (Pipeline.ucRefs τ sig) (V2 m c) ∗ E (F := F) 0 c) ⊢ (segA m).pre c := by
  unfold segA
  exact RegionSeg.ofHeldIn_pre (W := V2 m) (X := fun _ => BI.emp) (R := fun _ => BI.emp) (D := fun _ => 0) arrs0 c

/-- Leaving pass A. -/
theorem postA (c : Dev nD) : (segA m).post c ⊢ iprop(StableHlo.held (c : Thread nD τ) (Pipeline.ucRefs τ sig) (W3 m c) ∗ E (F := F) 1 c) :=
  RegionSeg.ofHeldIn_post arrs0 c

set_option backward.isDefEq.respectTransparency.types false in
/-- Entering pass B. -/
theorem preB (c : Dev nD) : iprop(StableHlo.held (c : Thread nD τ) (Pipeline.ucRefs τ sig) (W3 m c) ∗ E (F := F) 1 c) ⊢ (segB m).pre c := by
  unfold segB
  exact RegionSeg.ofHeldIn_pre (W := W3 m) (X := fun _ => BI.emp) (R := fun _ => BI.emp) (D := fun _ => 0) arrs1 c

/-- Leaving pass B. -/
theorem postB (c : Dev nD) : (segB m).post c ⊢ iprop(StableHlo.held (c : Thread nD τ) (Pipeline.ucRefs τ sig) (W4 m c) ∗ E (F := F) 2 c) :=
  RegionSeg.ofHeldIn_post arrs1 c

/-- At the end nothing is owed. -/
theorem dropE (c : Dev nD) : E (F := F) 2 c ⊢ (iprop(∃ Wd, owes (c : Thread nD τ) (0 : CellTallies nD τ sig Unit) Wd) : sProp 𝕄) := by
  iintro ⟨H, -, -⟩; iexact H

set_option backward.isDefEq.respectTransparency.types false in
/-- The whole program: from any memory with every counter at zero it ends with every counter at zero, and every buffer
    that outlives the kernels is at the contents named above. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pdats m) () cellOf_inj emb₁ defs₀ Variants.none L lv m ρ main
    (segs m Variants.none L lv E () (pdats m) (segA m) (segB m))
    (fun c Q => by
      rewrite [main_chain c, Seg.run_eq_chain,
        show (segs m Variants.none L lv E () (pdats m) (segA m) (segB m) c).map Seg.prog = [
          StableHlo.seq hostOps0,
          StableHlo.seq hostOps0_1,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (hL := fun g h => if_neg h)
    (G := fun _ => BI.emp) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W4 m c))
    (hch := fun c => ⟨.rfl, .rfl, preA m c, (postA m c).trans (preB m c), (postB m c).trans (sep_mono .rfl (dropE c))⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      isplitl [HO]; · iexists _; iexact HO
      isplitl <;> iempintro)
    (QY := fun c s => ∀ b ∈ Pipeline.ucRefs τ sig, s.mem ((c.tc : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨h, funext fun g => hz g (.inr (regions_no_unscoped g.2))⟩)

/-- The first argument ends as it began. -/
theorem keeps0 (c : Dev nD) : W4 m c (Proc.devRef .tc main_arg0) = m ((c.tc : Thread nD τ).loc main_arg0) :=
  (Pipeline.afterRegion_of_not_arr (RegionB.dat (W3 m) c) (W3 m c) (by decide)).trans <|
    (Pipeline.afterRegion_of_not_arr (RegionA.dat (V2 m) c) (V2 m c) (by decide)).trans <|
      (V2_of m c _ (by decide)).trans (V1_of m c _ (by decide))

/-- The second argument ends as it began. -/
theorem keeps1 (c : Dev nD) : W4 m c (Proc.devRef .tc main_arg1) = m ((c.tc : Thread nD τ).loc main_arg1) :=
  (Pipeline.afterRegion_of_not_arr (RegionB.dat (W3 m) c) (W3 m c) (by decide)).trans <|
    (Pipeline.afterRegion_of_not_arr (RegionA.dat (V2 m) c) (V2 m c) (by decide)).trans <|
      (V2_of m c _ (by decide)).trans (V1_of m c _ (by decide))

/-- The frame: the program ends with its arguments unchanged and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c =>
    ⟨(h.1 c _ (Pipeline.devRef_mem_ucRefs (b := main_arg0) rfl)).trans (keeps0 m c),
     (h.1 c _ (Pipeline.devRef_mem_ucRefs (b := main_arg1) rfl)).trans (keeps1 m c)⟩, h.2⟩

end Cert.Proof.Run
end
-- ==== Proof.Same.lean ====
/-
  The program as printed and the program printed for reading at the ideal instance are one text, so what is proved of the
  second for any floats holds of the first.
-/
module

public import proofs.«01_k».proof.Defs
public import proofs.«01_k».proof.Proof.Gen.Kernel
public import proofs.«01_k».proof.Proof.Gen.KernelIdeal

@[expose] public section

noncomputable section

namespace Cert.Proof
open Idealize.ShloMosaic Idealize.SL.Sem
variable {F : FTy → Type} [FloatOps F]
variable [h : Cert.Kernel.Facts] [h' : Cert.KernelIdeal.Facts]

/-- Both programs give their kernels the same bodies. -/
theorem defs0_same : Cert.Kernel.defs₀ (F := F) = Cert.KernelIdeal.defs₀ (F := F) := by
  funext p l a
  rcases p with _ | _
  · rcases l with ⟨_|_|l, hl⟩
    · exact rfl
    · exact rfl
    · exact absurd hl (by omega)
  all_goals rfl

/-- Both programs' main functions are the same text. -/
theorem main_same (c : Dev Cert.Kernel.nD) : Cert.Kernel.main (F := F) c = Cert.KernelIdeal.main (F := F) c := rfl

/-- What the ideal reading's frame says at any floats, the printed program's frame says too. -/
theorem frame_same (m : (ℓ : Loc Cert.Kernel.nD Cert.Kernel.τ Cert.Kernel.sig) → Buf (Elt F) ℓ) (g : Dev Cert.Kernel.nD → PrngReg)
    (H : θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) :
    θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  rw [show Cert.Kernel.main (F := F) = Cert.KernelIdeal.main (F := F) from funext main_same,
    show Cert.Kernel.defs (F := F) = Cert.KernelIdeal.defs (F := F) from congrArg (Pipeline.defs _) defs0_same]
  exact H

end Cert.Proof
end
-- ==== Proof.HostArr.lean ====
/-
  The arrays the program prepares before its two kernels, as functions of the arguments.
-/
module

public import proofs.«01_k».proof.Proof.Run
public import Idealize.ShloMosaic.Lib.Pointwise

@[expose] public section

set_option maxRecDepth 16384

noncomputable section

namespace Cert.Proof.HostArr

open Cert.KernelIdeal Cert.KernelIdeal.Gen Cert.Proof
open Idealize.ShloMosaic Idealize.ShloMosaic.TcCoe

variable {F : FTy → Type} [FloatOps F]

/-- The queries as the kernels read them. -/
def hQ (A : Vec F S1024x128 .f32) : Vec F S1024x128 .bf16 := truncf .bf16 A bitsLt_bf16_f32
/-- The padded keys as the kernels read them. -/
def hK (B : Vec F S100000x128 .f32) : Vec F S100352x128 .bf16 :=
  pad S100352x128 ![0, 0] ![352, 0] ![0, 0] (truncf .bf16 B bitsLt_bf16_f32) (sitofp .bf16 (constantI S_ 32 0#32)) pads_S100000x128_S100352x128_03520_000 h_S_
/-- The queries' squared norms as the kernels read them. -/
def hQQ (A : Vec F S1024x128 .f32) : Vec F S1024x1 .f32 :=
  broadcastInDim S1024x1 ![0] bcast_S1024_S1024x1_0 (Host.reduceAdd (mulf A A) (constant S_ .f32 0x00000000#32) reducesTo_S1024x128_S1024_d1 h_S_)
/-- The padded keys' squared norms as the kernels read them. -/
def hKK (B : Vec F S100000x128 .f32) : Vec F S1x100352 .f32 :=
  broadcastInDim S1x100352 ![1] bcast_S100352_S1x100352_1 (concatenate S100352 0
    [⟨S100000, Host.reduceAdd (mulf B B) (constant S_ .f32 0x00000000#32) reducesTo_S100000x128_S100000_d1 h_S_⟩,
     ⟨S352, broadcastInDim S352 ![] bcast_S_S352 (constant S_ .f32 0x7F800000#32)⟩] concatenates_S100000_S352_S100352_d0)

variable (m : (ℓ : Loc nD τ sig) → Buf (Elt F) ℓ) (c : Dev nD)

/-- The queries' array before the kernels. -/
theorem v8_eq : (V2 m c (Proc.devRef .tc main_v8) : Vec F S1024x128 .bf16) = hQ (m ((c.tc : Thread nD τ).loc main_arg0)) := by
  rw [V2_of m c main_v8 (by decide)]
  unfold V1 hQ
  after_results
/-- The norms of the queries before the kernels. -/
theorem v2_eq : (V2 m c (Proc.devRef .tc main_v2) : Vec F S1024x1 .f32) = hQQ (m ((c.tc : Thread nD τ).loc main_arg0)) := by
  rw [V2_of m c main_v2 (by decide)]
  unfold V1 hQQ
  after_results
/-- The norms of the keys before the kernels. -/
theorem v7_eq : (V2 m c (Proc.devRef .tc main_v7) : Vec F S1x100352 .f32) = hKK (m ((c.tc : Thread nD τ).loc main_arg1)) := by
  rw [V2_of m c main_v7 (by decide)]
  unfold V1 hKK
  after_results
/-- The keys' array before the kernels. -/
theorem v10_eq : (V2 m c (Proc.devRef .tc main_v10) : Vec F S100352x128 .bf16) = hK (m ((c.tc : Thread nD τ).loc main_arg1)) := by
  unfold V2 hK
  after_results
  rfl

end Cert.Proof.HostArr

end
-- ==== Proof.ValMem.lean ====
/-
  The blocks the two kernels fetch, read at an index of the array they come from.
-/
module

public import proofs.«01_k».proof.Proof.RegionA
public import proofs.«01_k».proof.Proof.RegionB
public import Idealize.ShloMosaic.Lib.Pointwise

@[expose] public section

set_option maxRecDepth 16384

noncomputable section

namespace Cert.Proof.ValMem

open Cert.KernelIdeal Cert.KernelIdeal.Gen Cert.Proof
open Idealize.ShloMosaic Idealize.ShloMosaic.TcCoe

variable (V : (c : Dev nD) → Valuation τ sig (Elt Ideal)) (c : Dev nD)

/-- The queries, as the first kernel's array. -/
def aQ : Vec Ideal S1024x128 .bf16 := V c (Proc.devRef .tc main_v8)
/-- The padded keys, as the first kernel's array. -/
def aK : Vec Ideal S100352x128 .bf16 := V c (Proc.devRef .tc main_v10)
/-- The queries' squared norms. -/
def aQQ : Vec Ideal S1024x1 .f32 := V c (Proc.devRef .tc main_v2)
/-- The padded keys' squared norms. -/
def aKK : Vec Ideal S1x100352 .f32 := V c (Proc.devRef .tc main_v7)

/-- Where a block index lies in the padded keys. -/
def at0 (t : Fin cfg0.N) (x : Fin 2048) : Fin 100352 := ⟨2048 * t.val + x.val, by have : t.val < 49 := N_0 ▸ t.isLt; omega⟩
/-- Where a block index lies in the padded keys, second kernel. -/
def at1 (t : Fin cfg1.N) (x : Fin 2048) : Fin 100352 := ⟨2048 * t.val + x.val, by have : t.val < 49 := N_1 ▸ t.isLt; omega⟩

/-- The first kernel's block of queries is always the first. -/
theorem ix00 : ∀ t : Fin cfg0.N, (cfg0.win 0).index t 0 = 0 ∧ (cfg0.win 0).index t 1 = 0 := by decide
/-- The first kernel's block of keys is the point's. -/
theorem ix01 : ∀ t : Fin cfg0.N, (cfg0.win 1).index t 0 = t.val ∧ (cfg0.win 1).index t 1 = 0 := by decide
/-- The first kernel's block of query norms is always the first. -/
theorem ix02 : ∀ t : Fin cfg0.N, (cfg0.win 2).index t 0 = 0 ∧ (cfg0.win 2).index t 1 = 0 := by decide
/-- The first kernel's block of key norms is the point's. -/
theorem ix03 : ∀ t : Fin cfg0.N, (cfg0.win 3).index t 0 = 0 ∧ (cfg0.win 3).index t 1 = t.val := by decide

/-- The staged queries are the queries. -/
theorem qIn0 (t : Fin cfg0.N) (q : Fin 1024) (k : Fin 128) : RegionA.qIn V c t (ix2 q k) = aQ V c (ix2 q k) := by
  show (V c (Proc.devRef .tc main_v8) : Vec Ideal S1024x128 .bf16) (((cfg0.win 0).rect t).emb (ix2 q k)) = _
  refine congrArg (V c (Proc.devRef .tc main_v8) : Vec Ideal S1024x128 .bf16) (funext fun a => Fin.ext ?_)
  rw [(cfg0.win 0).rect_emb_val t _ a]
  fin_cases a
  · exact (congrArg (· * 1024 + q.val) (ix00 t).1).trans (by simp)
  · exact (congrArg (· * 128 + k.val) (ix00 t).2).trans (by simp)

/-- The staged keys are the point's rows of the padded keys. -/
theorem kIn0 (t : Fin cfg0.N) (x : Fin 2048) (k : Fin 128) : RegionA.kIn V c t (ix2 x k) = aK V c (ix2 (at0 t x) k) := by
  show (V c (Proc.devRef .tc main_v10) : Vec Ideal S100352x128 .bf16) (((cfg0.win 1).rect t).emb (ix2 x k)) = _
  refine congrArg (V c (Proc.devRef .tc main_v10) : Vec Ideal S100352x128 .bf16) (funext fun a => Fin.ext ?_)
  rw [(cfg0.win 1).rect_emb_val t _ a]
  fin_cases a
  · exact (congrArg (· * 2048 + x.val) (ix01 t).1).trans (by show _ = 2048 * t.val + x.val; omega)
  · exact (congrArg (· * 128 + k.val) (ix01 t).2).trans (by simp)

/-- The staged query norms are the query norms. -/
theorem qqIn0 (t : Fin cfg0.N) (q : Fin 1024) : RegionA.qqIn V c t (ix2 q 0) = aQQ V c (ix2 q 0) := by
  show (V c (Proc.devRef .tc main_v2) : Vec Ideal S1024x1 .f32) (((cfg0.win 2).rect t).emb (ix2 q 0)) = _
  refine congrArg (V c (Proc.devRef .tc main_v2) : Vec Ideal S1024x1 .f32) (funext fun a => Fin.ext ?_)
  rw [(cfg0.win 2).rect_emb_val t _ a]
  fin_cases a
  · exact (congrArg (· * 1024 + q.val) (ix02 t).1).trans (by simp)
  · exact (congrArg (· * 1 + 0) (ix02 t).2).trans (by rfl)

/-- The staged key norms are the point's columns of the padded key norms. -/
theorem kkIn0 (t : Fin cfg0.N) (x : Fin 2048) : RegionA.kkIn V c t (ix2 0 x) = aKK V c (ix2 0 (at0 t x)) := by
  show (V c (Proc.devRef .tc main_v7) : Vec Ideal S1x100352 .f32) (((cfg0.win 3).rect t).emb (ix2 0 x)) = _
  refine congrArg (V c (Proc.devRef .tc main_v7) : Vec Ideal S1x100352 .f32) (funext fun a => Fin.ext ?_)
  rw [(cfg0.win 3).rect_emb_val t _ a]
  fin_cases a
  · exact (congrArg (· * 1 + 0) (ix03 t).1).trans (by rfl)
  · exact (congrArg (· * 2048 + x.val) (ix03 t).2).trans (by show _ = 2048 * t.val + x.val; omega)

/-- The second kernel's block of queries is always the first. -/
theorem ix10 : ∀ t : Fin cfg1.N, (cfg1.win 0).index t 0 = 0 ∧ (cfg1.win 0).index t 1 = 0 := by decide
/-- The second kernel's block of keys is the point's. -/
theorem ix11 : ∀ t : Fin cfg1.N, (cfg1.win 1).index t 0 = t.val ∧ (cfg1.win 1).index t 1 = 0 := by decide
/-- The second kernel's block of query norms is always the first. -/
theorem ix12 : ∀ t : Fin cfg1.N, (cfg1.win 2).index t 0 = 0 ∧ (cfg1.win 2).index t 1 = 0 := by decide
/-- The second kernel's block of key norms is the point's. -/
theorem ix13 : ∀ t : Fin cfg1.N, (cfg1.win 3).index t 0 = 0 ∧ (cfg1.win 3).index t 1 = t.val := by decide

/-- The second kernel's staged queries are the queries. -/
theorem qIn1 (t : Fin cfg1.N) (q : Fin 1024) (k : Fin 128) : RegionB.qIn V c t (ix2 q k) = aQ V c (ix2 q k) := by
  show (V c (Proc.devRef .tc main_v8) : Vec Ideal S1024x128 .bf16) (((cfg1.win 0).rect t).emb (ix2 q k)) = _
  refine congrArg (V c (Proc.devRef .tc main_v8) : Vec Ideal S1024x128 .bf16) (funext fun a => Fin.ext ?_)
  rw [(cfg1.win 0).rect_emb_val t _ a]
  fin_cases a
  · exact (congrArg (· * 1024 + q.val) (ix10 t).1).trans (by simp)
  · exact (congrArg (· * 128 + k.val) (ix10 t).2).trans (by simp)

/-- The second kernel's staged keys are the point's rows of the padded keys. -/
theorem kIn1 (t : Fin cfg1.N) (x : Fin 2048) (k : Fin 128) : RegionB.kIn V c t (ix2 x k) = aK V c (ix2 (at1 t x) k) := by
  show (V c (Proc.devRef .tc main_v10) : Vec Ideal S100352x128 .bf16) (((cfg1.win 1).rect t).emb (ix2 x k)) = _
  refine congrArg (V c (Proc.devRef .tc main_v10) : Vec Ideal S100352x128 .bf16) (funext fun a => Fin.ext ?_)
  rw [(cfg1.win 1).rect_emb_val t _ a]
  fin_cases a
  · exact (congrArg (· * 2048 + x.val) (ix11 t).1).trans (by show _ = 2048 * t.val + x.val; omega)
  · exact (congrArg (· * 128 + k.val) (ix11 t).2).trans (by simp)

/-- The second kernel's staged query norms are the query norms. -/
theorem qqIn1 (t : Fin cfg1.N) (q : Fin 1024) : RegionB.qqIn V c t (ix2 q 0) = aQQ V c (ix2 q 0) := by
  show (V c (Proc.devRef .tc main_v2) : Vec Ideal S1024x1 .f32) (((cfg1.win 2).rect t).emb (ix2 q 0)) = _
  refine congrArg (V c (Proc.devRef .tc main_v2) : Vec Ideal S1024x1 .f32) (funext fun a => Fin.ext ?_)
  rw [(cfg1.win 2).rect_emb_val t _ a]
  fin_cases a
  · exact (congrArg (· * 1024 + q.val) (ix12 t).1).trans (by simp)
  · exact (congrArg (· * 1 + 0) (ix12 t).2).trans (by rfl)

/-- The second kernel's staged key norms are the point's columns of the padded key norms. -/
theorem kkIn1 (t : Fin cfg1.N) (x : Fin 2048) : RegionB.kkIn V c t (ix2 0 x) = aKK V c (ix2 0 (at1 t x)) := by
  show (V c (Proc.devRef .tc main_v7) : Vec Ideal S1x100352 .f32) (((cfg1.win 3).rect t).emb (ix2 0 x)) = _
  refine congrArg (V c (Proc.devRef .tc main_v7) : Vec Ideal S1x100352 .f32) (funext fun a => Fin.ext ?_)
  rw [(cfg1.win 3).rect_emb_val t _ a]
  fin_cases a
  · exact (congrArg (· * 1 + 0) (ix13 t).1).trans (by rfl)
  · exact (congrArg (· * 2048 + x.val) (ix13 t).2).trans (by show _ = 2048 * t.val + x.val; omega)

/-- The lane minima the second kernel reads. -/
def aCM : Vec Ideal S1024x128 .f32 := V c (Proc.devRef .tc main_v11_0)
/-- The second kernel's block of lane minima is always the first. -/
theorem ix14 : ∀ t : Fin cfg1.N, (cfg1.win 4).index t 0 = 0 ∧ (cfg1.win 4).index t 1 = 0 := by decide
/-- The second kernel's staged lane minima are the lane minima. -/
theorem cmIn1 (t : Fin cfg1.N) (q : Fin 1024) (k : Fin 128) : RegionB.cmIn V c t (ix2 q k) = aCM V c (ix2 q k) := by
  show (V c (Proc.devRef .tc main_v11_0) : Vec Ideal S1024x128 .f32) (((cfg1.win 4).rect t).emb (ix2 q k)) = _
  refine congrArg (V c (Proc.devRef .tc main_v11_0) : Vec Ideal S1024x128 .f32) (funext fun a => Fin.ext ?_)
  rw [(cfg1.win 4).rect_emb_val t _ a]
  fin_cases a
  · exact (congrArg (· * 1024 + q.val) (ix14 t).1).trans (by simp)
  · exact (congrArg (· * 128 + k.val) (ix14 t).2).trans (by simp)

/-- The distance from a query to a padded key, as the kernels compute it. -/
def D (q : Fin 1024) (n : Fin 100352) : EReal :=
  (aQQ V c (ix2 q 0) - Ideal.ofBits .f32 0x40000000#32 * ∑ k : Fin 128, aQ V c (ix2 q k) * aK V c (ix2 n k)) + aKK V c (ix2 0 n)

/-- The first kernel's block of distances. -/
theorem dist0 (t : Fin cfg0.N) (q : Fin 1024) (x : Fin 2048) :
    k0_pay14 (RegionA.qIn V c t) (RegionA.kIn V c t) (RegionA.qqIn V c t) (RegionA.kkIn V c t) (ix2 q x) = D V c q (at0 t x) := by
  pointwise [k0_pay14]
  simp only [qIn0, kIn0, qqIn0, kkIn0, D]

/-- The second kernel's block of distances. -/
theorem dist1 (t : Fin cfg1.N) (q : Fin 1024) (x : Fin 2048) :
    k1_pay161 (RegionB.qIn V c t) (RegionB.kIn V c t) (RegionB.qqIn V c t) (RegionB.kkIn V c t) (ix2 q x) = D V c q (at1 t x) := by
  pointwise [k1_pay161]
  simp only [qIn1, kIn1, qqIn1, kkIn1, D]

end Cert.Proof.ValMem

end
-- ==== Proof.ValA.lean ====
/-
  Pass A at the extended reals: what the running lane minimum is bounded by, and where its value comes from.
-/
module

public import proofs.«01_k».proof.Proof.ValMem
public import Idealize.ShloMosaic.Lib.Pointwise

@[expose] public section

set_option maxRecDepth 16384

noncomputable section

namespace Cert.Proof.ValA

open Cert.KernelIdeal Cert.KernelIdeal.Gen
open Idealize.ShloMosaic
open Cert.Proof.PassA Cert.Proof.ValMem
open Cert.Proof

/-- The word of positive infinity reads as the top element. -/
theorem ofBits_inf : Ideal.ofBits .f32 0x7F800000#32 = (⊤ : EReal) := by
  simp [Ideal.ofBits, Ideal.ieee]

/-- A property of two values is one of the smaller. -/
theorem min_pred {P : EReal → Prop} {a b : EReal} (ha : P a) (hb : P b) : P (min a b) := by
  rcases min_choice a b with h | h <;> rw [h] <;> assumption

/-- The least of sixteen values, taken in a balanced tree: it is at most each of them and is one of them. -/
theorem tree16 (f : Fin 16 → EReal) (m : EReal)
    (h : m = min (min (min (min (f 0) (f 1)) (min (f 2) (f 3))) (min (min (f 4) (f 5)) (min (f 6) (f 7))))
      (min (min (min (f 8) (f 9)) (min (f 10) (f 11))) (min (min (f 12) (f 13)) (min (f 14) (f 15))))) :
    (∀ g, m ≤ f g) ∧ ∃ g, m = f g := by
  constructor
  · intro g; rw [h]; fin_cases g <;> simp [min_le_iff]
  · have hf : ∀ k, ∃ g, f k = f g := fun k => ⟨k, rfl⟩
    have : (fun v => ∃ g, v = f g) m := by
      rw [h]
      repeat' apply min_pred (P := fun v => ∃ g, v = f g)
      all_goals exact hf _
    exact this

/-- The lane minima are the least of sixteen distances. -/
theorem bmin_at (x1 : Vec Ideal S1024x128 .bf16) (x2 : Vec Ideal S2048x128 .bf16) (x3 : Vec Ideal S1024x1 .f32) (x4 : Vec Ideal S1x2048 .f32)
    (q : Fin 1024) (l : Fin 128) :
    (∀ g : Fin 16, bmin x1 x2 x3 x4 (ix2 q l) ≤ k0_pay14 x1 x2 x3 x4 (ix2 q ⟨128 * g.val + l.val, by omega⟩))
    ∧ ∃ g : Fin 16, bmin x1 x2 x3 x4 (ix2 q l) = k0_pay14 x1 x2 x3 x4 (ix2 q ⟨128 * g.val + l.val, by omega⟩) := by
  unfold bmin k0_pay35 k0_pay31 k0_pay32 k0_pay33 k0_pay34
  unfold k0_pay15 k0_pay16 k0_pay17 k0_pay18 k0_pay19 k0_pay20 k0_pay21 k0_pay22 k0_pay23 k0_pay24 k0_pay25 k0_pay26 k0_pay27 k0_pay28 k0_pay29 k0_pay30
  generalize k0_pay14 x1 x2 x3 x4 = d
  refine tree16 (fun g => d (ix2 q ⟨128 * g.val + l.val, by omega⟩)) _ ?_
  pointwise []

/-- The starting lane minima are all the top element. -/
theorem init_at (y : S1024x128.Idx) : k0_pay12 (F := Ideal) y = (⊤ : EReal) := by
  pointwise [k0_pay12]
  exact ofBits_inf

/-- The update keeps the smaller of the block's lane minimum and the one held. -/
theorem upd_at (b s : Vec Ideal S1024x128 .f32) (y : S1024x128.Idx) : k0_pay3 b s s y = min (b y) (s y) := by
  pointwise [k0_pay3, k0_pay1]
  rw [min_def]
  by_cases h : b y < s y
  · rw [if_pos h, if_pos h.le]
  · rcases eq_or_lt_of_le (not_lt.mp h) with e | e
    · rw [if_neg h, e]; simp
    · rw [if_neg h, if_neg (not_le.mpr e)]

variable (V : (c : Dev nD) → Valuation τ sig (Elt Ideal)) (c : Dev nD)

/-- What holds of the lane minima after the blocks before `n`: each is at most every distance of its lane so far, and is the
    top element or the distance to some key of the lane. -/
def InvA (n : ℕ) : Prop :=
  ∀ (q : Fin 1024) (l : Fin 128),
    (∀ m : Fin 100352, m.val < 2048 * n → m.val % 128 = l.val → (RegionA.state V c n).1 (ix2 q l) ≤ D V c q m)
    ∧ ((RegionA.state V c n).1 (ix2 q l) = (⊤ : EReal) ∨ ∃ m : Fin 100352, m.val % 128 = l.val ∧ (RegionA.state V c n).1 (ix2 q l) = D V c q m)

/-- One point's new lane minima. -/
theorem state_at (t : Fin cfg0.N) (q : Fin 1024) (l : Fin 128) :
    (RegionA.state V c (t.val + 1)).1 (ix2 q l)
      = min (bmin (RegionA.qIn V c t) (RegionA.kIn V c t) (RegionA.qqIn V c t) (RegionA.kkIn V c t) (ix2 q l)) ((RegionA.state V c t.val).1 (ix2 q l)) := by
  rw [RegionA.state_succ]
  unfold RegionA.step cminN
  have e : cmin0 (grid0.coords t) (RegionA.state V c t.val).1 = (RegionA.state V c t.val).1 := by
    unfold cmin0
    by_cases h : first (grid0.coords t) = 1#1
    · rw [if_pos h, (RegionA.first_iff t).mp h]; rfl
    · rw [if_neg h]
  simp only [e]
  exact upd_at _ _ _

/-- The facts about the lane minima hold after every point. -/
theorem invA : ∀ n : ℕ, n ≤ 49 → InvA V c n
  | 0, _ => fun q l => ⟨fun m hm _ => absurd hm (by omega), Or.inl (init_at (ix2 q l))⟩
  | n + 1, hn => fun q l => by
    have hN : n < cfg0.N := by show n < grid0.N; rw [N_0]; omega
    have ih := invA n (by omega) q l
    have hs := state_at V c ⟨n, hN⟩ q l
    have hb := bmin_at (RegionA.qIn V c ⟨n, hN⟩) (RegionA.kIn V c ⟨n, hN⟩) (RegionA.qqIn V c ⟨n, hN⟩) (RegionA.kkIn V c ⟨n, hN⟩) q l
    dsimp only at hs
    simp only [dist0] at hb
    rw [hs]
    refine ⟨fun m hm hl => ?_, ?_⟩
    · by_cases hlt : m.val < 2048 * n
      · exact (min_le_right _ _).trans (ih.1 m hlt hl)
      · refine (min_le_left _ _).trans ((hb.1 ⟨(m.val - 2048 * n) / 128, by omega⟩).trans (le_of_eq (congrArg (D V c q) (Fin.ext ?_))))
        show 2048 * n + (128 * ((m.val - 2048 * n) / 128) + l.val) = m.val
        omega
    · refine min_pred (P := fun v => v = ⊤ ∨ ∃ m : Fin 100352, m.val % 128 = l.val ∧ v = D V c q m) ?_ ih.2
      obtain ⟨g, hg⟩ := hb.2
      refine Or.inr ⟨_, ?_, hg⟩
      show (2048 * n + (128 * g.val + l.val)) % 128 = l.val
      omega

end Cert.Proof.ValA

end
-- ==== Proof.ValB.lean ====
/-
  Pass B at the extended reals: where every value it records comes from.
-/
module

public import proofs.«01_k».proof.Proof.ValA

@[expose] public section

set_option maxRecDepth 16384

noncomputable section

namespace Cert.Proof.ValB

open Cert.KernelIdeal Cert.KernelIdeal.Gen Cert.Proof
open Idealize.ShloMosaic
open Cert.Proof.PassB Cert.Proof.ValA

/-- The word of the key index at a slice's lane. -/
def keyWord (i : grid1.Coords) (g : ℕ) (l : Fin 128) : BitVec 32 := BitVec.ofNat 32 (2048 * (i 0).val + (128 * g + l.val))

/-- The choice between a distance and the top element, as a conditional. -/
theorem sel_eq (p : Prop) [Decidable p] (A B K : BitVec 32) (x : EReal) (h : A = K) :
    Scalar.select (IntOp.andi (BitVec.ofBool (decide p)) (IntOp.cmpi .ne A B)) x (Ideal.ofBits .f32 0x7F800000#32)
      = if p ∧ K ≠ B then x else (⊤ : EReal) := by
  subst h
  rw [ofBits_inf]
  by_cases hb : A = B
  · subst hb; by_cases hp : p <;> simp [Scalar.select, IntOp.andi, IntOp.cmpi, hp]
  · have hb2 : (A != B) = true := bne_iff_ne.mpr hb
    by_cases hp : p <;> simp [Scalar.select, IntOp.andi, IntOp.cmpi, hp, hb, hb2]

/-- Slice 0 of the flagged values. -/
theorem wv_0 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 0 (ix2 q l)
      = if k1_pay161 X1 X2 X3 X4 (ix2 q ⟨128 * 0 + l.val, by omega⟩) ≤ X7 (ix2 q 0) ∧ keyWord i 0 l ≠ X6 (ix2 q l)
        then k1_pay161 X1 X2 X3 X4 (ix2 q ⟨128 * 0 + l.val, by omega⟩) else (⊤ : EReal) := by
  show k1_pay166 i X1 X2 X3 X4 X7 X6 (ix2 q l) = _
  unfold k1_pay166 k1_pay165 k1_pay164
  generalize k1_pay161 X1 X2 X3 X4 = d
  unfold_payloads
  pointwise [io128, pt]
  refine (sel_eq _ _ _ (keyWord i 0 l) _ ?_).trans ?_
  · unfold keyWord
    simp [Scalar.addi, Scalar.muli, IntOp.addi, IntOp.muli, BitVec.ofNat_add, BitVec.ofNat_mul, mul_comm, add_assoc]
  · simp
/-- Slice 1 of the flagged values. -/
theorem wv_1 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 1 (ix2 q l)
      = if k1_pay161 X1 X2 X3 X4 (ix2 q ⟨128 * 1 + l.val, by omega⟩) ≤ X7 (ix2 q 0) ∧ keyWord i 1 l ≠ X6 (ix2 q l)
        then k1_pay161 X1 X2 X3 X4 (ix2 q ⟨128 * 1 + l.val, by omega⟩) else (⊤ : EReal) := by
  show k1_pay170 _ _ _ _ _ (ix2 q l) = _
  unfold k1_pay170 k1_pay169 k1_pay168
  generalize k1_pay161 X1 X2 X3 X4 = d
  unfold_payloads
  pointwise [io128, pt]
  refine (sel_eq _ _ _ (keyWord i 1 l) _ ?_).trans ?_
  · unfold keyWord
    simp [Scalar.addi, Scalar.muli, IntOp.addi, IntOp.muli, BitVec.ofNat_add, BitVec.ofNat_mul, mul_comm, add_assoc]
  · simp
/-- Slice 2 of the flagged values. -/
theorem wv_2 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 2 (ix2 q l)
      = if k1_pay161 X1 X2 X3 X4 (ix2 q ⟨128 * 2 + l.val, by omega⟩) ≤ X7 (ix2 q 0) ∧ keyWord i 2 l ≠ X6 (ix2 q l)
        then k1_pay161 X1 X2 X3 X4 (ix2 q ⟨128 * 2 + l.val, by omega⟩) else (⊤ : EReal) := by
  show k1_pay173 _ _ _ _ _ (ix2 q l) = _
  unfold PassB.dist
  generalize k1_pay161 X1 X2 X3 X4 = d
  unfold_payloads
  pointwise [io128, pt]
  refine (sel_eq _ _ _ (keyWord i 2 l) _ ?_).trans ?_
  · unfold keyWord
    simp [Scalar.addi, Scalar.muli, IntOp.addi, IntOp.muli, BitVec.ofNat_add, BitVec.ofNat_mul, mul_comm, add_assoc]
  · simp
/-- Slice 3 of the flagged values. -/
theorem wv_3 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 3 (ix2 q l)
      = if k1_pay161 X1 X2 X3 X4 (ix2 q ⟨128 * 3 + l.val, by omega⟩) ≤ X7 (ix2 q 0) ∧ keyWord i 3 l ≠ X6 (ix2 q l)
        then k1_pay161 X1 X2 X3 X4 (ix2 q ⟨128 * 3 + l.val, by omega⟩) else (⊤ : EReal) := by
  show k1_pay176 _ _ _ _ _ (ix2 q l) = _
  unfold PassB.dist
  generalize k1_pay161 X1 X2 X3 X4 = d
  unfold_payloads
  pointwise [io128, pt]
  refine (sel_eq _ _ _ (keyWord i 3 l) _ ?_).trans ?_
  · unfold keyWord
    simp [Scalar.addi, Scalar.muli, IntOp.addi, IntOp.muli, BitVec.ofNat_add, BitVec.ofNat_mul, mul_comm, add_assoc]
  · simp
/-- Slice 4 of the flagged values. -/
theorem wv_4 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 4 (ix2 q l)
      = if k1_pay161 X1 X2 X3 X4 (ix2 q ⟨128 * 4 + l.val, by omega⟩) ≤ X7 (ix2 q 0) ∧ keyWord i 4 l ≠ X6 (ix2 q l)
        then k1_pay161 X1 X2 X3 X4 (ix2 q ⟨128 * 4 + l.val, by omega⟩) else (⊤ : EReal) := by
  show k1_pay181 _ _ _ (ix2 q l) = _
  unfold PassB.dist
  generalize k1_pay161 X1 X2 X3 X4 = d
  unfold_payloads
  pointwise [io128, pt]
  refine (sel_eq _ _ _ (keyWord i 4 l) _ ?_).trans ?_
  · unfold keyWord
    simp [Scalar.addi, Scalar.muli, IntOp.addi, IntOp.muli, BitVec.ofNat_add, BitVec.ofNat_mul, mul_comm, add_assoc]
  · simp
/-- Slice 5 of the flagged values. -/
theorem wv_5 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 5 (ix2 q l)
      = if k1_pay161 X1 X2 X3 X4 (ix2 q ⟨128 * 5 + l.val, by omega⟩) ≤ X7 (ix2 q 0) ∧ keyWord i 5 l ≠ X6 (ix2 q l)
        then k1_pay161 X1 X2 X3 X4 (ix2 q ⟨128 * 5 + l.val, by omega⟩) else (⊤ : EReal) := by
  show k1_pay184 _ _ _ _ _ (ix2 q l) = _
  unfold PassB.dist
  generalize k1_pay161 X1 X2 X3 X4 = d
  unfold_payloads
  pointwise [io128, pt]
  refine (sel_eq _ _ _ (keyWord i 5 l) _ ?_).trans ?_
  · unfold keyWord
    simp [Scalar.addi, Scalar.muli, IntOp.addi, IntOp.muli, BitVec.ofNat_add, BitVec.ofNat_mul, mul_comm, add_assoc]
  · simp
/-- Slice 6 of the flagged values. -/
theorem wv_6 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 6 (ix2 q l)
      = if k1_pay161 X1 X2 X3 X4 (ix2 q ⟨128 * 6 + l.val, by omega⟩) ≤ X7 (ix2 q 0) ∧ keyWord i 6 l ≠ X6 (ix2 q l)
        then k1_pay161 X1 X2 X3 X4 (ix2 q ⟨128 * 6 + l.val, by omega⟩) else (⊤ : EReal) := by
  show k1_pay187 _ _ _ _ _ (ix2 q l) = _
  unfold PassB.dist
  generalize k1_pay161 X1 X2 X3 X4 = d
  unfold_payloads
  pointwise [io128, pt]
  refine (sel_eq _ _ _ (keyWord i 6 l) _ ?_).trans ?_
  · unfold keyWord
    simp [Scalar.addi, Scalar.muli, IntOp.addi, IntOp.muli, BitVec.ofNat_add, BitVec.ofNat_mul, mul_comm, add_assoc]
  · simp
/-- Slice 7 of the flagged values. -/
theorem wv_7 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 7 (ix2 q l)
      = if k1_pay161 X1 X2 X3 X4 (ix2 q ⟨128 * 7 + l.val, by omega⟩) ≤ X7 (ix2 q 0) ∧ keyWord i 7 l ≠ X6 (ix2 q l)
        then k1_pay161 X1 X2 X3 X4 (ix2 q ⟨128 * 7 + l.val, by omega⟩) else (⊤ : EReal) := by
  show k1_pay190 _ _ _ _ _ (ix2 q l) = _
  unfold PassB.dist
  generalize k1_pay161 X1 X2 X3 X4 = d
  unfold_payloads
  pointwise [io128, pt]
  refine (sel_eq _ _ _ (keyWord i 7 l) _ ?_).trans ?_
  · unfold keyWord
    simp [Scalar.addi, Scalar.muli, IntOp.addi, IntOp.muli, BitVec.ofNat_add, BitVec.ofNat_mul, mul_comm, add_assoc]
  · simp
/-- Slice 8 of the flagged values. -/
theorem wv_8 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 8 (ix2 q l)
      = if k1_pay161 X1 X2 X3 X4 (ix2 q ⟨128 * 8 + l.val, by omega⟩) ≤ X7 (ix2 q 0) ∧ keyWord i 8 l ≠ X6 (ix2 q l)
        then k1_pay161 X1 X2 X3 X4 (ix2 q ⟨128 * 8 + l.val, by omega⟩) else (⊤ : EReal) := by
  show k1_pay196 _ _ _ _ (ix2 q l) = _
  unfold PassB.dist
  generalize k1_pay161 X1 X2 X3 X4 = d
  unfold_payloads
  pointwise [io128, pt]
  refine (sel_eq _ _ _ (keyWord i 8 l) _ ?_).trans ?_
  · unfold keyWord
    simp [Scalar.addi, Scalar.muli, IntOp.addi, IntOp.muli, BitVec.ofNat_add, BitVec.ofNat_mul, mul_comm, add_assoc]
  · simp
/-- Slice 9 of the flagged values. -/
theorem wv_9 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 9 (ix2 q l)
      = if k1_pay161 X1 X2 X3 X4 (ix2 q ⟨128 * 9 + l.val, by omega⟩) ≤ X7 (ix2 q 0) ∧ keyWord i 9 l ≠ X6 (ix2 q l)
        then k1_pay161 X1 X2 X3 X4 (ix2 q ⟨128 * 9 + l.val, by omega⟩) else (⊤ : EReal) := by
  show k1_pay199 _ _ _ _ _ (ix2 q l) = _
  unfold PassB.dist
  generalize k1_pay161 X1 X2 X3 X4 = d
  unfold_payloads
  pointwise [io128, pt]
  refine (sel_eq _ _ _ (keyWord i 9 l) _ ?_).trans ?_
  · unfold keyWord
    simp [Scalar.addi, Scalar.muli, IntOp.addi, IntOp.muli, BitVec.ofNat_add, BitVec.ofNat_mul, mul_comm, add_assoc]
  · simp
/-- Slice 10 of the flagged values. -/
theorem wv_10 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 10 (ix2 q l)
      = if k1_pay161 X1 X2 X3 X4 (ix2 q ⟨128 * 10 + l.val, by omega⟩) ≤ X7 (ix2 q 0) ∧ keyWord i 10 l ≠ X6 (ix2 q l)
        then k1_pay161 X1 X2 X3 X4 (ix2 q ⟨128 * 10 + l.val, by omega⟩) else (⊤ : EReal) := by
  show k1_pay202 _ _ _ _ _ (ix2 q l) = _
  unfold PassB.dist
  generalize k1_pay161 X1 X2 X3 X4 = d
  unfold_payloads
  pointwise [io128, pt]
  refine (sel_eq _ _ _ (keyWord i 10 l) _ ?_).trans ?_
  · unfold keyWord
    simp [Scalar.addi, Scalar.muli, IntOp.addi, IntOp.muli, BitVec.ofNat_add, BitVec.ofNat_mul, mul_comm, add_assoc]
  · simp
/-- Slice 11 of the flagged values. -/
theorem wv_11 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 11 (ix2 q l)
      = if k1_pay161 X1 X2 X3 X4 (ix2 q ⟨128 * 11 + l.val, by omega⟩) ≤ X7 (ix2 q 0) ∧ keyWord i 11 l ≠ X6 (ix2 q l)
        then k1_pay161 X1 X2 X3 X4 (ix2 q ⟨128 * 11 + l.val, by omega⟩) else (⊤ : EReal) := by
  show k1_pay205 _ _ _ _ _ (ix2 q l) = _
  unfold PassB.dist
  generalize k1_pay161 X1 X2 X3 X4 = d
  unfold_payloads
  pointwise [io128, pt]
  refine (sel_eq _ _ _ (keyWord i 11 l) _ ?_).trans ?_
  · unfold keyWord
    simp [Scalar.addi, Scalar.muli, IntOp.addi, IntOp.muli, BitVec.ofNat_add, BitVec.ofNat_mul, mul_comm, add_assoc]
  · simp
/-- Slice 12 of the flagged values. -/
theorem wv_12 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 12 (ix2 q l)
      = if k1_pay161 X1 X2 X3 X4 (ix2 q ⟨128 * 12 + l.val, by omega⟩) ≤ X7 (ix2 q 0) ∧ keyWord i 12 l ≠ X6 (ix2 q l)
        then k1_pay161 X1 X2 X3 X4 (ix2 q ⟨128 * 12 + l.val, by omega⟩) else (⊤ : EReal) := by
  show k1_pay210 _ _ _ _ _ (ix2 q l) = _
  unfold PassB.dist
  generalize k1_pay161 X1 X2 X3 X4 = d
  unfold_payloads
  pointwise [io128, pt]
  refine (sel_eq _ _ _ (keyWord i 12 l) _ ?_).trans ?_
  · unfold keyWord
    simp [Scalar.addi, Scalar.muli, IntOp.addi, IntOp.muli, BitVec.ofNat_add, BitVec.ofNat_mul, mul_comm, add_assoc]
  · simp
/-- Slice 13 of the flagged values. -/
theorem wv_13 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 13 (ix2 q l)
      = if k1_pay161 X1 X2 X3 X4 (ix2 q ⟨128 * 13 + l.val, by omega⟩) ≤ X7 (ix2 q 0) ∧ keyWord i 13 l ≠ X6 (ix2 q l)
        then k1_pay161 X1 X2 X3 X4 (ix2 q ⟨128 * 13 + l.val, by omega⟩) else (⊤ : EReal) := by
  show k1_pay213 _ _ _ _ _ (ix2 q l) = _
  unfold PassB.dist
  generalize k1_pay161 X1 X2 X3 X4 = d
  unfold_payloads
  pointwise [io128, pt]
  refine (sel_eq _ _ _ (keyWord i 13 l) _ ?_).trans ?_
  · unfold keyWord
    simp [Scalar.addi, Scalar.muli, IntOp.addi, IntOp.muli, BitVec.ofNat_add, BitVec.ofNat_mul, mul_comm, add_assoc]
  · simp
/-- Slice 14 of the flagged values. -/
theorem wv_14 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 14 (ix2 q l)
      = if k1_pay161 X1 X2 X3 X4 (ix2 q ⟨128 * 14 + l.val, by omega⟩) ≤ X7 (ix2 q 0) ∧ keyWord i 14 l ≠ X6 (ix2 q l)
        then k1_pay161 X1 X2 X3 X4 (ix2 q ⟨128 * 14 + l.val, by omega⟩) else (⊤ : EReal) := by
  show k1_pay216 _ _ _ _ _ (ix2 q l) = _
  unfold PassB.dist
  generalize k1_pay161 X1 X2 X3 X4 = d
  unfold_payloads
  pointwise [io128, pt]
  refine (sel_eq _ _ _ (keyWord i 14 l) _ ?_).trans ?_
  · unfold keyWord
    simp [Scalar.addi, Scalar.muli, IntOp.addi, IntOp.muli, BitVec.ofNat_add, BitVec.ofNat_mul, mul_comm, add_assoc]
  · simp
/-- Slice 15 of the flagged values. -/
theorem wv_15 (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) :
    wv i X1 X2 X3 X4 X6 X7 15 (ix2 q l)
      = if k1_pay161 X1 X2 X3 X4 (ix2 q ⟨128 * 15 + l.val, by omega⟩) ≤ X7 (ix2 q 0) ∧ keyWord i 15 l ≠ X6 (ix2 q l)
        then k1_pay161 X1 X2 X3 X4 (ix2 q ⟨128 * 15 + l.val, by omega⟩) else (⊤ : EReal) := by
  show k1_pay219 _ _ _ _ _ (ix2 q l) = _
  unfold PassB.dist
  generalize k1_pay161 X1 X2 X3 X4 = d
  unfold_payloads
  pointwise [io128, pt]
  refine (sel_eq _ _ _ (keyWord i 15 l) _ ?_).trans ?_
  · unfold keyWord
    simp [Scalar.addi, Scalar.muli, IntOp.addi, IntOp.muli, BitVec.ofNat_add, BitVec.ofNat_mul, mul_comm, add_assoc]
  · simp

/-- The flagged values: the distance where it is at most the threshold and the key is not the lane's own, the top element
    elsewhere. -/
theorem wv_at (i : grid1.Coords) (X1 : Vec Ideal S1024x128 .bf16) (X2 : Vec Ideal S2048x128 .bf16) (X3 : Vec Ideal S1024x1 .f32)
    (X4 : Vec Ideal S1x2048 .f32) (X6 : Vec Ideal S1024x128 .i32) (X7 : Vec Ideal S1024x1 .f32) (q : Fin 1024) (l : Fin 128) (g : Fin 16) :
    wv i X1 X2 X3 X4 X6 X7 g (ix2 q l)
      = if k1_pay161 X1 X2 X3 X4 (ix2 q ⟨128 * g.val + l.val, by omega⟩) ≤ X7 (ix2 q 0) ∧ keyWord i g.val l ≠ X6 (ix2 q l)
        then k1_pay161 X1 X2 X3 X4 (ix2 q ⟨128 * g.val + l.val, by omega⟩) else (⊤ : EReal) := by
  match g with
  | 0 => exact wv_0 i X1 X2 X3 X4 X6 X7 q l
  | 1 => exact wv_1 i X1 X2 X3 X4 X6 X7 q l
  | 2 => exact wv_2 i X1 X2 X3 X4 X6 X7 q l
  | 3 => exact wv_3 i X1 X2 X3 X4 X6 X7 q l
  | 4 => exact wv_4 i X1 X2 X3 X4 X6 X7 q l
  | 5 => exact wv_5 i X1 X2 X3 X4 X6 X7 q l
  | 6 => exact wv_6 i X1 X2 X3 X4 X6 X7 q l
  | 7 => exact wv_7 i X1 X2 X3 X4 X6 X7 q l
  | 8 => exact wv_8 i X1 X2 X3 X4 X6 X7 q l
  | 9 => exact wv_9 i X1 X2 X3 X4 X6 X7 q l
  | 10 => exact wv_10 i X1 X2 X3 X4 X6 X7 q l
  | 11 => exact wv_11 i X1 X2 X3 X4 X6 X7 q l
  | 12 => exact wv_12 i X1 X2 X3 X4 X6 X7 q l
  | 13 => exact wv_13 i X1 X2 X3 X4 X6 X7 q l
  | 14 => exact wv_14 i X1 X2 X3 X4 X6 X7 q l
  | 15 => exact wv_15 i X1 X2 X3 X4 X6 X7 q l
  | ⟨n + 16, h⟩ => exact absurd h (by omega)

/-- A property of both branches is one of the choice. -/
theorem ite_pred {P : EReal → Prop} {p : Prop} [Decidable p] {a b : EReal} (ha : P a) (hb : P b) : P (if p then a else b) := by
  split <;> assumption

/-- A property of the elements and of the start is one of the running minimum. -/
theorem fold_pred {P : EReal → Prop} {ι : Type} (s : Finset ι) (f : ι → EReal) (z : EReal) (hz : P z) (hf : ∀ k, P (f k)) : P (s.fold min z f) := by
  classical
  induction s using Finset.induction_on with
  | empty => simpa using hz
  | insert a s ha ih => rw [Finset.fold_insert ha]; exact min_pred (hf a) ih

/-- A property of both branches is one of the choice by a word. -/
theorem sel_pred {P : EReal → Prop} {c : BitVec 1} {a b : EReal} (ha : P a) (hb : P b) : P (Scalar.select c a b) := by
  unfold Scalar.select; split <;> assumption

/-- A property kept by a step is kept by the step iterated. -/
theorem iter_pred {α : Type} (f : α → α) (Q : α → Prop) (h : ∀ s, Q s → Q (f s)) (s : α) (h0 : Q s) : ∀ n : ℕ, Q (f^[n] s)
  | 0 => h0
  | n + 1 => by rw [Function.iterate_succ_apply']; exact h _ (iter_pred f Q h s h0 n)

section Proj
variable {F : FTy → Type} [FloatOps F]

/-- The fast step's remaining values. -/
theorem fastStep_rem (fidx : IVec S1024x128 32) (s : Fast F) : (fastStep fidx s).1 = k1_pay8 fidx s.1 := by simp only [fastStep]
/-- The fast step's extras' values. -/
theorem fastStep_ev (fidx : IVec S1024x128 32) (s : Fast F) : (fastStep fidx s).2.1 = k1_pay5 io64 s.1 s.2.2.2 s.2.1 := by simp only [fastStep]
/-- The slow step's remaining values. -/
theorem slowStep_rem (j : BitVec 32) (s : Slow F) : (slowStep j s).1 = slowStrike j s.1 := by simp only [slowStep]
/-- The slow step's extras' values. -/
theorem slowStep_ev (j : BitVec 32) (s : Slow F) : (slowStep j s).2.1 = k1_pay39 io64 (slowRow s.1) (slowOk s.1) s.2.2.2 s.2.1 := by simp only [slowStep]

end Proj

section Closed

variable (P : Fin 1024 → EReal → Prop) (hP : ∀ q, P q ⊤)
include hP

/-- The lane minima of sixteen slices have what all of the slices have. -/
theorem fmin_pred (w : Fin 16 → Vec Ideal S1024x128 .f32) (hw : ∀ g q l, P q (w g (ix2 q l))) (q : Fin 1024) (l : Fin 128) : P q (fminOf w (ix2 q l)) := by
  unfold fminOf
  unfold_payloads
  pointwise []
  repeat' apply min_pred (P := P q)
  all_goals exact hw _ q l

/-- One trip of the fast loop keeps a property of the remaining values and of the extras. -/
theorem fast_pred (fidx : IVec S1024x128 32) (s : Fast Ideal) (h1 : ∀ q l, P q (s.1 (ix2 q l))) (h2 : ∀ q e, P q (s.2.1 (ix2 q e))) :
    (∀ q l, P q ((fastStep fidx s).1 (ix2 q l))) ∧ (∀ q e, P q ((fastStep fidx s).2.1 (ix2 q e))) := by
  refine ⟨fun q l => ?_, fun q e => ?_⟩
  · rw [fastStep_rem]
    unfold k1_pay8
    generalize k1_pay3 (F := Ideal) fidx s.1 = k3
    pointwise []
    exact sel_pred ((ofBits_inf).symm ▸ hP q) (h1 q l)
  · rw [fastStep_ev]
    unfold_payloads
    pointwise []
    exact sel_pred (fold_pred _ _ _ ((ofBits_inf).symm ▸ hP q) fun k => h1 q k) (h2 q e)

/-- The least remaining value of a row has what the remaining values have. -/
theorem slowRow_pred (w : Fin 16 → Vec Ideal S1024x128 .f32) (hw : ∀ g q l, P q (w g (ix2 q l))) (q : Fin 1024) : P q (slowRow w (ix2 q 0)) := by
  unfold slowRow part28 part29 part30 part31 part32
  unfold_payloads
  pointwise []
  refine fold_pred _ _ _ ((ofBits_inf).symm ▸ hP q) fun k => ?_
  repeat' apply min_pred (P := P q)
  all_goals exact hw _ q k

/-- One trip of the slow loop keeps a property of the remaining values and of the extras. -/
theorem slow_pred (j : BitVec 32) (s : Slow Ideal) (h1 : ∀ g q l, P q (s.1 g (ix2 q l))) (h2 : ∀ q e, P q (s.2.1 (ix2 q e))) :
    (∀ g q l, P q ((slowStep j s).1 g (ix2 q l))) ∧ (∀ q e, P q ((slowStep j s).2.1 (ix2 q e))) := by
  refine ⟨fun g q l => ?_, fun q e => ?_⟩
  · rw [slowStep_rem]
    unfold slowStrike
    generalize slowIdx j s.1 = si
    match g with
    | 0 =>
      show P q (k1_pay43 (F := Ideal) j io128 (s.1 0) si (ix2 q l))
      unfold_payloads
      pointwise []
      exact sel_pred ((ofBits_inf).symm ▸ hP q) (h1 0 q l)
    | 1 =>
      show P q (k1_pay44 (F := Ideal) j io128 (s.1 1) si (ix2 q l))
      unfold_payloads
      pointwise []
      exact sel_pred ((ofBits_inf).symm ▸ hP q) (h1 1 q l)
    | 2 =>
      show P q (k1_pay46 (F := Ideal) (k1_pay45 j io128 (s.1 2) si) (ix2 q l))
      unfold_payloads
      pointwise []
      exact sel_pred ((ofBits_inf).symm ▸ hP q) (h1 2 q l)
    | 3 =>
      show P q (k1_pay47 (F := Ideal) j io128 (s.1 3) si (ix2 q l))
      unfold_payloads
      pointwise []
      exact sel_pred ((ofBits_inf).symm ▸ hP q) (h1 3 q l)
    | 4 =>
      show P q (k1_pay48 (F := Ideal) j io128 (s.1 4) si (ix2 q l))
      unfold_payloads
      pointwise []
      exact sel_pred ((ofBits_inf).symm ▸ hP q) (h1 4 q l)
    | 5 =>
      show P q (k1_pay49 (F := Ideal) j io128 (s.1 5) si (ix2 q l))
      unfold_payloads
      pointwise []
      exact sel_pred ((ofBits_inf).symm ▸ hP q) (h1 5 q l)
    | 6 =>
      show P q (k1_pay52 (F := Ideal) (s.1 6) (k1_pay50 j io128) (k1_pay51 si) (ix2 q l))
      unfold_payloads
      pointwise []
      exact sel_pred ((ofBits_inf).symm ▸ hP q) (h1 6 q l)
    | 7 =>
      show P q (k1_pay53 (F := Ideal) j io128 (s.1 7) si (ix2 q l))
      unfold_payloads
      pointwise []
      exact sel_pred ((ofBits_inf).symm ▸ hP q) (h1 7 q l)
    | 8 =>
      show P q (k1_pay54 (F := Ideal) j io128 (s.1 8) si (ix2 q l))
      unfold_payloads
      pointwise []
      exact sel_pred ((ofBits_inf).symm ▸ hP q) (h1 8 q l)
    | 9 =>
      show P q (k1_pay55 (F := Ideal) j io128 (s.1 9) si (ix2 q l))
      unfold_payloads
      pointwise []
      exact sel_pred ((ofBits_inf).symm ▸ hP q) (h1 9 q l)
    | 10 =>
      show P q (k1_pay56 (F := Ideal) j io128 (s.1 10) si (ix2 q l))
      unfold_payloads
      pointwise []
      exact sel_pred ((ofBits_inf).symm ▸ hP q) (h1 10 q l)
    | 11 =>
      show P q (k1_pay57 (F := Ideal) j io128 (s.1 11) si (ix2 q l))
      unfold_payloads
      pointwise []
      exact sel_pred ((ofBits_inf).symm ▸ hP q) (h1 11 q l)
    | 12 =>
      show P q (k1_pay58 (F := Ideal) j io128 (s.1 12) si (ix2 q l))
      unfold_payloads
      pointwise []
      exact sel_pred ((ofBits_inf).symm ▸ hP q) (h1 12 q l)
    | 13 =>
      show P q (k1_pay18 (F := Ideal) (s.1 13) (k1_pay59 j io128 si) (ix2 q l))
      unfold_payloads
      pointwise []
      exact sel_pred ((ofBits_inf).symm ▸ hP q) (h1 13 q l)
    | 14 =>
      show P q (k1_pay19 (F := Ideal) j io128 (s.1 14) si (ix2 q l))
      unfold_payloads
      pointwise []
      exact sel_pred ((ofBits_inf).symm ▸ hP q) (h1 14 q l)
    | 15 =>
      show P q (k1_pay20 (F := Ideal) j io128 (s.1 15) si (ix2 q l))
      unfold_payloads
      pointwise []
      exact sel_pred ((ofBits_inf).symm ▸ hP q) (h1 15 q l)
    | ⟨n + 16, h⟩ => exact absurd h (by omega)
  · rw [slowStep_ev]
    unfold k1_pay39 k1_pay38
    pointwise []
    exact sel_pred (slowRow_pred P hP s.1 h1 q) (h2 q e)

/-- Striking the lane minima out keeps a property of the values. -/
theorem resid_pred (w : Fin 16 → Vec Ideal S1024x128 .f32) (hw : ∀ g q l, P q (w g (ix2 q l))) (g : Fin 16) (q : Fin 1024) (l : Fin 128) :
    P q (residOf w g (ix2 q l)) := by
  unfold residOf
  generalize fsubOf w = fs
  match g with
  | 0 =>
    show P q (k1_pay92 (F := Ideal) (w 0) fs (ix2 q l))
    unfold_payloads
    pointwise []
    exact sel_pred ((ofBits_inf).symm ▸ hP q) (hw 0 q l)
  | 1 =>
    show P q (k1_pay93 (F := Ideal) (w 1) fs (ix2 q l))
    unfold_payloads
    pointwise []
    exact sel_pred ((ofBits_inf).symm ▸ hP q) (hw 1 q l)
  | 2 =>
    show P q (k1_pay94 (F := Ideal) (w 2) fs (ix2 q l))
    unfold_payloads
    pointwise []
    exact sel_pred ((ofBits_inf).symm ▸ hP q) (hw 2 q l)
  | 3 =>
    show P q (k1_pay95 (F := Ideal) (w 3) fs (ix2 q l))
    unfold_payloads
    pointwise []
    exact sel_pred ((ofBits_inf).symm ▸ hP q) (hw 3 q l)
  | 4 =>
    show P q (k1_pay96 (F := Ideal) (w 4) fs (ix2 q l))
    unfold_payloads
    pointwise []
    exact sel_pred ((ofBits_inf).symm ▸ hP q) (hw 4 q l)
  | 5 =>
    show P q (k1_pay97 (F := Ideal) (w 5) fs (ix2 q l))
    unfold_payloads
    pointwise []
    exact sel_pred ((ofBits_inf).symm ▸ hP q) (hw 5 q l)
  | 6 =>
    show P q (k1_pay98 (F := Ideal) (w 6) fs (ix2 q l))
    unfold_payloads
    pointwise []
    exact sel_pred ((ofBits_inf).symm ▸ hP q) (hw 6 q l)
  | 7 =>
    show P q (k1_pay99 (F := Ideal) (w 7) fs (ix2 q l))
    unfold_payloads
    pointwise []
    exact sel_pred ((ofBits_inf).symm ▸ hP q) (hw 7 q l)
  | 8 =>
    show P q (k1_pay100 (F := Ideal) (w 8) fs (ix2 q l))
    unfold_payloads
    pointwise []
    exact sel_pred ((ofBits_inf).symm ▸ hP q) (hw 8 q l)
  | 9 =>
    show P q (k1_pay101 (F := Ideal) (w 9) fs (ix2 q l))
    unfold_payloads
    pointwise []
    exact sel_pred ((ofBits_inf).symm ▸ hP q) (hw 9 q l)
  | 10 =>
    show P q (k1_pay102 (F := Ideal) (w 10) fs (ix2 q l))
    unfold_payloads
    pointwise []
    exact sel_pred ((ofBits_inf).symm ▸ hP q) (hw 10 q l)
  | 11 =>
    show P q (k1_pay103 (F := Ideal) (w 11) fs (ix2 q l))
    unfold_payloads
    pointwise []
    exact sel_pred ((ofBits_inf).symm ▸ hP q) (hw 11 q l)
  | 12 =>
    show P q (k1_pay104 (F := Ideal) (w 12) fs (ix2 q l))
    unfold_payloads
    pointwise []
    exact sel_pred ((ofBits_inf).symm ▸ hP q) (hw 12 q l)
  | 13 =>
    show P q (k1_pay105 (F := Ideal) (w 13) fs (ix2 q l))
    unfold_payloads
    pointwise []
    exact sel_pred ((ofBits_inf).symm ▸ hP q) (hw 13 q l)
  | 14 =>
    show P q (k1_pay106 (F := Ideal) (w 14) fs (ix2 q l))
    unfold_payloads
    pointwise []
    exact sel_pred ((ofBits_inf).symm ▸ hP q) (hw 14 q l)
  | 15 =>
    show P q (k1_pay17 (F := Ideal) (w 15) fs (ix2 q l))
    unfold_payloads
    pointwise []
    exact sel_pred ((ofBits_inf).symm ▸ hP q) (hw 15 q l)
  | ⟨n + 16, h⟩ => exact absurd h (by omega)

/-- Both loops keep a property of the flagged values and of the extras. -/
theorem both_pred (j : BitVec 32) (cl : IVec S1024x128 32) (w : Fin 16 → Vec Ideal S1024x128 .f32) (s : Ext Ideal)
    (hw : ∀ g q l, P q (w g (ix2 q l))) (hs : ∀ q e, P q (s.1 (ix2 q e))) (q : Fin 1024) (e : Fin 64) : P q ((bothOf j cl w s).1 (ix2 q e)) := by
  have h0 := iter_pred (fastStep (fidxOf j w)) (fun s => (∀ q l, P q (s.1 (ix2 q l))) ∧ ∀ q e, P q (s.2.1 (ix2 q e)))
      (fun s h => fast_pred P hP (fidxOf j w) s h.1 h.2) (fminOf w, s) ⟨fmin_pred P hP w hw, hs⟩ (k1_t1_loop (nmaxOf w)).trips
  rw [fastOf_eq] at h0
  obtain ⟨fs, hF⟩ : ∃ fs, fs = fastOf j w s := ⟨_, rfl⟩
  rw [← hF] at h0
  have h1 := iter_pred (slowStep j) (fun s => (∀ g q l, P q (s.1 g (ix2 q l))) ∧ ∀ q e, P q (s.2.1 (ix2 q e)))
      (fun s h => slow_pred P hP j s h.1 h.2) (residOf w, fs.2) ⟨resid_pred P hP w hw, h0.2⟩ (k1_t3_loop (nresOf cl w)).trips
  rw [hF, slowOf_eq] at h1
  by_cases h : k1_cond2 (nresOf cl w) = 1#1
  · rw [bothOf_pos h]; exact h1.2 q e
  · rw [bothOf_neg h, ← hF]; exact h0.2 q e

end Closed

end Cert.Proof.ValB

end
-- ==== Proof.ValEnd.lean ====
/-
  What the two kernels leave in the arrays they write, as functions of their states after the last point.
-/
module

public import proofs.«01_k».proof.Proof.RegionA
public import proofs.«01_k».proof.Proof.RegionB
public import proofs.«01_k».proof.Proof.Run
public import Idealize.ShloMosaic.Lib.Pipeline.ValueKit.Geometry
public import Idealize.ShloMosaic.Lib.Pointwise.Index

@[expose] public section

noncomputable section

namespace Cert.Proof.ValEnd

open Cert.KernelIdeal Cert.KernelIdeal.Gen Cert.Proof
open Idealize.ShloMosaic Idealize.ShloMosaic.TcCoe

variable {F : FTy → Type} [FloatOps F]
variable (V : (c : Dev nD) → Valuation τ sig (Elt F)) (c : Dev nD)

/-- The last point of the first kernel. -/
def last0 : Fin cfg0.N := ⟨48, by decide⟩
/-- The last point of the second kernel. -/
def last1 : Fin cfg1.N := ⟨48, by decide⟩

/-- What the first kernel leaves in the lane minima. -/
theorem endA4 : (RegionA.dat V c).arrAt 4 cfg0.N = (RegionA.state V c 49).1 := by
  refine funext fun j => ?_
  exact (RegionA.dat V c).arrAt_emb_eq_after_last 4 last0 (by decide +kernel) j

/-- What the body leaves in the first result's window at the last point. -/
theorem after7 : (RegionB.dat V c).after 7 last1
      = PassB.ofCols (PassB.mergeV (RegionB.cmIn V c last1) (RegionB.state V c (last1.val + 1)).1 (RegionB.ciIn V c last1) (RegionB.state V c (last1.val + 1)).2.1) := by
  dsimp only [RegionB.dat]

/-- The first result's array ends as the window the last point writes. -/
theorem arr7 (G : Vec F S1024x16 .f32) (h : (RegionB.dat V c).after 7 last1 = G) : (RegionB.dat V c).arrAt 7 cfg1.N = G := by
  refine funext fun j => ((RegionB.dat V c).arrAt_emb_eq_after_last 7 last1 (by decide +kernel) j).trans ?_
  rw [h]
  rfl

/-- What the second kernel leaves in the first result. -/
theorem endB7 : (RegionB.dat V c).arrAt 7 cfg1.N
      = PassB.ofCols (PassB.mergeV (RegionB.cmIn V c last1) (RegionB.state V c 49).1 (RegionB.ciIn V c last1) (RegionB.state V c 49).2.1) := by
  have h := after7 V c
  rw [show last1.val + 1 = 49 from rfl] at h
  exact arr7 V c _ h

/-- … read off the memory after the first kernel. -/
theorem endA4' : Pipeline.afterRegion (RegionA.dat V c) (V c) (Proc.devRef .tc main_v11_0) = (RegionA.state V c 49).1 :=
  (Pipeline.afterRegion_arr (RegionA.dat V c) (V c) winFacts0.arr_inj 4).trans (endA4 V c)

/-- … read off the memory after the second kernel. -/
theorem endB7' : Pipeline.afterRegion (RegionB.dat V c) (V c) (Proc.devRef .tc main_v12_0)
      = PassB.ofCols (PassB.mergeV (RegionB.cmIn V c last1) (RegionB.state V c 49).1 (RegionB.ciIn V c last1) (RegionB.state V c 49).2.1) :=
  (Pipeline.afterRegion_arr (RegionB.dat V c) (V c) winFacts1.arr_inj 7).trans (endB7 V c)

/-- The new extras are the loops' outcome on the flagged values. -/
theorem extN_eq (i : grid1.Coords) (X1 : Vec F S1024x128 .bf16) (X2 : Vec F S2048x128 .bf16) (X3 : Vec F S1024x1 .f32) (X4 : Vec F S1x2048 .f32)
    (X6 : Vec F S1024x128 .i32) (X7 : Vec F S1024x1 .f32) (s : PassB.Ext F) :
    PassB.extN i X1 X2 X3 X4 X6 X7 s = PassB.bothOf (PassB.pt i) (PassB.count i X1 X2 X3 X4 X6 X7) (PassB.wv i X1 X2 X3 X4 X6 X7) (PassB.ext0 i s) := by
  simp only [PassB.extN]

/-- The first column of least values. -/
theorem mergeV_zero (cm : Vec F S1024x128 .f32) (ev : Vec F S1024x64 .f32) (ci : Vec F S1024x128 .i32) (ei : Vec F S1024x64 .i32) :
    PassB.mergeV cm ev ci ei 0 = k1_pay109 cm ev := by
  unfold PassB.mergeV; exact Matrix.cons_val_zero _ _

/-- The extras' values at the start. -/
theorem stateB_zero : (RegionB.state V c 0).1 = k1_pay158 := by rw [RegionB.state]

/-- The extras' values after a point. -/
theorem stateB_succ (t : Fin cfg1.N) : (RegionB.state V c (t.val + 1)).1
    = (PassB.extN (grid1.coords t) (RegionB.qIn V c t) (RegionB.kIn V c t) (RegionB.qqIn V c t) (RegionB.kkIn V c t) (RegionB.ciIn V c t) (RegionB.thIn V c t)
        (RegionB.state V c t.val)).1 := by
  rw [RegionB.state_succ, RegionB.step]

/-- Column 0 of sixteen columns side by side. -/
theorem ofCols_zero {e : EltTy} (p : Fin 16 → Vec F S1024x1 e) (q : Fin 1024) : PassB.ofCols p (ix2 q 0) = p 0 (ix2 q 0) := by
  unfold PassB.ofCols
  exact congrArg (p 0) (funext fun a => by fin_cases a <;> rfl)

/-- Column 0 of the first result, as the second kernel leaves it. -/
theorem col0_eq (q : Fin 1024) : (Pipeline.afterRegion (RegionB.dat V c) (V c) (Proc.devRef .tc main_v12_0) : Vec F S1024x16 .f32) (ix2 q 0)
    = k1_pay109 (RegionB.cmIn V c last1) (RegionB.state V c 49).1 (ix2 q 0) := by
  have h : (Pipeline.afterRegion (RegionB.dat V c) (V c) (Proc.devRef .tc main_v12_0) : Vec F S1024x16 .f32) = _ := endB7' V c
  rw [h, ofCols_zero, mergeV_zero]

end Cert.Proof.ValEnd

end
-- ==== Proof.ValC.lean ====
/-
  The first column the program leaves: the least distance of each query.
-/
module

public import proofs.«01_k».proof.Proof.ValB
public import proofs.«01_k».proof.Proof.ValEnd

@[expose] public section

set_option maxRecDepth 16384

noncomputable section

namespace Cert.Proof.ValC

open Cert.KernelIdeal Cert.KernelIdeal.Gen Cert.Proof
open Idealize.ShloMosaic Idealize.ShloMosaic.TcCoe
open Cert.Proof.PassB Cert.Proof.ValA Cert.Proof.ValB Cert.Proof.ValMem Cert.Proof.ValEnd

/-- No extra is recorded at the start. -/
theorem ext_start (y : S1024x64.Idx) : k1_pay158 (F := Ideal) y = (⊤ : EReal) := by
  unfold k1_pay158
  pointwise []
  exact ofBits_inf

/-- A property of the top element, of the flagged values and of the extras found is one of the extras left. -/
theorem ext_pred (P : Fin 1024 → EReal → Prop) (hP : ∀ q, P q ⊤) (i : grid1.Coords) (X1 : Vec Ideal S1024x128 .bf16) (X2 : Vec Ideal S2048x128 .bf16)
    (X3 : Vec Ideal S1024x1 .f32) (X4 : Vec Ideal S1x2048 .f32) (X6 : Vec Ideal S1024x128 .i32) (X7 : Vec Ideal S1024x1 .f32) (s : Ext Ideal)
    (hw : ∀ g q l, P q (wv i X1 X2 X3 X4 X6 X7 g (ix2 q l))) (hs : ∀ q e, P q (s.1 (ix2 q e))) (q : Fin 1024) (e : Fin 64) :
    P q ((extN i X1 X2 X3 X4 X6 X7 s).1 (ix2 q e)) := by
  rw [extN_eq]
  refine both_pred P hP (pt i) (count i X1 X2 X3 X4 X6 X7) (wv i X1 X2 X3 X4 X6 X7) (ext0 i s) hw ?_ q e
  intro q e
  unfold ext0
  by_cases h : PassB.first i = 1#1
  · rw [if_pos h]; show P q (k1_pay158 (F := Ideal) (ix2 q e)); rw [ext_start]; exact hP q
  · rw [if_neg h]; exact hs q e

/-- The first column of least values is the least of the lane minima and the extras. -/
theorem merge0 (cm : Vec Ideal S1024x128 .f32) (ev : Vec Ideal S1024x64 .f32) (q : Fin 1024) :
    k1_pay109 cm ev (ix2 q 0) = Finset.univ.fold min (⊤ : EReal) (fun k : Fin 192 => if h : k.val < 128 then cm (ix2 q ⟨k.val, h⟩) else ev (ix2 q ⟨k.val - 128, by omega⟩)) := by
  unfold k1_pay109 k1_pay107
  pointwise []
  rw [ofBits_inf]

/-- A running minimum is at most each of its elements. -/
theorem fold_le {ι : Type} (s : Finset ι) (f : ι → EReal) (z : EReal) (k : ι) (hk : k ∈ s) : s.fold min z f ≤ f k :=
  (Finset.fold_min_le _).mpr (Or.inr ⟨k, hk, le_rfl⟩)

variable (V : (c : Dev nD) → Valuation τ sig (Elt Ideal)) (c : Dev nD)

/-- The memory after the first kernel. -/
def mid (c : Dev nD) : Valuation τ sig (Elt Ideal) := Pipeline.afterRegion (RegionA.dat V c) (V c)
/-- The memory after the second kernel. -/
def fin (c : Dev nD) : Valuation τ sig (Elt Ideal) := Pipeline.afterRegion (RegionB.dat (mid V) c) (mid V c)

/-- The first kernel leaves a buffer it only reads. -/
theorem mid_keeps (r : Ref sig .tc) (h : ∀ w, Pipeline.arrRef cfg0.spec w = r → (cfg0.win w).isOut = false) :
    mid V c (Proc.devRef .tc r) = V c (Proc.devRef .tc r) :=
  Pipeline.afterRegion_keeps (RegionA.dat V c) (V c) winFacts0.arr_inj (fun _ => rfl) r h

/-- The second kernel's distances are the first's. -/
theorem D_mid (q : Fin 1024) (n : Fin 100352) : D (mid V) c q n = D V c q n := by
  unfold D aQ aK aQQ aKK
  rw [mid_keeps V c main_v8 (by decide), mid_keeps V c main_v10 (by decide), mid_keeps V c main_v2 (by decide), mid_keeps V c main_v7 (by decide)]

/-- The lane minima the second kernel reads are those the first ends with. -/
theorem aCM_mid (q : Fin 1024) (l : Fin 128) : aCM (mid V) c (ix2 q l) = (RegionA.state V c 49).1 (ix2 q l) :=
  congrFun (endA4' V c) (ix2 q l)

/-- Every extra recorded is the top element or the distance to some key. -/
theorem invB : ∀ n : ℕ, n ≤ 49 → ∀ (q : Fin 1024) (e : Fin 64),
    ((RegionB.state V c n).1 (ix2 q e) = (⊤ : EReal) ∨ ∃ m, (RegionB.state V c n).1 (ix2 q e) = D V c q m)
  | 0, _ => fun q e => Or.inl (by rw [stateB_zero]; exact ext_start (ix2 q e))
  | n + 1, hn => by
    have hN : n < cfg1.N := by show n < grid1.N; rw [N_1]; omega
    have hs := stateB_succ V c ⟨n, hN⟩
    dsimp only at hs
    rw [hs]
    have ih := invB n (by omega)
    revert ih
    generalize RegionB.state V c n = s
    intro ih q e
    refine ext_pred (fun q v => v = (⊤ : EReal) ∨ ∃ m, v = D V c q m) (fun q => Or.inl rfl) _ _ _ _ _ _ _ s (fun g q l => ?_) ih q e
    rw [wv_at, dist1]
    exact ite_pred (P := fun v => v = (⊤ : EReal) ∨ ∃ m, v = D V c q m) (Or.inr ⟨_, rfl⟩) (Or.inl rfl)

/-- The first column's value from bounds on the lane minima and the extras. -/
theorem merge_bounds (cm : Vec Ideal S1024x128 .f32) (ev : Vec Ideal S1024x64 .f32) (q : Fin 1024) (d : Fin 100352 → EReal)
    (h1 : ∀ n : Fin 100352, cm (ix2 q ⟨n.val % 128, Nat.mod_lt _ (by decide)⟩) ≤ d n)
    (h2 : ∀ l : Fin 128, cm (ix2 q l) = (⊤ : EReal) ∨ ∃ n, cm (ix2 q l) = d n)
    (h3 : ∀ e : Fin 64, ev (ix2 q e) = (⊤ : EReal) ∨ ∃ n, ev (ix2 q e) = d n) :
    (∀ n, k1_pay109 cm ev (ix2 q 0) ≤ d n)
    ∧ (k1_pay109 cm ev (ix2 q 0) = (⊤ : EReal) ∨ ∃ n, k1_pay109 cm ev (ix2 q 0) = d n) := by
  rw [merge0]
  refine ⟨fun n => ?_, ?_⟩
  · have hl : n.val % 128 < 128 := Nat.mod_lt _ (by decide)
    refine (fold_le Finset.univ _ _ (⟨n.val % 128, by omega⟩ : Fin 192) (Finset.mem_univ _)).trans ?_
    rw [dif_pos hl]
    exact h1 n
  · refine fold_pred (P := fun v => v = (⊤ : EReal) ∨ ∃ n, v = d n) _ _ _ (Or.inl rfl) fun k => ?_
    by_cases hk : k.val < 128
    · rw [dif_pos hk]
      exact h2 ⟨k.val, hk⟩
    · rw [dif_neg hk]
      exact h3 ⟨k.val - 128, by omega⟩

/-- The program's first result at a query's first column. -/
def col (q : Fin 1024) : EReal := (fin V c (Proc.devRef .tc main_v12_0) : Vec Ideal S1024x16 .f32) (ix2 q 0)

/-- The first column is at most every distance of its query, and is the top element or one of them. -/
theorem col0 (q : Fin 1024) : (∀ n, col V c q ≤ D V c q n) ∧ (col V c q = ⊤ ∨ ∃ n, col V c q = D V c q n) := by
  have h : col V c q = k1_pay109 (RegionB.cmIn (mid V) c last1) (RegionB.state (mid V) c 49).1 (ix2 q 0) := col0_eq (mid V) c q
  rw [h]
  refine merge_bounds (RegionB.cmIn (mid V) c last1) (RegionB.state (mid V) c 49).1 q (D V c q) (fun n => ?_) (fun l => ?_) (fun e => ?_)
  · rw [cmIn1, aCM_mid]
    exact (invA V c 49 (Nat.le_refl 49) q ⟨n.val % 128, Nat.mod_lt _ (by decide)⟩).1 n n.isLt rfl
  · rw [cmIn1, aCM_mid]
    exact (invA V c 49 (Nat.le_refl 49) q l).2.imp id fun ⟨n, _, e⟩ => ⟨n, e⟩
  · exact (invB (mid V) c 49 (Nat.le_refl 49) q e).imp id fun ⟨n, h⟩ => ⟨n, h.trans (D_mid V c q n)⟩

end Cert.Proof.ValC

end
-- ==== Proof.HostVal.lean ====
/-
  The arrays the program prepares before its two kernels, read at an index over the extended reals.
-/
module

public import proofs.«01_k».proof.Proof.HostArr
public import proofs.«01_k».proof.Proof.ValC
public import Idealize.ShloMosaic.Lib.Pointwise

@[expose] public section

set_option maxRecDepth 16384

noncomputable section

namespace Cert.Proof.HostArr

open Cert.KernelIdeal Cert.KernelIdeal.Gen Cert.Proof
open Idealize.ShloMosaic Idealize.ShloMosaic.TcCoe

variable (A : Vec Ideal S1024x128 .f32) (B : Vec Ideal S100000x128 .f32)

/-- A query's entry. -/
theorem hQ_at (q : Fin 1024) (k : Fin 128) : hQ A (ix2 q k) = (A (ix2 q k) : EReal) := by
  pointwise [hQ]
/-- A query's squared norm. -/
theorem hQQ_at (q : Fin 1024) : hQQ A (ix2 q 0) = (∑ k : Fin 128, A (ix2 q k) * A (ix2 q k) : EReal) := by
  pointwise [hQQ]
/-- A padded key's entry. -/
theorem hK_at (n : Fin 100352) (k : Fin 128) :
    hK B (ix2 n k) = (if h : n.val < 100000 then B (ix2 ⟨n.val, h⟩ k) else 0 : EReal) := by
  pointwise [hK]
  refine dite_congr rfl (fun _ => rfl) fun _ => ?_
  show (((0#32 : BitVec 32).toInt : ℝ) : EReal) = 0
  simp
/-- A padded key's squared norm, infinite on the padding. -/
theorem hKK_at (n : Fin 100352) :
    hKK B (ix2 0 n) = (if h : n.val < 100000 then ∑ k : Fin 128, B (ix2 ⟨n.val, h⟩ k) * B (ix2 ⟨n.val, h⟩ k) else ⊤ : EReal) := by
  pointwise [hKK]
  exact dite_congr rfl (fun _ => rfl) fun _ => ValA.ofBits_inf

end Cert.Proof.HostArr

end
-- ==== Proof.RefRun.lean ====
/-
  What the reference leaves, as functions of the arguments.
-/
module

public import proofs.«01_k».proof.Proof.Gen.ReferenceIdeal
public import Idealize.ShloMosaic.Lib.Claim
public import Idealize.ShloMosaic.Lib.Pointwise

@[expose] public section

set_option maxRecDepth 16384

noncomputable section

namespace Cert.Proof.RefRun

open Cert.ReferenceIdeal Cert.ReferenceIdeal.Gen
open Idealize.ShloMosaic Idealize.ShloMosaic.TcCoe Idealize.SL.Sem

variable {F : FTy → Type} [FloatOps F]

/-- The negated distances of the reference. -/
def neg (A : Vec F S1024x128 .f32) (B : Vec F S100000x128 .f32) : Vec F S1024x100000 .f32 :=
  Host.negf (addf (subf
    (broadcastInDim S1024x100000 ![0, 1] bcast_S1024x1_S1024x100000_0_1 (broadcastInDim S1024x1 ![0] bcast_S1024_S1024x1_0
      (Host.reduceAdd (mulf A A) (constant S_ .f32 0x00000000#32) reducesTo_S1024x128_S1024_d1 h_S_)))
    (mulf (broadcastInDim S1024x100000 ![] bcast_S_S1024x100000 (constant S_ .f32 0x40000000#32))
      (Host.dotGeneral dot_S1024x128_S128x100000_S1024x100000_1_0_0_1_n_n none A (transpose S128x100000 [1, 0] B transposes_S100000x128_S128x100000_1_0))))
    (broadcastInDim S1024x100000 ![0, 1] bcast_S1x100000_S1024x100000_0_1 (broadcastInDim S1x100000 ![1] bcast_S100000_S1x100000_1
      (Host.reduceAdd (mulf B B) (constant S_ .f32 0x00000000#32) reducesTo_S100000x128_S100000_d1 h_S_))))

/-- The reference's first result from its negated distances. -/
def vals (x : Vec F S1024x100000 .f32) : Vec F S1024x16 .f32 :=
  Host.negf (Host.topK S1024x16 1 (FloatOps.cmpfTotal .gt) x sliceFits_S1024x100000_S1024x16).1

/-- The reference's second result from its negated distances. -/
def inds (x : Vec F S1024x100000 .f32) : Vec F S1024x16 .i32 :=
  (Host.topK S1024x16 1 (FloatOps.cmpfTotal .gt) x sliceFits_S1024x100000_S1024x16).2

/-- The reference runs, leaves its two results and keeps its arguments. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v15) = vals (neg (m ((c.tc : Thread nD τ).loc main_arg0)) (m ((c.tc : Thread nD τ).loc main_arg1)))
      ∧ r.2.mem ((c.tc : Thread nD τ).loc main_indices) = inds (neg (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold vals inds neg
  hlo_run
  rfl

end Cert.Proof.RefRun

end
-- ==== Proof.RefVal.lean ====
/-
  The reference's first column over the extended reals: the least of a query's distances.
-/
module

public import proofs.«01_k».proof.Proof.RefRun
public import Idealize.ShloMosaic.Lib.Pointwise
public import Idealize.ShloMosaic.Lib.SortFacts

@[expose] public section

set_option maxRecDepth 16384

noncomputable section

namespace Cert.Proof.RefRun

open Cert.ReferenceIdeal Cert.ReferenceIdeal.Gen
open Idealize.ShloMosaic Idealize.ShloMosaic.TcCoe Idealize.SL.Sem

/-- The squared distance of a query to a key, as the reference writes it. -/
def R (A : Vec Ideal S1024x128 .f32) (B : Vec Ideal S100000x128 .f32) (q : Fin 1024) (n : Fin 100000) : EReal :=
  ((∑ k : Fin 128, A (ix2 q k) * A (ix2 q k)) - Ideal.ofBits .f32 0x40000000#32 * ∑ k : Fin 128, A (ix2 q k) * B (ix2 n k))
    + ∑ k : Fin 128, B (ix2 n k) * B (ix2 n k)

/-- The negated distances, at an index. -/
theorem neg_at (A : Vec Ideal S1024x128 .f32) (B : Vec Ideal S100000x128 .f32) (q : Fin 1024) (n : Fin 100000) :
    neg A B (ix2 q n) = -R A B q n := by
  pointwise [neg]
  rfl

/-- The first of a sort that puts the greater first is at least every element. -/
theorem first_greatest {n : ℕ} (x : Fin n → EReal) (z : Fin n) (hz : z.val = 0) (k : Fin n) :
    x k ≤ x (sortedFrom (fun a b => BitVec.ofBool (decide (x b < x a)) == 1#1) z) := by
  obtain ⟨j, rfl⟩ := sortedFrom_surjective (fun a b => BitVec.ofBool (decide (x b < x a)) == 1#1) k
  rcases Nat.eq_zero_or_pos j.val with h | h
  · rw [show j = z from Fin.ext (h.trans hz.symm)]
  · have hno := sortedFrom_noInversion (fun a b => decide (x b < x a)) (fun a b => BitVec.ofBool (decide (x b < x a)) == 1#1)
      (fun a b h => by
        have : x b < x a := by by_contra hc; simp [hc] at h
        simpa using this.le)
      (fun a b h => by
        have : x b < x a := by simpa using h
        simp [this])
      (fun a b c h1 h2 => by
        have h1 : x a ≤ x b := by simpa using h1
        have h2 : x b ≤ x c := by simpa using h2
        simpa using h1.trans h2)
      z j (by rw [Fin.lt_def, hz]; exact h)
    simpa using hno

/-- The two results' places in the sorted row. -/
def place (x : Fin 100000 → EReal) (c : Fin 16) : Fin 100000 :=
  sortedFrom (fun a b => BitVec.ofBool (decide (x b < x a)) == 1#1) ⟨c.val, by omega⟩

/-- A row's index, moved along the row. -/
theorem along_row (q : Fin 1024) (n k : Fin 100000) : (ix2 q n : S1024x100000.Idx).along 1 k = ix2 q k := by
  funext a
  fin_cases a <;> rfl

/-- The first result at an index: the negation of the element at its place. -/
theorem vals_at (x : Vec Ideal S1024x100000 .f32) (q : Fin 1024) (c : Fin 16) :
    vals x (ix2 q c) = -(x (ix2 q (place (fun n => x (ix2 q n)) c)) : EReal) := by
  pointwise [vals, Host.topK, Host.sort2, place]
  simp only [along_row]
  rfl

/-- The reference's first column is at most every distance of its query, and is one of them. -/
theorem vals_col0 (A : Vec Ideal S1024x128 .f32) (B : Vec Ideal S100000x128 .f32) (q : Fin 1024) :
    ∃ p : Fin 100000, vals (neg A B) (ix2 q 0) = R A B q p ∧ ∀ n, R A B q p ≤ R A B q n := by
  refine ⟨place (fun n => neg A B (ix2 q n)) 0, ?_, fun n => ?_⟩
  · rw [vals_at, neg_at, neg_neg]
  · have h : neg A B (ix2 q n) ≤ neg A B (ix2 q (place (fun n => neg A B (ix2 q n)) 0)) :=
      first_greatest (fun n => neg A B (ix2 q n)) ⟨0, by omega⟩ rfl n
    rw [neg_at, neg_at] at h
    exact EReal.neg_le_neg_iff.mp h

end Cert.Proof.RefRun

end
-- ==== Proof.Value.lean ====
/-
  The program's first column is the reference's.
-/
module

public import proofs.«01_k».proof.Proof.HostVal
public import proofs.«01_k».proof.Proof.RefVal

@[expose] public section

set_option maxRecDepth 16384

noncomputable section

namespace Cert.Proof.Value

open Cert.KernelIdeal Cert.KernelIdeal.Gen Cert.Proof
open Idealize.ShloMosaic Idealize.ShloMosaic.TcCoe
open Cert.Proof.ValMem Cert.Proof.ValC Cert.Proof.HostArr

/-- A square is not negative. -/
theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

variable (m : (ℓ : Loc nD τ sig) → Buf (Elt Ideal) ℓ) (c : Dev nD)

/-- The queries the program is given. -/
abbrev argA : Vec Ideal S1024x128 .f32 := m ((c.tc : Thread nD τ).loc main_arg0)
/-- The keys the program is given. -/
abbrev argB : Vec Ideal S100000x128 .f32 := m ((c.tc : Thread nD τ).loc main_arg1)

/-- The distance the kernels compute is the reference's, and infinite on the padding. -/
theorem D_eq (q : Fin 1024) (n : Fin 100352) :
    D (V2 m) c q n = if h : n.val < 100000 then RefRun.R (argA m c) (argB m c) q ⟨n.val, h⟩ else ⊤ := by
  have e1 : (aQQ (V2 m) c (ix2 q 0) : EReal) = _ := (congrFun (v2_eq m c) (ix2 q 0)).trans (hQQ_at (argA m c) q)
  have e2 : ∀ k, (aQ (V2 m) c (ix2 q k) : EReal) = _ := fun k => (congrFun (v8_eq m c) (ix2 q k)).trans (hQ_at (argA m c) q k)
  have e3 : ∀ k, (aK (V2 m) c (ix2 n k) : EReal) = _ := fun k => (congrFun (v10_eq m c) (ix2 n k)).trans (hK_at (argB m c) n k)
  have e4 : (aKK (V2 m) c (ix2 0 n) : EReal) = _ := (congrFun (v7_eq m c) (ix2 0 n)).trans (hKK_at (argB m c) n)
  unfold D
  simp only [e1, e2, e3, e4]
  by_cases h : n.val < 100000
  · simp only [dif_pos h]
    rfl
  · simp only [dif_neg h, mul_zero, Finset.sum_const_zero, sub_zero]
    refine EReal.add_top_of_ne_bot (ne_of_gt (lt_of_lt_of_le EReal.bot_lt_zero (Finset.sum_nonneg fun k _ => sq_nonneg _)))

/-- The program's first column is the reference's. -/
theorem col_eq (q : Fin 1024) : col (V2 m) c q = RefRun.vals (RefRun.neg (argA m c) (argB m c)) (ix2 q 0) := by
  obtain ⟨p, hp, hmin⟩ := RefRun.vals_col0 (argA m c) (argB m c) q
  obtain ⟨h1, h2⟩ := col0 (V2 m) c q
  rw [hp]
  apply le_antisymm
  · have := h1 ⟨p.val, by have := p.isLt; omega⟩
    rwa [D_eq, dif_pos p.isLt] at this
  · rcases h2 with h | ⟨n, h⟩
    · rw [h]; exact le_top
    · rw [h, D_eq]
      by_cases hn : n.val < 100000
      · rw [dif_pos hn]; exact hmin _
      · rw [dif_neg hn]; exact le_top

end Cert.Proof.Value

end
-- ==== Proof.IdxEnd.lean ====
/-
  What the two kernels leave in the arrays of indices, as functions of their states after the last point.
-/
module

public import proofs.«01_k».proof.Proof.ValEnd

@[expose] public section

set_option maxRecDepth 16384

noncomputable section

namespace Cert.Proof.IdxEnd

open Cert.KernelIdeal Cert.KernelIdeal.Gen Cert.Proof
open Idealize.ShloMosaic Idealize.ShloMosaic.TcCoe
open Cert.Proof.ValEnd

variable {F : FTy → Type} [FloatOps F]
variable (V : (c : Dev nD) → Valuation τ sig (Elt F)) (c : Dev nD)

/-- What the first kernel leaves beside the lane minima. -/
theorem endA5 : (RegionA.dat V c).arrAt 5 cfg0.N = (RegionA.state V c 49).2 := by
  refine funext fun j => ?_
  exact (RegionA.dat V c).arrAt_emb_eq_after_last 5 last0 (by decide +kernel) j

/-- … read off the memory after the first kernel. -/
theorem endA5' : Pipeline.afterRegion (RegionA.dat V c) (V c) (Proc.devRef .tc main_v11_1) = (RegionA.state V c 49).2 :=
  (Pipeline.afterRegion_arr (RegionA.dat V c) (V c) winFacts0.arr_inj 5).trans (endA5 V c)

/-- What the body leaves in the second result's window at the last point. -/
theorem after8 : (RegionB.dat V c).after 8 last1
      = PassB.ofCols (PassB.mergeI (RegionB.cmIn V c last1) (RegionB.state V c (last1.val + 1)).1 (RegionB.ciIn V c last1) (RegionB.state V c (last1.val + 1)).2.1) := by
  dsimp only [RegionB.dat]

/-- The second result's array ends as the window the last point writes. -/
theorem arr8 (G : Vec F S1024x16 .i32) (h : (RegionB.dat V c).after 8 last1 = G) : (RegionB.dat V c).arrAt 8 cfg1.N = G := by
  refine funext fun j => ((RegionB.dat V c).arrAt_emb_eq_after_last 8 last1 (by decide +kernel) j).trans ?_
  rw [h]
  rfl

/-- What the second kernel leaves in the second result. -/
theorem endB8 : (RegionB.dat V c).arrAt 8 cfg1.N
      = PassB.ofCols (PassB.mergeI (RegionB.cmIn V c last1) (RegionB.state V c 49).1 (RegionB.ciIn V c last1) (RegionB.state V c 49).2.1) := by
  have h := after8 V c
  rw [show last1.val + 1 = 49 from rfl] at h
  exact arr8 V c _ h

/-- … read off the memory after the second kernel. -/
theorem endB8' : Pipeline.afterRegion (RegionB.dat V c) (V c) (Proc.devRef .tc main_v12_1)
      = PassB.ofCols (PassB.mergeI (RegionB.cmIn V c last1) (RegionB.state V c 49).1 (RegionB.ciIn V c last1) (RegionB.state V c 49).2.1) :=
  (Pipeline.afterRegion_arr (RegionB.dat V c) (V c) winFacts1.arr_inj 8).trans (endB8 V c)

/-- The index words after a point of the first kernel. -/
theorem stateA_snd (t : Fin cfg0.N) : (RegionA.state V c (t.val + 1)).2
    = PassA.cidxN (grid0.coords t) (RegionA.qIn V c t) (RegionA.kIn V c t) (RegionA.qqIn V c t) (RegionA.kkIn V c t) (RegionA.state V c t.val).1 (RegionA.state V c t.val).2 := by
  rw [RegionA.state_succ, RegionA.step]

/-- The first column of indices. -/
theorem mergeI_zero (cm : Vec F S1024x128 .f32) (ev : Vec F S1024x64 .f32) (ci : Vec F S1024x128 .i32) (ei : Vec F S1024x64 .i32) :
    PassB.mergeI cm ev ci ei 0 = k1_pay110 cm ev ci ei := by
  unfold PassB.mergeI; exact Matrix.cons_val_zero _ _

/-- Column 0 of the second result, as the second kernel leaves it. -/
theorem colI_eq (q : Fin 1024) : (Pipeline.afterRegion (RegionB.dat V c) (V c) (Proc.devRef .tc main_v12_1) : Vec F S1024x16 .i32) (ix2 q 0)
    = k1_pay110 (RegionB.cmIn V c last1) (RegionB.state V c 49).1 (RegionB.ciIn V c last1) (RegionB.state V c 49).2.1 (ix2 q 0) := by
  have h : (Pipeline.afterRegion (RegionB.dat V c) (V c) (Proc.devRef .tc main_v12_1) : Vec F S1024x16 .i32) = _ := endB8' V c
  rw [h, ofCols_zero, mergeI_zero]

end Cert.Proof.IdxEnd

end
-- ==== Proof.ValI.lean ====
/-
  Least positions: the index words the kernels carry beside their values.
-/
module

public import proofs.«01_k».proof.Proof.ValB

@[expose] public section

set_option maxRecDepth 16384

noncomputable section

namespace Cert.Proof.ValI

open Cert.KernelIdeal Cert.KernelIdeal.Gen Cert.Proof
open Idealize.ShloMosaic Idealize.ShloMosaic.TcCoe
open Cert.Proof.PassB Cert.Proof.ValA Cert.Proof.ValB

/-- The signed minimum of two words below half the range is the smaller. -/
theorem minsi_small (a b : BitVec 32) (ha : a.toNat < 2147483648) (hb : b.toNat < 2147483648) :
    IntOp.minsi a b = if a.toNat ≤ b.toNat then a else b := by
  unfold IntOp.minsi
  have e1 : a.toInt = a.toNat := BitVec.toInt_eq_toNat_of_lt (by omega)
  have e2 : b.toInt = b.toNat := BitVec.toInt_eq_toNat_of_lt (by omega)
  simp only [BitVec.slt, BitVec.sle, e1, e2]
  by_cases h : a.toNat ≤ b.toNat
  · rcases Nat.lt_or_ge a.toNat b.toNat with h2 | h2
    · simp [h, h2]
    · have : a = b := BitVec.eq_of_toNat_eq (by omega)
      subst this; simp
  · have h2 : ¬ a.toNat < b.toNat := by omega
    simp [h, h2]

/-- The signed minimum of small words: it is small, at most each of them, and one of them or the start. -/
theorem fold_minsi {ι : Type} (s : Finset ι) (y : ι → BitVec 32) (z : BitVec 32) (hz : z.toNat < 2147483648) (hy : ∀ k, (y k).toNat < 2147483648) :
    (s.fold IntOp.minsi z y).toNat < 2147483648 ∧ (s.fold IntOp.minsi z y).toNat ≤ z.toNat ∧ (∀ k ∈ s, (s.fold IntOp.minsi z y).toNat ≤ (y k).toNat)
      ∧ (s.fold IntOp.minsi z y = z ∨ ∃ k ∈ s, s.fold IntOp.minsi z y = y k) := by
  classical
  induction s using Finset.induction_on with
  | empty => simp [hz]
  | insert a s ha ih =>
    rw [Finset.fold_insert ha]
    obtain ⟨i1, i2, i3, i4⟩ := ih
    rw [minsi_small _ _ (hy a) i1]
    by_cases h : (y a).toNat ≤ (s.fold IntOp.minsi z y).toNat
    · rw [if_pos h]
      refine ⟨hy a, h.trans i2, fun k hk => ?_, Or.inr ⟨a, Finset.mem_insert_self a s, rfl⟩⟩
      rcases Finset.mem_insert.mp hk with rfl | hk
      · exact le_rfl
      · exact h.trans (i3 k hk)
    · rw [if_neg h]
      refine ⟨i1, i2, fun k hk => ?_, i4.imp id fun ⟨k, hk, e⟩ => ⟨k, Finset.mem_insert_of_mem hk, e⟩⟩
      rcases Finset.mem_insert.mp hk with rfl | hk
      · omega
      · exact i3 k hk

/-- A running minimum from the top element that is not the top is attained. -/
theorem fold_attained {ι : Type} (s : Finset ι) (f : ι → EReal) : s.fold min ⊤ f = ⊤ ∨ ∃ k ∈ s, f k = s.fold min ⊤ f := by
  classical
  induction s using Finset.induction_on with
  | empty => simp
  | insert a s ha ih =>
    rw [Finset.fold_insert ha]
    rcases min_choice (f a) (s.fold min ⊤ f) with h | h
    · exact Or.inr ⟨a, Finset.mem_insert_self a s, h.symm⟩
    · rw [h]
      exact ih.imp id fun ⟨k, hk, e⟩ => ⟨k, Finset.mem_insert_of_mem hk, e⟩

/-- The least word beside a minimum that is not the top element: it stands beside an element attaining the minimum, and is at
    most every word that does. -/
theorem argmin {ι : Type} [Fintype ι] (f : ι → EReal) (x : ι → BitVec 32) (hx : ∀ k, f k ≠ ⊤ → (x k).toNat < 1073741824)
    (hm : Finset.univ.fold min ⊤ f ≠ ⊤) :
    ∃ k, f k = Finset.univ.fold min ⊤ f
      ∧ Finset.univ.fold IntOp.minsi 2147483647#32 (fun k => if f k = Finset.univ.fold min ⊤ f then x k else 1073741824#32) = x k
      ∧ ∀ k', f k' = Finset.univ.fold min ⊤ f → (x k).toNat ≤ (x k').toNat := by
  obtain ⟨k0, -, e0⟩ := (fold_attained Finset.univ f).resolve_left hm
  generalize Finset.univ.fold min ⊤ f = m at hm e0 ⊢
  have hb : ∀ k, f k = m → (x k).toNat < 1073741824 := fun k hk => hx k (hk ▸ hm)
  obtain ⟨-, -, h3, h4⟩ := fold_minsi Finset.univ (fun k => if f k = m then x k else 1073741824#32) 2147483647#32 (by decide) (fun k => by
    by_cases h : f k = m
    · simp only [if_pos h]; have := hb k h; omega
    · simp only [if_neg h]; decide)
  generalize Finset.univ.fold IntOp.minsi 2147483647#32 (fun k => if f k = m then x k else 1073741824#32) = r at h3 h4 ⊢
  have hr : r.toNat < 1073741824 := by
    have := h3 k0 (Finset.mem_univ _)
    rw [if_pos e0] at this
    exact lt_of_le_of_lt this (hb k0 e0)
  rcases h4 with h4 | ⟨k, -, h4⟩
  · rw [h4] at hr; exact absurd hr (by decide)
  · by_cases h : f k = m
    · rw [if_pos h] at h4
      refine ⟨k, h, h4, fun k' hk' => ?_⟩
      have := h3 k' (Finset.mem_univ _)
      rwa [if_pos hk', h4] at this
    · rw [if_neg h] at h4
      rw [h4] at hr; exact absurd hr (by decide)

/-- The number of the least of sixteen slices holding a value, as the kernels choose it. -/
def chain (f : Fin 16 → EReal) (m : EReal) : BitVec 32 :=
  if f 0 = m then 0#32 else if f 1 = m then 1#32 else if f 2 = m then 2#32 else if f 3 = m then 3#32 else if f 4 = m then 4#32 else if f 5 = m then 5#32 else if f 6 = m then 6#32 else if f 7 = m then 7#32 else if f 8 = m then 8#32 else if f 9 = m then 9#32 else if f 10 = m then 10#32 else if f 11 = m then 11#32 else if f 12 = m then 12#32 else if f 13 = m then 13#32 else if f 14 = m then 14#32 else if f 15 = m then 15#32 else 16#32

/-- The least of sixteen slices holding a value one of them holds. -/
theorem first16 (f : Fin 16 → EReal) (m : EReal) (h : ∃ g, m = f g) :
    ∃ g : Fin 16, f g = m ∧ (∀ g' : Fin 16, g' < g → f g' ≠ m) ∧
      chain f m = BitVec.ofNat 32 g.val := by
  unfold chain
  by_cases h0 : f 0 = m
  · rw [if_pos h0]
    refine ⟨0, h0, fun g' hg => ?_, rfl⟩
    exact absurd hg (by simp)
  by_cases h1 : f 1 = m
  · rw [if_neg h0, if_pos h1]
    refine ⟨1, h1, fun g' hg => ?_, rfl⟩
    revert hg
    fin_cases g' <;> first | (intro _; assumption) | (intro hg; exact absurd hg (by decide))
  by_cases h2 : f 2 = m
  · rw [if_neg h0, if_neg h1, if_pos h2]
    refine ⟨2, h2, fun g' hg => ?_, rfl⟩
    revert hg
    fin_cases g' <;> first | (intro _; assumption) | (intro hg; exact absurd hg (by decide))
  by_cases h3 : f 3 = m
  · rw [if_neg h0, if_neg h1, if_neg h2, if_pos h3]
    refine ⟨3, h3, fun g' hg => ?_, rfl⟩
    revert hg
    fin_cases g' <;> first | (intro _; assumption) | (intro hg; exact absurd hg (by decide))
  by_cases h4 : f 4 = m
  · rw [if_neg h0, if_neg h1, if_neg h2, if_neg h3, if_pos h4]
    refine ⟨4, h4, fun g' hg => ?_, rfl⟩
    revert hg
    fin_cases g' <;> first | (intro _; assumption) | (intro hg; exact absurd hg (by decide))
  by_cases h5 : f 5 = m
  · rw [if_neg h0, if_neg h1, if_neg h2, if_neg h3, if_neg h4, if_pos h5]
    refine ⟨5, h5, fun g' hg => ?_, rfl⟩
    revert hg
    fin_cases g' <;> first | (intro _; assumption) | (intro hg; exact absurd hg (by decide))
  by_cases h6 : f 6 = m
  · rw [if_neg h0, if_neg h1, if_neg h2, if_neg h3, if_neg h4, if_neg h5, if_pos h6]
    refine ⟨6, h6, fun g' hg => ?_, rfl⟩
    revert hg
    fin_cases g' <;> first | (intro _; assumption) | (intro hg; exact absurd hg (by decide))
  by_cases h7 : f 7 = m
  · rw [if_neg h0, if_neg h1, if_neg h2, if_neg h3, if_neg h4, if_neg h5, if_neg h6, if_pos h7]
    refine ⟨7, h7, fun g' hg => ?_, rfl⟩
    revert hg
    fin_cases g' <;> first | (intro _; assumption) | (intro hg; exact absurd hg (by decide))
  by_cases h8 : f 8 = m
  · rw [if_neg h0, if_neg h1, if_neg h2, if_neg h3, if_neg h4, if_neg h5, if_neg h6, if_neg h7, if_pos h8]
    refine ⟨8, h8, fun g' hg => ?_, rfl⟩
    revert hg
    fin_cases g' <;> first | (intro _; assumption) | (intro hg; exact absurd hg (by decide))
  by_cases h9 : f 9 = m
  · rw [if_neg h0, if_neg h1, if_neg h2, if_neg h3, if_neg h4, if_neg h5, if_neg h6, if_neg h7, if_neg h8, if_pos h9]
    refine ⟨9, h9, fun g' hg => ?_, rfl⟩
    revert hg
    fin_cases g' <;> first | (intro _; assumption) | (intro hg; exact absurd hg (by decide))
  by_cases h10 : f 10 = m
  · rw [if_neg h0, if_neg h1, if_neg h2, if_neg h3, if_neg h4, if_neg h5, if_neg h6, if_neg h7, if_neg h8, if_neg h9, if_pos h10]
    refine ⟨10, h10, fun g' hg => ?_, rfl⟩
    revert hg
    fin_cases g' <;> first | (intro _; assumption) | (intro hg; exact absurd hg (by decide))
  by_cases h11 : f 11 = m
  · rw [if_neg h0, if_neg h1, if_neg h2, if_neg h3, if_neg h4, if_neg h5, if_neg h6, if_neg h7, if_neg h8, if_neg h9, if_neg h10, if_pos h11]
    refine ⟨11, h11, fun g' hg => ?_, rfl⟩
    revert hg
    fin_cases g' <;> first | (intro _; assumption) | (intro hg; exact absurd hg (by decide))
  by_cases h12 : f 12 = m
  · rw [if_neg h0, if_neg h1, if_neg h2, if_neg h3, if_neg h4, if_neg h5, if_neg h6, if_neg h7, if_neg h8, if_neg h9, if_neg h10, if_neg h11, if_pos h12]
    refine ⟨12, h12, fun g' hg => ?_, rfl⟩
    revert hg
    fin_cases g' <;> first | (intro _; assumption) | (intro hg; exact absurd hg (by decide))
  by_cases h13 : f 13 = m
  · rw [if_neg h0, if_neg h1, if_neg h2, if_neg h3, if_neg h4, if_neg h5, if_neg h6, if_neg h7, if_neg h8, if_neg h9, if_neg h10, if_neg h11, if_neg h12, if_pos h13]
    refine ⟨13, h13, fun g' hg => ?_, rfl⟩
    revert hg
    fin_cases g' <;> first | (intro _; assumption) | (intro hg; exact absurd hg (by decide))
  by_cases h14 : f 14 = m
  · rw [if_neg h0, if_neg h1, if_neg h2, if_neg h3, if_neg h4, if_neg h5, if_neg h6, if_neg h7, if_neg h8, if_neg h9, if_neg h10, if_neg h11, if_neg h12, if_neg h13, if_pos h14]
    refine ⟨14, h14, fun g' hg => ?_, rfl⟩
    revert hg
    fin_cases g' <;> first | (intro _; assumption) | (intro hg; exact absurd hg (by decide))
  by_cases h15 : f 15 = m
  · rw [if_neg h0, if_neg h1, if_neg h2, if_neg h3, if_neg h4, if_neg h5, if_neg h6, if_neg h7, if_neg h8, if_neg h9, if_neg h10, if_neg h11, if_neg h12, if_neg h13, if_neg h14, if_pos h15]
    refine ⟨15, h15, fun g' hg => ?_, rfl⟩
    revert hg
    fin_cases g' <;> first | (intro _; assumption) | (intro hg; exact absurd hg (by decide))
  obtain ⟨g, hg⟩ := h
  exfalso
  revert hg
  fin_cases g <;> (intro hg; first | exact h0 hg.symm | exact h1 hg.symm | exact h2 hg.symm | exact h3 hg.symm | exact h4 hg.symm | exact h5 hg.symm | exact h6 hg.symm | exact h7 hg.symm | exact h8 hg.symm | exact h9 hg.symm | exact h10 hg.symm | exact h11 hg.symm | exact h12 hg.symm | exact h13 hg.symm | exact h14 hg.symm | exact h15 hg.symm)

end Cert.Proof.ValI

end
-- ==== Proof.Pick.lean ====
/-
  The merge's rounds as functions of the candidates, and what a round takes.
-/
module

public import proofs.«01_k».proof.Proof.ValC
public import proofs.«01_k».proof.Proof.ValI

@[expose] public section

set_option maxRecDepth 16384

noncomputable section

namespace Cert.Proof.Pick

open Cert.KernelIdeal Cert.KernelIdeal.Gen Cert.Proof
open Idealize.ShloMosaic Idealize.ShloMosaic.TcCoe
open Cert.Proof.PassB Cert.Proof.ValA Cert.Proof.ValB Cert.Proof.ValI

/-- The least value of a row. -/
def low {ι : Type} [Fintype ι] (f : ι → EReal) : EReal := Finset.univ.fold min ⊤ f
/-- The least word beside a row's least value. -/
def who {ι : Type} [Fintype ι] (f : ι → EReal) (x : ι → BitVec 32) : BitVec 32 :=
  Finset.univ.fold IntOp.minsi 2147483647#32 (fun k => if f k = low f then x k else 1073741824#32)

/-- A round takes the key that is least by distance and then by number, when it is there and all else is keys or nothing. -/
theorem pick {ι : Type} [Fintype ι] (d : Fin 100352 → EReal) (f : ι → EReal) (x : ι → BitVec 32)
    (h : ∀ k, f k = ⊤ ∨ ∃ n : Fin 100352, f k = d n ∧ x k = BitVec.ofNat 32 n.val)
    (p : Fin 100352) (hp : d p ≠ ⊤) (k0 : ι) (h0 : f k0 = d p) (h0' : x k0 = BitVec.ofNat 32 p.val)
    (hmin : ∀ k, ∀ n : Fin 100352, f k = d n → x k = BitVec.ofNat 32 n.val → f k ≠ ⊤ → d p < d n ∨ (d p = d n ∧ p.val ≤ n.val)) :
    low f = d p ∧ who f x = BitVec.ofNat 32 p.val := by
  have hw : ∀ n : Fin 100352, (BitVec.ofNat 32 n.val).toNat = n.val := fun n => by
    have := n.isLt
    rw [BitVec.toNat_ofNat, Nat.mod_eq_of_lt (by omega)]
  have hle : low f ≤ d p := h0 ▸ ValC.fold_le Finset.univ f ⊤ k0 (Finset.mem_univ _)
  have hm : low f ≠ ⊤ := ne_top_of_le_ne_top hp hle
  obtain ⟨k, e1, e2, e3⟩ := argmin f x (fun k hk => by
    obtain ⟨n, -, hn⟩ := (h k).resolve_left hk
    have := n.isLt
    rw [hn, hw]; omega) hm
  have e1 : f k = low f := e1
  have e2 : who f x = x k := e2
  obtain ⟨n, hn, hx⟩ := (h k).resolve_left (e1 ▸ hm)
  have hd : d p = d n ∧ p.val ≤ n.val := by
    rcases hmin k n hn hx (e1 ▸ hm) with h | h
    · exact absurd (h.trans_le (hn ▸ e1 ▸ hle)) (lt_irrefl _)
    · exact h
  have hl : low f = d p := by rw [← e1, hn, hd.1]
  have hnp := e3 k0 (h0.trans hl.symm)
  rw [hx, h0', hw, hw] at hnp
  have hpn : n.val = p.val := le_antisymm hnp hd.2
  exact ⟨hl, by rw [e2, hx, hpn]⟩

end Cert.Proof.Pick

end
-- ==== Proof.Rounds.lean ====
/-
  The merge's sixteen rounds, each as one step on the candidates.
-/
module

public import proofs.«01_k».proof.Proof.IdxEnd
public import proofs.«01_k».proof.Proof.Pick

@[expose] public section

set_option maxRecDepth 16384

noncomputable section

namespace Cert.Proof.Rounds

open Cert.KernelIdeal Cert.KernelIdeal.Gen Cert.Proof
open Idealize.ShloMosaic Idealize.ShloMosaic.TcCoe
open Cert.Proof.PassB Cert.Proof.ValA Cert.Proof.ValI Cert.Proof.Pick

section Steps
variable {F : FTy → Type} [FloatOps F]

/-- The least candidate of each row. -/
def vLow (v : FVec F S1024x192 .f32) : FVec F S1024x1 .f32 :=
  shapeCast S1024x1 (multiReduction .minimumf [1] S1024 v 0x7F800000#32 reduces_S1024x192_S1024 (.inl rfl) rfl) shapeCasts_S1024_S1024x1
/-- The least index beside it. -/
def vWho (x : IVec S1024x192 32) (v : FVec F S1024x192 .f32) : IVec S1024x1 32 :=
  shapeCast S1024x1 (multiReductionI .minsi [1] S1024
    (select (cmpf .oeq v (broadcastTo S1024x192 (vLow v) broadcasts_S1024x1_S1024x192)) x (broadcast S1024x192 1073741824#32)) 2147483647#32
    reduces_S1024x192_S1024 rfl) shapeCasts_S1024_S1024x1
/-- The candidates with that index struck out. -/
def vClear (x : IVec S1024x192 32) (v : FVec F S1024x192 .f32) : FVec F S1024x192 .f32 :=
  select (cmpi .eq x (broadcastTo S1024x192 (vWho x v) broadcasts_S1024x1_S1024x192)) (broadcast S1024x192 (Scalar.ofBits .f32 0x7F800000#32)) v

/-- The candidates before a round. -/
def vAt (x : IVec S1024x192 32) (v : FVec F S1024x192 .f32) : ℕ → FVec F S1024x192 .f32
  | 0 => v
  | r + 1 => vClear x (vAt x v r)

variable (cm : Vec F S1024x128 .f32) (ev : Vec F S1024x64 .f32) (ci : Vec F S1024x128 .i32) (ei : Vec F S1024x64 .i32)

/-- The candidates before a round of the merge. -/
def cand (r : ℕ) : FVec F S1024x192 .f32 := vAt (mi ci ei) (k1_pay107 cm ev) r
/-- A round strikes out what it took. -/
theorem cand_succ (r : ℕ) : cand cm ev ci ei (r + 1) = vClear (mi ci ei) (cand cm ev ci ei r) := rfl

/-- The candidates of round 0. -/
theorem V0 : k1_pay107 cm ev = cand cm ev ci ei 0 := rfl
/-- The least candidate of round 0. -/
theorem L0 : k1_pay109 cm ev = vLow (cand cm ev ci ei 0) := by
  rw [← V0]; rfl
/-- The index of round 0. -/
theorem I0 : k1_pay110 cm ev ci ei = vWho (mi ci ei) (cand cm ev ci ei 0) := by
  unfold vWho; rw [← L0, ← V0]; rfl
/-- The candidates of round 1. -/
theorem V1 : ma1 cm ev ci ei = cand cm ev ci ei 1 := by
  rw [cand_succ]; unfold vClear; rw [← I0, ← V0]; rfl
/-- The least candidate of round 1. -/
theorem L1 : k1_pay112 cm ev ci ei = vLow (cand cm ev ci ei 1) := by
  rw [← V1]; rfl
/-- The index of round 1. -/
theorem I1 : k1_pay113 cm ev ci ei = vWho (mi ci ei) (cand cm ev ci ei 1) := by
  unfold vWho; rw [← L1, ← V1]; rfl
/-- The candidates of round 2. -/
theorem V2 : k1_pay115 (mi ci ei) (ma1 cm ev ci ei) (mb1 cm ev ci ei) = cand cm ev ci ei 2 := by
  rw [cand_succ]; unfold vClear; rw [← I1, ← V1]; rfl
/-- The least candidate of round 2. -/
theorem L2 : k1_pay116 (mi ci ei) (ma1 cm ev ci ei) (mb1 cm ev ci ei) = vLow (cand cm ev ci ei 2) := by
  rw [← V2]; rfl
/-- The index of round 2. -/
theorem I2 : k1_pay117 (mi ci ei) (ma1 cm ev ci ei) (mb1 cm ev ci ei) = vWho (mi ci ei) (cand cm ev ci ei 2) := by
  unfold vWho; rw [← L2, ← V2]; rfl
/-- The candidates of round 3. -/
theorem V3 : k1_pay118 (mi ci ei) (ma1 cm ev ci ei) (mb1 cm ev ci ei) = cand cm ev ci ei 3 := by
  rw [cand_succ]; unfold vClear; rw [← I2, ← V2]; rfl
/-- The least candidate of round 3. -/
theorem L3 : k1_pay119 (mi ci ei) (ma1 cm ev ci ei) (mb1 cm ev ci ei) = vLow (cand cm ev ci ei 3) := by
  rw [← V3]; rfl
/-- The index of round 3. -/
theorem I3 : k1_pay120 (mi ci ei) (ma1 cm ev ci ei) (mb1 cm ev ci ei) = vWho (mi ci ei) (cand cm ev ci ei 3) := by
  unfold vWho; rw [← L3, ← V3]; rfl
/-- The candidates of round 4. -/
theorem V4 : ma2 cm ev ci ei = cand cm ev ci ei 4 := by
  rw [cand_succ]; unfold vClear; rw [← I3, ← V3]; rfl
/-- The least candidate of round 4. -/
theorem L4 : k1_pay122 (mi ci ei) (ma1 cm ev ci ei) (mb1 cm ev ci ei) = vLow (cand cm ev ci ei 4) := by
  rw [← V4]; rfl
/-- The index of round 4. -/
theorem I4 : k1_pay124 (mb2 cm ev ci ei) = vWho (mi ci ei) (cand cm ev ci ei 4) := by
  unfold vWho; rw [← L4, ← V4]; rfl
/-- The candidates of round 5. -/
theorem V5 : k1_pay125 (mi ci ei) (ma2 cm ev ci ei) (mb2 cm ev ci ei) = cand cm ev ci ei 5 := by
  rw [cand_succ]; unfold vClear; rw [← I4, ← V4]; rfl
/-- The least candidate of round 5. -/
theorem L5 : k1_pay126 (mi ci ei) (ma2 cm ev ci ei) (mb2 cm ev ci ei) = vLow (cand cm ev ci ei 5) := by
  rw [← V5]; rfl
/-- The index of round 5. -/
theorem I5 : k1_pay127 (mi ci ei) (ma2 cm ev ci ei) (mb2 cm ev ci ei) = vWho (mi ci ei) (cand cm ev ci ei 5) := by
  unfold vWho; rw [← L5, ← V5]; rfl
/-- The candidates of round 6. -/
theorem V6 : ma3 cm ev ci ei = cand cm ev ci ei 6 := by
  rw [cand_succ]; unfold vClear; rw [← I5, ← V5]; rfl
/-- The least candidate of round 6. -/
theorem L6 : k1_pay129 (mi ci ei) (ma2 cm ev ci ei) (mb2 cm ev ci ei) = vLow (cand cm ev ci ei 6) := by
  rw [← V6]; rfl
/-- The index of round 6. -/
theorem I6 : k1_pay130 (mi ci ei) (ma2 cm ev ci ei) (mb2 cm ev ci ei) = vWho (mi ci ei) (cand cm ev ci ei 6) := by
  unfold vWho; rw [← L6, ← V6]; rfl
/-- The candidates of round 7. -/
theorem V7 : k1_pay132 (mi ci ei) (ma3 cm ev ci ei) (mb3 cm ev ci ei) = cand cm ev ci ei 7 := by
  rw [cand_succ]; unfold vClear; rw [← I6, ← V6]; rfl
/-- The least candidate of round 7. -/
theorem L7 : k1_pay133 (mi ci ei) (ma3 cm ev ci ei) (mb3 cm ev ci ei) = vLow (cand cm ev ci ei 7) := by
  rw [← V7]; rfl
/-- The index of round 7. -/
theorem I7 : k1_pay134 (mi ci ei) (ma3 cm ev ci ei) (mb3 cm ev ci ei) = vWho (mi ci ei) (cand cm ev ci ei 7) := by
  unfold vWho; rw [← L7, ← V7]; rfl
/-- The candidates of round 8. -/
theorem V8 : k1_pay135 (mi ci ei) (ma3 cm ev ci ei) (mb3 cm ev ci ei) = cand cm ev ci ei 8 := by
  rw [cand_succ]; unfold vClear; rw [← I7, ← V7]; rfl
/-- The least candidate of round 8. -/
theorem L8 : k1_pay136 (mi ci ei) (ma3 cm ev ci ei) (mb3 cm ev ci ei) = vLow (cand cm ev ci ei 8) := by
  rw [← V8]; rfl
/-- The index of round 8. -/
theorem I8 : k1_pay137 (mi ci ei) (ma3 cm ev ci ei) (mb3 cm ev ci ei) = vWho (mi ci ei) (cand cm ev ci ei 8) := by
  unfold vWho; rw [← L8, ← V8]; rfl
/-- The candidates of round 9. -/
theorem V9 : ma4 cm ev ci ei = cand cm ev ci ei 9 := by
  rw [cand_succ]; unfold vClear; rw [← I8, ← V8]; rfl
/-- The least candidate of round 9. -/
theorem L9 : k1_pay139 (mi ci ei) (ma3 cm ev ci ei) (mb3 cm ev ci ei) = vLow (cand cm ev ci ei 9) := by
  rw [← V9]; rfl
/-- The index of round 9. -/
theorem I9 : k1_pay141 (mb4 cm ev ci ei) = vWho (mi ci ei) (cand cm ev ci ei 9) := by
  unfold vWho; rw [← L9, ← V9]; rfl
/-- The candidates of round 10. -/
theorem V10 : k1_pay142 (mi ci ei) (ma4 cm ev ci ei) (mb4 cm ev ci ei) = cand cm ev ci ei 10 := by
  rw [cand_succ]; unfold vClear; rw [← I9, ← V9]; rfl
/-- The least candidate of round 10. -/
theorem L10 : k1_pay143 (mi ci ei) (ma4 cm ev ci ei) (mb4 cm ev ci ei) = vLow (cand cm ev ci ei 10) := by
  rw [← V10]; rfl
/-- The index of round 10. -/
theorem I10 : k1_pay144 (mi ci ei) (ma4 cm ev ci ei) (mb4 cm ev ci ei) = vWho (mi ci ei) (cand cm ev ci ei 10) := by
  unfold vWho; rw [← L10, ← V10]; rfl
/-- The candidates of round 11. -/
theorem V11 : ma5 cm ev ci ei = cand cm ev ci ei 11 := by
  rw [cand_succ]; unfold vClear; rw [← I10, ← V10]; rfl
/-- The least candidate of round 11. -/
theorem L11 : k1_pay146 (mi ci ei) (ma4 cm ev ci ei) (mb4 cm ev ci ei) = vLow (cand cm ev ci ei 11) := by
  rw [← V11]; rfl
/-- The index of round 11. -/
theorem I11 : k1_pay147 (mi ci ei) (ma4 cm ev ci ei) (mb4 cm ev ci ei) = vWho (mi ci ei) (cand cm ev ci ei 11) := by
  unfold vWho; rw [← L11, ← V11]; rfl
/-- The candidates of round 12. -/
theorem V12 : k1_pay149 (mi ci ei) (ma5 cm ev ci ei) (mb5 cm ev ci ei) = cand cm ev ci ei 12 := by
  rw [cand_succ]; unfold vClear; rw [← I11, ← V11]; rfl
/-- The least candidate of round 12. -/
theorem L12 : k1_pay150 (mi ci ei) (ma5 cm ev ci ei) (mb5 cm ev ci ei) = vLow (cand cm ev ci ei 12) := by
  rw [← V12]; rfl
/-- The index of round 12. -/
theorem I12 : k1_pay151 (mi ci ei) (ma5 cm ev ci ei) (mb5 cm ev ci ei) = vWho (mi ci ei) (cand cm ev ci ei 12) := by
  unfold vWho; rw [← L12, ← V12]; rfl
/-- The candidates of round 13. -/
theorem V13 : k1_pay152 (mi ci ei) (ma5 cm ev ci ei) (mb5 cm ev ci ei) = cand cm ev ci ei 13 := by
  rw [cand_succ]; unfold vClear; rw [← I12, ← V12]; rfl
/-- The least candidate of round 13. -/
theorem L13 : k1_pay153 (mi ci ei) (ma5 cm ev ci ei) (mb5 cm ev ci ei) = vLow (cand cm ev ci ei 13) := by
  rw [← V13]; rfl
/-- The index of round 13. -/
theorem I13 : k1_pay154 (mi ci ei) (ma5 cm ev ci ei) (mb5 cm ev ci ei) = vWho (mi ci ei) (cand cm ev ci ei 13) := by
  unfold vWho; rw [← L13, ← V13]; rfl
/-- The candidates of round 14. -/
theorem V14 : ma6 cm ev ci ei = cand cm ev ci ei 14 := by
  rw [cand_succ]; unfold vClear; rw [← I13, ← V13]; rfl
/-- The least candidate of round 14. -/
theorem L14 : k1_pay156 (mi ci ei) (ma5 cm ev ci ei) (mb5 cm ev ci ei) = vLow (cand cm ev ci ei 14) := by
  rw [← V14]; rfl
/-- The index of round 14. -/
theorem I14 : k1_pay24 (mb6 cm ev ci ei) = vWho (mi ci ei) (cand cm ev ci ei 14) := by
  unfold vWho; rw [← L14, ← V14]; rfl
/-- The candidates of round 15. -/
theorem V15 : k1_pay25 (mi ci ei) (ma6 cm ev ci ei) (mb6 cm ev ci ei) = cand cm ev ci ei 15 := by
  rw [cand_succ]; unfold vClear; rw [← I14, ← V14]; rfl
/-- The least candidate of round 15. -/
theorem L15 : k1_pay26 (mi ci ei) (ma6 cm ev ci ei) (mb6 cm ev ci ei) = vLow (cand cm ev ci ei 15) := by
  rw [← V15]; rfl
/-- The index of round 15. -/
theorem I15 : k1_pay27 (mi ci ei) (ma6 cm ev ci ei) (mb6 cm ev ci ei) = vWho (mi ci ei) (cand cm ev ci ei 15) := by
  unfold vWho; rw [← L15, ← V15]; rfl

/-- A vector of sixteen entries read at a place. -/
theorem vec16 {α : Type} (g : ℕ → α) (r : Fin 16) :
    (![g 0, g 1, g 2, g 3, g 4, g 5, g 6, g 7, g 8, g 9, g 10, g 11, g 12, g 13, g 14, g 15] : Fin 16 → α) r = g r.val := by
  fin_cases r <;> rfl
/-- The columns of least values, a round each. -/
theorem mergeV_at (r : Fin 16) : mergeV cm ev ci ei r = vLow (cand cm ev ci ei r.val) := by
  unfold mergeV
  rw [L0, L1, L2, L3, L4, L5, L6, L7, L8, L9, L10, L11, L12, L13, L14, L15]
  exact vec16 (fun r => vLow (cand cm ev ci ei r)) r
/-- The columns of their indices, a round each. -/
theorem mergeI_at (r : Fin 16) : mergeI cm ev ci ei r = vWho (mi ci ei) (cand cm ev ci ei r.val) := by
  unfold mergeI
  rw [I0, I1, I2, I3, I4, I5, I6, I7, I8, I9, I10, I11, I12, I13, I14, I15]
  exact vec16 (fun r => vWho (mi ci ei) (cand cm ev ci ei r)) r

/-- A column of sixteen columns side by side. -/
theorem ofCols_at {e : EltTy} (p : Fin 16 → Vec F S1024x1 e) (q : Fin 1024) (r : Fin 16) : PassB.ofCols p (ix2 q r) = p r (ix2 q 0) := by
  unfold PassB.ofCols
  exact congrArg (p r) (funext fun a => by fin_cases a <;> rfl)

end Steps

/-- The least candidate of a row. -/
theorem vLow_at (v : FVec Ideal S1024x192 .f32) (q : Fin 1024) : vLow v (ix2 q 0) = low (fun k : Fin 192 => v (ix2 q k)) := by
  pointwise [vLow]
  rw [ofBits_inf]
  rfl

/-- The least index beside it. -/
theorem vWho_at (x : IVec S1024x192 32) (v : FVec Ideal S1024x192 .f32) (q : Fin 1024) :
    vWho x v (ix2 q 0) = who (fun k : Fin 192 => v (ix2 q k)) (fun k => x (ix2 q k)) := by
  pointwise [vWho]
  simp only [vLow_at]
  rfl

/-- The candidates with that index struck out. -/
theorem vClear_at (x : IVec S1024x192 32) (v : FVec Ideal S1024x192 .f32) (q : Fin 1024) (k : Fin 192) :
    vClear x v (ix2 q k) = if x (ix2 q k) = who (fun k : Fin 192 => v (ix2 q k)) (fun k => x (ix2 q k)) then (⊤ : EReal) else v (ix2 q k) := by
  pointwise [vClear]
  simp only [vWho_at, ofBits_inf, Scalar.select, IntOp.cmpi]
  by_cases h : x (ix2 q k) = who (fun k : Fin 192 => v (ix2 q k)) (fun k => x (ix2 q k))
  · simp [h]
  · have hb := beq_eq_false_iff_ne.mpr h
    rw [if_neg h, hb]
    rfl

/-- The first candidates are the lane minima, then the extras. -/
theorem cand0_at (cm : Vec Ideal S1024x128 .f32) (ev : Vec Ideal S1024x64 .f32) (q : Fin 1024) (k : Fin 192) :
    k1_pay107 cm ev (ix2 q k) = if h : k.val < 128 then cm (ix2 q ⟨k.val, h⟩) else ev (ix2 q ⟨k.val - 128, by omega⟩) := by
  unfold k1_pay107
  pointwise []

/-- The candidates' indices. -/
theorem mi_at (ci : Vec Ideal S1024x128 .i32) (ei : Vec Ideal S1024x64 .i32) (q : Fin 1024) (k : Fin 192) :
    mi (F := Ideal) ci ei (ix2 q k) = if h : k.val < 128 then ci (ix2 q ⟨k.val, h⟩) else ei (ix2 q ⟨k.val - 128, by omega⟩) := by
  unfold mi k1_pay108
  pointwise []

end Cert.Proof.Rounds

end
-- ==== Proof.IdxA.lean ====
/-
  Pass A at the extended reals: the index words beside the lane minima.
-/
module

public import proofs.«01_k».proof.Proof.ValI
public import proofs.«01_k».proof.Proof.IdxEnd

@[expose] public section

set_option maxRecDepth 16384

noncomputable section

namespace Cert.Proof.IdxA

open Cert.KernelIdeal Cert.KernelIdeal.Gen Cert.Proof
open Idealize.ShloMosaic Idealize.ShloMosaic.TcCoe
open Cert.Proof.PassB Cert.Proof.ValA Cert.Proof.ValB Cert.Proof.ValI Cert.Proof.ValMem

/-- The index words a point of the first kernel leaves, at an index. -/
theorem cidxN_at (i : grid0.Coords) (x1 : Vec Ideal S1024x128 .bf16) (x2 : Vec Ideal S2048x128 .bf16) (x3 : Vec Ideal S1024x1 .f32) (x4 : Vec Ideal S1x2048 .f32)
    (X5 : Vec Ideal S1024x128 .f32) (X6 : Vec Ideal S1024x128 .i32) (q : Fin 1024) (l : Fin 128) :
    PassA.cidxN i x1 x2 x3 x4 X5 X6 (ix2 q l) = Scalar.select (BitVec.ofBool (decide (PassA.bmin x1 x2 x3 x4 (ix2 q l) < PassA.cmin0 i X5 (ix2 q l))))
      (IntOp.addi (IntOp.addi (Scalar.muli (BitVec.ofNat 32 (i 0).val) 2048#32) (IntOp.muli (chain (fun g => k0_pay14 x1 x2 x3 x4 (ix2 q ⟨128 * g.val + l.val, by omega⟩)) (PassA.bmin x1 x2 x3 x4 (ix2 q l))) 128#32)) (BitVec.ofNat 32 l.val))
      (PassA.cidx0 i X6 (ix2 q l)) := by
  unfold PassA.cidxN PassA.barg PassA.bmin chain
  unfold k0_pay36 k0_pay37
  unfold k0_pay2 k0_pay1 k0_pay38
  pointwise []
  unfold k0_pay15 k0_pay16 k0_pay17 k0_pay18 k0_pay19 k0_pay20 k0_pay21 k0_pay22 k0_pay23 k0_pay24 k0_pay25 k0_pay26 k0_pay27 k0_pay28 k0_pay29 k0_pay30
  pointwise []

variable (V : (c : Dev nD) → Valuation τ sig (Elt Ideal)) (c : Dev nD)

/-- A point's first coordinate is its number. -/
theorem coord0 : ∀ t : Fin cfg0.N, (grid0.coords t 0).val = t.val := by decide

/-- The word of a slice's lane, computed as the first kernel does. -/
theorem word0 (n g : ℕ) (l : ℕ) :
    IntOp.addi (IntOp.addi (Scalar.muli (BitVec.ofNat 32 n) 2048#32) (IntOp.muli (BitVec.ofNat 32 g) 128#32)) (BitVec.ofNat 32 l) = BitVec.ofNat 32 (2048 * n + (128 * g + l)) := by
  simp [Scalar.addi, Scalar.muli, IntOp.addi, IntOp.muli, BitVec.ofNat_add, BitVec.ofNat_mul, mul_comm, add_assoc]

/-- What holds of a lane minimum and its word after the blocks before `n`: the minimum is the top element, or is the distance
    of a key of the lane whose word stands beside it, less than those of the lane's earlier keys. -/
def InvI (n : ℕ) : Prop :=
  ∀ (q : Fin 1024) (l : Fin 128), (RegionA.state V c n).1 (ix2 q l) = (⊤ : EReal) ∨
    ∃ m : Fin 100352, m.val < 2048 * n ∧ m.val % 128 = l.val ∧ (RegionA.state V c n).1 (ix2 q l) = D V c q m
      ∧ (RegionA.state V c n).2 (ix2 q l) = BitVec.ofNat 32 m.val
      ∧ ∀ m' : Fin 100352, m'.val % 128 = l.val → m' < m → D V c q m < D V c q m'

/-- One point's new index words. -/
theorem word_at (t : Fin cfg0.N) (q : Fin 1024) (l : Fin 128) :
    (RegionA.state V c (t.val + 1)).2 (ix2 q l)
      = Scalar.select (BitVec.ofBool (decide (PassA.bmin (RegionA.qIn V c t) (RegionA.kIn V c t) (RegionA.qqIn V c t) (RegionA.kkIn V c t) (ix2 q l) < (RegionA.state V c t.val).1 (ix2 q l))))
          (IntOp.addi (IntOp.addi (Scalar.muli (BitVec.ofNat 32 t.val) 2048#32)
            (IntOp.muli (chain (fun g => k0_pay14 (RegionA.qIn V c t) (RegionA.kIn V c t) (RegionA.qqIn V c t) (RegionA.kkIn V c t) (ix2 q ⟨128 * g.val + l.val, by omega⟩))
              (PassA.bmin (RegionA.qIn V c t) (RegionA.kIn V c t) (RegionA.qqIn V c t) (RegionA.kkIn V c t) (ix2 q l))) 128#32)) (BitVec.ofNat 32 l.val))
          ((RegionA.state V c t.val).2 (ix2 q l)) := by
  rw [IdxEnd.stateA_snd, cidxN_at, coord0]
  have e : PassA.cmin0 (grid0.coords t) (RegionA.state V c t.val).1 = (RegionA.state V c t.val).1 := by
    unfold PassA.cmin0
    by_cases h : PassA.first (grid0.coords t) = 1#1
    · rw [if_pos h, (RegionA.first_iff t).mp h]; rfl
    · rw [if_neg h]
  have e' : PassA.cidx0 (grid0.coords t) (RegionA.state V c t.val).2 = (RegionA.state V c t.val).2 := by
    unfold PassA.cidx0
    by_cases h : PassA.first (grid0.coords t) = 1#1
    · rw [if_pos h, (RegionA.first_iff t).mp h]; rfl
    · rw [if_neg h]
  rw [e, e']

/-- The facts about the lane minima's words hold after every point. -/
theorem invI : ∀ n : ℕ, n ≤ 49 → InvI V c n
  | 0, _ => fun q l => Or.inl (init_at (ix2 q l))
  | n + 1, hn => fun q l => by
    have hN : n < cfg0.N := by show n < grid0.N; rw [N_0]; omega
    have ih := invI n (by omega) q l
    have ihA := (invA V c n (by omega) q l).1
    have hs := state_at V c ⟨n, hN⟩ q l
    have hw := word_at V c ⟨n, hN⟩ q l
    have hb := bmin_at (RegionA.qIn V c ⟨n, hN⟩) (RegionA.kIn V c ⟨n, hN⟩) (RegionA.qqIn V c ⟨n, hN⟩) (RegionA.kkIn V c ⟨n, hN⟩) q l
    dsimp only at hs hw
    simp only [dist0] at hb hw
    generalize PassA.bmin (RegionA.qIn V c ⟨n, hN⟩) (RegionA.kIn V c ⟨n, hN⟩) (RegionA.qqIn V c ⟨n, hN⟩) (RegionA.kkIn V c ⟨n, hN⟩) (ix2 q l) = b at hs hw hb
    generalize (RegionA.state V c (n + 1)).1 (ix2 q l) = v' at hs ⊢
    generalize (RegionA.state V c (n + 1)).2 (ix2 q l) = w' at hw ⊢
    generalize (RegionA.state V c n).1 (ix2 q l) = v at hs hw ih ihA
    generalize (RegionA.state V c n).2 (ix2 q l) = w at hw ih
    by_cases h : b < v
    · obtain ⟨g, e1, e2, e3⟩ := first16 _ b hb.2
      rw [e3, word0] at hw
      simp only [h, decide_true, Scalar.select] at hw
      rw [min_eq_left h.le] at hs
      refine Or.inr ⟨at0 ⟨n, hN⟩ ⟨128 * g.val + l.val, by omega⟩, ?_, ?_, hs.trans e1.symm, ?_, fun m' hm' hlt => ?_⟩
      · show 2048 * n + (128 * g.val + l.val) < _
        have := g.isLt; have := l.isLt; omega
      · show (2048 * n + (128 * g.val + l.val)) % 128 = l.val
        have := l.isLt; omega
      · exact hw
      · have hlt : m'.val < 2048 * n + (128 * g.val + l.val) := hlt
        rw [e1]
        by_cases hc : m'.val < 2048 * n
        · exact h.trans_le (ihA m' hc hm')
        · have hg : (m'.val - 2048 * n) / 128 < 16 := by have := g.isLt; have := l.isLt; omega
          have em : m' = at0 ⟨n, hN⟩ ⟨128 * ((m'.val - 2048 * n) / 128) + l.val, by omega⟩ := Fin.ext (by
            show m'.val = 2048 * n + (128 * ((m'.val - 2048 * n) / 128) + l.val)
            omega)
          have h1 := hb.1 ⟨(m'.val - 2048 * n) / 128, hg⟩
          have h2 := e2 ⟨(m'.val - 2048 * n) / 128, hg⟩ (by rw [Fin.lt_def]; show (m'.val - 2048 * n) / 128 < g.val; omega)
          rw [em]
          exact lt_of_le_of_ne h1 (Ne.symm h2)
    · simp only [h, decide_false, Scalar.select] at hw
      rw [min_eq_right (not_lt.mp h)] at hs
      rw [hs, hw]
      refine ih.imp id fun ⟨m, h1, h2⟩ => ⟨m, by omega, h2⟩

end Cert.Proof.IdxA

end
-- ==== Proof.IdxB.lean ====
/-
  Pass B at the extended reals: every value it records stands beside the word of a key it is the value of.
-/
module

public import proofs.«01_k».proof.Proof.ValI

@[expose] public section

set_option maxRecDepth 16384

noncomputable section

namespace Cert.Proof.IdxB

open Cert.KernelIdeal Cert.KernelIdeal.Gen Cert.Proof
open Idealize.ShloMosaic Idealize.ShloMosaic.TcCoe
open Cert.Proof.PassB Cert.Proof.ValA Cert.Proof.ValB Cert.Proof.ValI Cert.Proof.ValMem

/-- The word of a slice's lane, computed as the kernel does. -/
theorem word_eq (i : grid1.Coords) (g : ℕ) (l : Fin 128) :
    IntOp.addi (IntOp.addi (Scalar.muli (pt i) 2048#32) (IntOp.muli (BitVec.ofNat 32 g) 128#32)) (BitVec.ofNat 32 l.val) = keyWord i g l := by
  unfold keyWord pt
  simp [Scalar.addi, Scalar.muli, IntOp.addi, IntOp.muli, BitVec.ofNat_add, BitVec.ofNat_mul, mul_comm, add_assoc]

/-- The lane minima and their index words name one slice. -/
theorem fidx_pair (i : grid1.Coords) (w : Fin 16 → Vec Ideal S1024x128 .f32) (q : Fin 1024) (l : Fin 128) :
    ∃ g : Fin 16, fminOf w (ix2 q l) = w g (ix2 q l) ∧ fidxOf (pt i) w (ix2 q l) = keyWord i g.val l := by
  have ht : ∃ g, fminOf w (ix2 q l) = w g (ix2 q l) := by
    refine (tree16 (fun g => w g (ix2 q l)) _ ?_).2
    unfold fminOf k1_pay222 k1_pay221
    pointwise []
  have hc : fidxOf (pt i) w (ix2 q l)
      = IntOp.addi (IntOp.addi (Scalar.muli (pt i) 2048#32) (IntOp.muli (chain (fun g => w g (ix2 q l)) (fminOf w (ix2 q l))) 128#32)) (BitVec.ofNat 32 l.val) := by
    unfold fidxOf fargOf fminOf chain
    unfold k1_pay225 k1_pay224 k1_pay223
    pointwise [io128]
  obtain ⟨g, e, -, hg⟩ := first16 (fun g => w g (ix2 q l)) (fminOf w (ix2 q l)) ht
  exact ⟨g, e.symm, by rw [hc, hg, word_eq]⟩

/-- The word the slow loop computes for a lane. -/
def slowWord (j : BitVec 32) (w : Fin 16 → Vec Ideal S1024x128 .f32) (q : Fin 1024) (l : Fin 128) : BitVec 32 :=
  IntOp.addi (IntOp.addi (Scalar.muli j 2048#32) (IntOp.muli (chain (fun g => w g (ix2 q l)) (slowMin w (ix2 q l))) 128#32)) (BitVec.ofNat 32 l.val)

/-- The slow loop's lane minima and their words name one slice. -/
theorem slow_pair (i : grid1.Coords) (w : Fin 16 → Vec Ideal S1024x128 .f32) (q : Fin 1024) (l : Fin 128) :
    ∃ g : Fin 16, slowMin w (ix2 q l) = w g (ix2 q l) ∧ slowWord (pt i) w q l = keyWord i g.val l := by
  have ht : ∃ g, slowMin w (ix2 q l) = w g (ix2 q l) := by
    refine (tree16 (fun g => w g (ix2 q l)) _ ?_).2
    unfold slowMin part28 part29 part30 part31 part32
    unfold k1_pay33 k1_pay32 k1_pay31 k1_pay30 k1_pay29 k1_pay28
    pointwise []
  obtain ⟨g, e, -, hg⟩ := first16 (fun g => w g (ix2 q l)) (slowMin w (ix2 q l)) ht
  exact ⟨g, e.symm, by unfold slowWord; rw [hg, word_eq]⟩

/-- The least remaining value of a row is the least of its lane minima. -/
theorem slowRow_at (w : Fin 16 → Vec Ideal S1024x128 .f32) (q : Fin 1024) :
    slowRow w (ix2 q 0) = Finset.univ.fold min (⊤ : EReal) (fun l : Fin 128 => slowMin w (ix2 q l)) := by
  unfold slowRow slowMin k1_pay34
  pointwise []
  rw [ofBits_inf]

/-- The word the slow loop takes: the least beside the row's least remaining value. -/
theorem slowIdx_at (j : BitVec 32) (w : Fin 16 → Vec Ideal S1024x128 .f32) (q : Fin 1024) :
    slowIdx j w (ix2 q 0) = Finset.univ.fold IntOp.minsi 2147483647#32
      (fun l : Fin 128 => if slowMin w (ix2 q l) = slowRow w (ix2 q 0) then slowWord j w q l else 1073741824#32) := by
  unfold slowIdx slowArg slowWord chain
  unfold k1_pay37 k1_pay36
  pointwise [io128]
  unfold slowMin
  rfl

/-- The extras' words after a slow trip. -/
theorem slowStep_ei (j : BitVec 32) (s : Slow Ideal) (q : Fin 1024) (e : Fin 64) : (slowStep j s).2.2.1 (ix2 q e)
    = Scalar.select (IntOp.andi (IntOp.cmpi .eq (io64 (ix2 q e)) (s.2.2.2 (ix2 q 0))) (slowOk s.1 (ix2 q 0))) (slowIdx j s.1 (ix2 q 0)) (s.2.2.1 (ix2 q e)) := by
  have : (slowStep j s).2.2.1 = k1_pay41 (k1_pay40 j io128 io64 (s.1 0) (s.1 1) (s.1 2) (s.1 3) (slowMin s.1) (slowRow s.1) (slowOk s.1) (slowArg s.1) s.2.2.2 s.2.2.1) := by simp only [slowStep]
  rw [this]
  unfold slowIdx
  generalize slowMin s.1 = fm
  generalize slowRow s.1 = fr
  generalize slowOk s.1 = ok
  generalize slowArg s.1 = ag
  unfold k1_pay41 k1_pay40
  unfold k1_pay38
  pointwise []

/-- The extras' values after a slow trip. -/
theorem slowStep_evAt (j : BitVec 32) (s : Slow Ideal) (q : Fin 1024) (e : Fin 64) : (slowStep j s).2.1 (ix2 q e)
    = Scalar.select (IntOp.andi (IntOp.cmpi .eq (io64 (ix2 q e)) (s.2.2.2 (ix2 q 0))) (slowOk s.1 (ix2 q 0))) (slowRow s.1 (ix2 q 0)) (s.2.1 (ix2 q e)) := by
  rw [slowStep_ev]
  generalize slowRow s.1 = fr
  generalize slowOk s.1 = ok
  unfold k1_pay39 k1_pay38
  pointwise []

/-- The fast loop's extras' words. -/
theorem fastStep_ei (fidx : IVec S1024x128 32) (s : Fast Ideal) : (fastStep fidx s).2.2.1 = k1_pay6 fidx io64 s.1 s.2.2.2 s.2.2.1 := by simp only [fastStep]

/-- The extras after a fast trip: at the place filled, the least remaining value and the least word beside it. -/
theorem fastStep_at (fidx : IVec S1024x128 32) (s : Fast Ideal) (q : Fin 1024) (e : Fin 64) : ∃ b : BitVec 1,
    (fastStep fidx s).2.1 (ix2 q e) = Scalar.select b (Finset.univ.fold min (⊤ : EReal) fun l : Fin 128 => s.1 (ix2 q l)) (s.2.1 (ix2 q e))
    ∧ (fastStep fidx s).2.2.1 (ix2 q e) = Scalar.select b (Finset.univ.fold IntOp.minsi 2147483647#32
        (fun l : Fin 128 => if s.1 (ix2 q l) = Finset.univ.fold min (⊤ : EReal) (fun l : Fin 128 => s.1 (ix2 q l)) then fidx (ix2 q l) else 1073741824#32)) (s.2.2.1 (ix2 q e)) := by
  rw [fastStep_ev, fastStep_ei]
  refine ⟨IntOp.andi (IntOp.cmpi .eq (io64 (ix2 q e)) (s.2.2.2 (ix2 q 0)))
    (BitVec.ofBool (decide (Finset.fold min (⊤ : EReal) (fun x : Fin 128 => s.1 (ix2 q x)) Finset.univ < ⊤))), ?_, ?_⟩
  · unfold k1_pay5
    unfold k1_pay4 k1_pay2 k1_pay1
    pointwise []
    simp only [ofBits_inf]
  · unfold k1_pay6 k1_pay3
    unfold k1_pay4 k1_pay2 k1_pay1
    pointwise []
    simp only [ofBits_inf]

section Pairs

variable (P : Fin 1024 → EReal → BitVec 32 → Prop) (hP : ∀ q w, P q ⊤ w) (hS : ∀ q v w, P q v w → v ≠ ⊤ → w.toNat < 1073741824)

/-- A choice of a pair by one word. -/
theorem sel_pair {Q : EReal → BitVec 32 → Prop} {b : BitVec 1} {v v' : EReal} {w w' : BitVec 32} (h : Q v w) (h' : Q v' w') :
    Q (Scalar.select b v v') (Scalar.select b w w') := by
  unfold Scalar.select; split <;> assumption

include hP hS

/-- The least value of a row and the least word beside it are a pair when every element is. -/
theorem row_pair {ι : Type} [Fintype ι] (q : Fin 1024) (f : ι → EReal) (x : ι → BitVec 32) (h : ∀ k, P q (f k) (x k)) :
    P q (Finset.univ.fold min ⊤ f) (Finset.univ.fold IntOp.minsi 2147483647#32 (fun k => if f k = Finset.univ.fold min ⊤ f then x k else 1073741824#32)) := by
  by_cases hm : Finset.univ.fold min ⊤ f = ⊤
  · rw [hm]; exact hP q _
  · obtain ⟨k, e1, e2, -⟩ := argmin f x (fun k hk => hS q _ _ (h k) hk) hm
    rw [e2]
    have := h k
    rwa [e1] at this

/-- One fast trip keeps the pairs. -/
theorem fast_pair (fidx : IVec S1024x128 32) (s : Fast Ideal) (h1 : ∀ q l, P q (s.1 (ix2 q l)) (fidx (ix2 q l)))
    (h2 : ∀ q e, P q (s.2.1 (ix2 q e)) (s.2.2.1 (ix2 q e))) :
    (∀ q l, P q ((fastStep fidx s).1 (ix2 q l)) (fidx (ix2 q l))) ∧ (∀ q e, P q ((fastStep fidx s).2.1 (ix2 q e)) ((fastStep fidx s).2.2.1 (ix2 q e))) := by
  refine ⟨fun q l => ?_, fun q e => ?_⟩
  · rw [fastStep_rem]
    unfold k1_pay8
    generalize k1_pay3 (F := Ideal) fidx s.1 = k3
    pointwise []
    exact sel_pred (P := fun v => P q v (fidx (ix2 q l))) ((ofBits_inf).symm ▸ hP q _) (h1 q l)
  · obtain ⟨b, e1, e2⟩ := fastStep_at fidx s q e
    rw [e1, e2]
    exact sel_pair (row_pair P hP hS q _ _ (h1 q)) (h2 q e)

/-- One slow trip keeps the extras' pairs. -/
theorem slow_pair_ext (i : grid1.Coords) (s : Slow Ideal) (h1 : ∀ g q l, P q (s.1 g (ix2 q l)) (keyWord i g.val l))
    (h2 : ∀ q e, P q (s.2.1 (ix2 q e)) (s.2.2.1 (ix2 q e))) (q : Fin 1024) (e : Fin 64) :
    P q ((slowStep (pt i) s).2.1 (ix2 q e)) ((slowStep (pt i) s).2.2.1 (ix2 q e)) := by
  rw [slowStep_evAt, slowStep_ei]
  refine sel_pair ?_ (h2 q e)
  rw [slowIdx_at, slowRow_at]
  refine row_pair P hP hS q _ _ fun l => ?_
  obtain ⟨g, e1, e2⟩ := slow_pair i s.1 q l
  rw [e1, e2]
  exact h1 g q l

end Pairs

end Cert.Proof.IdxB

end
-- ==== Proof.IdxC.lean ====
/-
  The extras: every value recorded stands beside the word of a key at that distance.
-/
module

public import proofs.«01_k».proof.Proof.IdxB
public import proofs.«01_k».proof.Proof.ValC

@[expose] public section

set_option maxRecDepth 16384

noncomputable section

namespace Cert.Proof.IdxC

open Cert.KernelIdeal Cert.KernelIdeal.Gen Cert.Proof
open Idealize.ShloMosaic Idealize.ShloMosaic.TcCoe
open Cert.Proof.PassB Cert.Proof.ValA Cert.Proof.ValB Cert.Proof.ValI Cert.Proof.ValMem Cert.Proof.IdxB Cert.Proof.ValEnd Cert.Proof.ValC

/-- A value is the top element or another. -/
def Near (a b : EReal) : Prop := a = ⊤ ∨ a = b

/-- A choice between the top element and a value. -/
theorem near_sel {b : BitVec 1} {z x : EReal} (hz : z = ⊤) : Near (Scalar.select b z x) x := by
  unfold Scalar.select; split
  · exact Or.inl hz
  · exact Or.inr rfl

/-- A slow trip leaves each remaining value or strikes it out. -/
theorem strike_near (j : BitVec 32) (w : Fin 16 → Vec Ideal S1024x128 .f32) (g : Fin 16) (q : Fin 1024) (l : Fin 128) :
    Near (slowStrike j w g (ix2 q l)) (w g (ix2 q l)) := by
  unfold slowStrike
  generalize slowIdx j w = si
  match g with
  | 0 =>
    show Near (k1_pay43 (F := Ideal) j io128 (w 0) si (ix2 q l)) _
    unfold_payloads
    pointwise []
    exact near_sel ofBits_inf
  | 1 =>
    show Near (k1_pay44 (F := Ideal) j io128 (w 1) si (ix2 q l)) _
    unfold_payloads
    pointwise []
    exact near_sel ofBits_inf
  | 2 =>
    show Near (k1_pay46 (F := Ideal) (k1_pay45 j io128 (w 2) si) (ix2 q l)) _
    unfold_payloads
    pointwise []
    exact near_sel ofBits_inf
  | 3 =>
    show Near (k1_pay47 (F := Ideal) j io128 (w 3) si (ix2 q l)) _
    unfold_payloads
    pointwise []
    exact near_sel ofBits_inf
  | 4 =>
    show Near (k1_pay48 (F := Ideal) j io128 (w 4) si (ix2 q l)) _
    unfold_payloads
    pointwise []
    exact near_sel ofBits_inf
  | 5 =>
    show Near (k1_pay49 (F := Ideal) j io128 (w 5) si (ix2 q l)) _
    unfold_payloads
    pointwise []
    exact near_sel ofBits_inf
  | 6 =>
    show Near (k1_pay52 (F := Ideal) (w 6) (k1_pay50 j io128) (k1_pay51 si) (ix2 q l)) _
    unfold_payloads
    pointwise []
    exact near_sel ofBits_inf
  | 7 =>
    show Near (k1_pay53 (F := Ideal) j io128 (w 7) si (ix2 q l)) _
    unfold_payloads
    pointwise []
    exact near_sel ofBits_inf
  | 8 =>
    show Near (k1_pay54 (F := Ideal) j io128 (w 8) si (ix2 q l)) _
    unfold_payloads
    pointwise []
    exact near_sel ofBits_inf
  | 9 =>
    show Near (k1_pay55 (F := Ideal) j io128 (w 9) si (ix2 q l)) _
    unfold_payloads
    pointwise []
    exact near_sel ofBits_inf
  | 10 =>
    show Near (k1_pay56 (F := Ideal) j io128 (w 10) si (ix2 q l)) _
    unfold_payloads
    pointwise []
    exact near_sel ofBits_inf
  | 11 =>
    show Near (k1_pay57 (F := Ideal) j io128 (w 11) si (ix2 q l)) _
    unfold_payloads
    pointwise []
    exact near_sel ofBits_inf
  | 12 =>
    show Near (k1_pay58 (F := Ideal) j io128 (w 12) si (ix2 q l)) _
    unfold_payloads
    pointwise []
    exact near_sel ofBits_inf
  | 13 =>
    show Near (k1_pay18 (F := Ideal) (w 13) (k1_pay59 j io128 si) (ix2 q l)) _
    unfold_payloads
    pointwise []
    exact near_sel ofBits_inf
  | 14 =>
    show Near (k1_pay19 (F := Ideal) j io128 (w 14) si (ix2 q l)) _
    unfold_payloads
    pointwise []
    exact near_sel ofBits_inf
  | 15 =>
    show Near (k1_pay20 (F := Ideal) j io128 (w 15) si (ix2 q l)) _
    unfold_payloads
    pointwise []
    exact near_sel ofBits_inf
  | ⟨n + 16, h⟩ => exact absurd h (by omega)

/-- The slow loop starts from each flagged value or the top element. -/
theorem resid_near (w : Fin 16 → Vec Ideal S1024x128 .f32) (g : Fin 16) (q : Fin 1024) (l : Fin 128) :
    Near (residOf w g (ix2 q l)) (w g (ix2 q l)) := by
  unfold residOf
  generalize fsubOf w = fs
  match g with
  | 0 =>
    show Near (k1_pay92 (F := Ideal) (w 0) fs (ix2 q l)) _
    unfold_payloads
    pointwise []
    exact near_sel ofBits_inf
  | 1 =>
    show Near (k1_pay93 (F := Ideal) (w 1) fs (ix2 q l)) _
    unfold_payloads
    pointwise []
    exact near_sel ofBits_inf
  | 2 =>
    show Near (k1_pay94 (F := Ideal) (w 2) fs (ix2 q l)) _
    unfold_payloads
    pointwise []
    exact near_sel ofBits_inf
  | 3 =>
    show Near (k1_pay95 (F := Ideal) (w 3) fs (ix2 q l)) _
    unfold_payloads
    pointwise []
    exact near_sel ofBits_inf
  | 4 =>
    show Near (k1_pay96 (F := Ideal) (w 4) fs (ix2 q l)) _
    unfold_payloads
    pointwise []
    exact near_sel ofBits_inf
  | 5 =>
    show Near (k1_pay97 (F := Ideal) (w 5) fs (ix2 q l)) _
    unfold_payloads
    pointwise []
    exact near_sel ofBits_inf
  | 6 =>
    show Near (k1_pay98 (F := Ideal) (w 6) fs (ix2 q l)) _
    unfold_payloads
    pointwise []
    exact near_sel ofBits_inf
  | 7 =>
    show Near (k1_pay99 (F := Ideal) (w 7) fs (ix2 q l)) _
    unfold_payloads
    pointwise []
    exact near_sel ofBits_inf
  | 8 =>
    show Near (k1_pay100 (F := Ideal) (w 8) fs (ix2 q l)) _
    unfold_payloads
    pointwise []
    exact near_sel ofBits_inf
  | 9 =>
    show Near (k1_pay101 (F := Ideal) (w 9) fs (ix2 q l)) _
    unfold_payloads
    pointwise []
    exact near_sel ofBits_inf
  | 10 =>
    show Near (k1_pay102 (F := Ideal) (w 10) fs (ix2 q l)) _
    unfold_payloads
    pointwise []
    exact near_sel ofBits_inf
  | 11 =>
    show Near (k1_pay103 (F := Ideal) (w 11) fs (ix2 q l)) _
    unfold_payloads
    pointwise []
    exact near_sel ofBits_inf
  | 12 =>
    show Near (k1_pay104 (F := Ideal) (w 12) fs (ix2 q l)) _
    unfold_payloads
    pointwise []
    exact near_sel ofBits_inf
  | 13 =>
    show Near (k1_pay105 (F := Ideal) (w 13) fs (ix2 q l)) _
    unfold_payloads
    pointwise []
    exact near_sel ofBits_inf
  | 14 =>
    show Near (k1_pay106 (F := Ideal) (w 14) fs (ix2 q l)) _
    unfold_payloads
    pointwise []
    exact near_sel ofBits_inf
  | 15 =>
    show Near (k1_pay17 (F := Ideal) (w 15) fs (ix2 q l)) _
    unfold_payloads
    pointwise []
    exact near_sel ofBits_inf
  | ⟨n + 16, h⟩ => exact absurd h (by omega)

section Proj
variable {F : FTy → Type} [FloatOps F]

variable (V : (c : Dev nD) → Valuation τ sig (Elt F)) (c : Dev nD)

/-- The extras at the start. -/
theorem stateB_start : (RegionB.state V c 0) = (k1_pay158, k1_pay159, k1_pay160) := by rw [RegionB.state]

/-- The extras after a point. -/
theorem stateB_next (t : Fin cfg1.N) : RegionB.state V c (t.val + 1)
    = extN (grid1.coords t) (RegionB.qIn V c t) (RegionB.kIn V c t) (RegionB.qqIn V c t) (RegionB.kkIn V c t) (RegionB.ciIn V c t) (RegionB.thIn V c t)
        (RegionB.state V c t.val) := by
  rw [RegionB.state_succ, RegionB.step]

end Proj

section Pairs

variable (P : Fin 1024 → EReal → BitVec 32 → Prop) (hP : ∀ q w, P q ⊤ w) (hS : ∀ q v w, P q v w → v ≠ ⊤ → w.toNat < 1073741824)
include hP hS

/-- A value near one of a pair is one of a pair. -/
theorem near_pair (q : Fin 1024) {a b : EReal} {w : BitVec 32} (h : Near a b) (hb : P q b w) : P q a w := by
  rcases h with h | h <;> rw [h]
  · exact hP q w
  · exact hb

/-- Both loops keep the pairs. -/
theorem both_pair (i : grid1.Coords) (cl : IVec S1024x128 32) (w : Fin 16 → Vec Ideal S1024x128 .f32) (s : Ext Ideal)
    (hw : ∀ g q l, P q (w g (ix2 q l)) (keyWord i g.val l)) (hs : ∀ q e, P q (s.1 (ix2 q e)) (s.2.1 (ix2 q e))) (q : Fin 1024) (e : Fin 64) :
    P q ((bothOf (pt i) cl w s).1 (ix2 q e)) ((bothOf (pt i) cl w s).2.1 (ix2 q e)) := by
  have h0 := iter_pred (fastStep (fidxOf (pt i) w)) (fun s => (∀ q l, P q (s.1 (ix2 q l)) (fidxOf (pt i) w (ix2 q l))) ∧ ∀ q e, P q (s.2.1 (ix2 q e)) (s.2.2.1 (ix2 q e)))
      (fun s h => fast_pair P hP hS (fidxOf (pt i) w) s h.1 h.2) (fminOf w, s)
      ⟨fun q l => by
        obtain ⟨g, e1, e2⟩ := fidx_pair i w q l
        show P q (fminOf w (ix2 q l)) _
        rw [e1, e2]
        exact hw g q l, hs⟩ (k1_t1_loop (nmaxOf w)).trips
  rw [fastOf_eq] at h0
  obtain ⟨fs, hF⟩ : ∃ fs, fs = fastOf (pt i) w s := ⟨_, rfl⟩
  rw [← hF] at h0
  have h1 := iter_pred (slowStep (pt i)) (fun s => (∀ g q l, P q (s.1 g (ix2 q l)) (keyWord i g.val l)) ∧ ∀ q e, P q (s.2.1 (ix2 q e)) (s.2.2.1 (ix2 q e)))
      (fun s h => ⟨fun g q l => by
        rw [slowStep_rem]
        exact near_pair P hP hS q (strike_near (pt i) s.1 g q l) (h.1 g q l), slow_pair_ext P hP hS i s h.1 h.2⟩) (residOf w, fs.2)
      ⟨fun g q l => near_pair P hP hS q (resid_near w g q l) (hw g q l), h0.2⟩ (k1_t3_loop (nresOf cl w)).trips
  rw [hF, slowOf_eq] at h1
  by_cases h : k1_cond2 (nresOf cl w) = 1#1
  · rw [bothOf_pos h]; exact h1.2 q e
  · rw [bothOf_neg h, ← hF]; exact h0.2 q e

/-- The extras left are pairs when the flagged values and the extras found are. -/
theorem ext_pair (i : grid1.Coords) (X1 : Vec Ideal S1024x128 .bf16) (X2 : Vec Ideal S2048x128 .bf16)
    (X3 : Vec Ideal S1024x1 .f32) (X4 : Vec Ideal S1x2048 .f32) (X6 : Vec Ideal S1024x128 .i32) (X7 : Vec Ideal S1024x1 .f32) (s : Ext Ideal)
    (hw : ∀ g q l, P q (wv i X1 X2 X3 X4 X6 X7 g (ix2 q l)) (keyWord i g.val l)) (hs : ∀ q e, P q (s.1 (ix2 q e)) (s.2.1 (ix2 q e))) (q : Fin 1024) (e : Fin 64) :
    P q ((extN i X1 X2 X3 X4 X6 X7 s).1 (ix2 q e)) ((extN i X1 X2 X3 X4 X6 X7 s).2.1 (ix2 q e)) := by
  rw [extN_eq]
  refine both_pair P hP hS i (count i X1 X2 X3 X4 X6 X7) (wv i X1 X2 X3 X4 X6 X7) (ext0 i s) hw ?_ q e
  intro q e
  unfold ext0
  by_cases h : PassB.first i = 1#1
  · rw [if_pos h]; show P q (k1_pay158 (F := Ideal) (ix2 q e)) _; rw [ext_start]; exact hP q _
  · rw [if_neg h]; exact hs q e

end Pairs

variable (V : (c : Dev nD) → Valuation τ sig (Elt Ideal)) (c : Dev nD)

/-- A value is the top element, or some key's distance beside the key's word. -/
def Pair (V : (c : Dev nD) → Valuation τ sig (Elt Ideal)) (c : Dev nD) (q : Fin 1024) (v : EReal) (w : BitVec 32) : Prop :=
  v = ⊤ ∨ ∃ n : Fin 100352, v = D V c q n ∧ w = BitVec.ofNat 32 n.val

/-- A point's first coordinate is its number. -/
theorem coord1 : ∀ t : Fin cfg1.N, (grid1.coords t 0).val = t.val := by decide

/-- Every extra recorded is the top element, or some key's distance beside the key's word. -/
theorem pairB : ∀ n : ℕ, n ≤ 49 → ∀ (q : Fin 1024) (e : Fin 64),
    Pair V c q ((RegionB.state V c n).1 (ix2 q e)) ((RegionB.state V c n).2.1 (ix2 q e))
  | 0, _ => fun q e => by
    rw [stateB_start]; exact Or.inl (ext_start (ix2 q e))
  | n + 1, hn => by
    have hN : n < cfg1.N := by show n < grid1.N; rw [N_1]; omega
    have hs := stateB_next V c ⟨n, hN⟩
    dsimp only at hs
    rw [hs]
    have ih := pairB n (by omega)
    revert ih
    generalize RegionB.state V c n = s
    intro ih q e
    refine ext_pair (Pair V c) (fun q w => Or.inl rfl) (fun q v w h hv => ?_) _ _ _ _ _ _ _ s (fun g q l => ?_) ih q e
    · obtain ⟨n, -, rfl⟩ := h.resolve_left hv
      have := n.isLt
      rw [BitVec.toNat_ofNat, Nat.mod_eq_of_lt (by omega)]
      omega
    · rw [wv_at, dist1]
      refine ite_pred (P := fun v => Pair V c q v (keyWord (grid1.coords ⟨n, hN⟩) g.val l)) (Or.inr ⟨_, rfl, ?_⟩) (Or.inl rfl)
      unfold keyWord
      rw [coord1]
      rfl

end Cert.Proof.IdxC

end
-- ==== Proof.RefIdx.lean ====
/-
  The reference's places over the extended reals: distances in order, equal ones by the key's number.
-/
module

public import proofs.«01_k».proof.Proof.RefVal

@[expose] public section

set_option maxRecDepth 16384

noncomputable section

namespace Cert.Proof.RefRun

open Cert.ReferenceIdeal Cert.ReferenceIdeal.Gen
open Idealize.ShloMosaic Idealize.ShloMosaic.TcCoe Idealize.SL.Sem

/-- Whether a position comes before another: its element is greater, or equal and its number less. -/
def Ahead {n : ℕ} (x : Fin n → EReal) (b c : Fin n) : Prop := x c < x b ∨ (x b = x c ∧ b < c)

/-- Inserting a position less than all of an ordered list keeps the order. -/
theorem ahead_insert {n : ℕ} (x : Fin n → EReal) (a : Fin n) (l : List (Fin n)) (ha : ∀ b ∈ l, a < b) (hl : l.Pairwise (Ahead x)) :
    (insertBefore (fun a b => BitVec.ofBool (decide (x b < x a)) == 1#1) a l).Pairwise (Ahead x) := by
  induction l with
  | nil => exact List.pairwise_singleton _ _
  | cons b l ih =>
    rw [List.pairwise_cons] at hl
    unfold insertBefore
    split
    · rename_i h
      have h : x a < x b := by by_contra hc; simp [hc] at h
      refine List.pairwise_cons.mpr ⟨fun c hc => ?_, ih (fun c hc => ha c (List.mem_cons_of_mem b hc)) hl.2⟩
      rcases List.mem_cons.mp ((perm_insertBefore _ a l).mem_iff.mp hc) with rfl | hc
      · exact Or.inl h
      · exact hl.1 c hc
    · rename_i h
      have h : x b ≤ x a := by
        by_contra hc
        exact h (by simp [not_le.mp hc])
      refine List.pairwise_cons.mpr ⟨fun c hc => ?_, List.pairwise_cons.mpr hl⟩
      have hac : x c ≤ x a := by
        rcases List.mem_cons.mp hc with rfl | hc
        · exact h
        · rcases hl.1 c hc with e | e
          · exact e.le.trans h
          · exact e.1.symm.le.trans h
      rcases hac.lt_or_eq with e | e
      · exact Or.inl e
      · exact Or.inr ⟨e.symm, ha c hc⟩

/-- The sort orders an increasing list of positions. -/
theorem ahead_sort {n : ℕ} (x : Fin n → EReal) (l : List (Fin n)) (hl : l.Pairwise (· < ·)) :
    (stableSort (fun a b => BitVec.ofBool (decide (x b < x a)) == 1#1) l).Pairwise (Ahead x) := by
  induction l with
  | nil => exact List.Pairwise.nil
  | cons a l ih =>
    rw [List.pairwise_cons] at hl
    unfold stableSort
    exact ahead_insert x a _ (fun b hb => hl.1 b ((perm_stableSort _ l).mem_iff.mp hb)) (ih hl.2)

/-- Of two places of the sort the earlier's position comes before the later's. -/
theorem ahead_places {n : ℕ} (x : Fin n → EReal) (i j : Fin n) (h : i < j) :
    Ahead x (sortedFrom (fun a b => BitVec.ofBool (decide (x b < x a)) == 1#1) i) (sortedFrom (fun a b => BitVec.ofBool (decide (x b < x a)) == 1#1) j) := by
  have hp := List.pairwise_iff_get.mp (ahead_sort x (List.finRange n) (List.pairwise_lt_finRange n))
  unfold sortedFrom
  exact hp _ _ h

/-- A position is among the earlier places, or the place is it or comes before it. -/
theorem place_least (x : Fin 100000 → EReal) (c : Fin 16) (n : Fin 100000) :
    (∃ i : Fin 16, i < c ∧ n = place x i) ∨ n = place x c ∨ Ahead x (place x c) n := by
  obtain ⟨j, rfl⟩ := sortedFrom_surjective (fun a b => BitVec.ofBool (decide (x b < x a)) == 1#1) n
  rcases lt_trichotomy j.val c.val with h | h | h
  · exact Or.inl ⟨⟨j.val, by omega⟩, h, rfl⟩
  · exact Or.inr (Or.inl (congrArg _ (Fin.ext h)))
  · exact Or.inr (Or.inr (ahead_places x _ _ (by rw [Fin.lt_def]; exact h)))

/-- The second result at an index: the number of its place. -/
theorem inds_at (x : Vec Ideal S1024x100000 .f32) (q : Fin 1024) (c : Fin 16) :
    inds x (ix2 q c) = BitVec.ofNat 32 (place (fun n => x (ix2 q n)) c).val := by
  pointwise [inds, Host.topK, Host.sort2, place]
  simp only [along_row]
  rfl

/-- The key at a place of the reference's order. -/
def key (A : Vec Ideal S1024x128 .f32) (B : Vec Ideal S100000x128 .f32) (q : Fin 1024) (c : Fin 16) : Fin 100000 :=
  place (fun n => neg A B (ix2 q n)) c

/-- The first result is the distance of the key at the place. -/
theorem vals_key (A : Vec Ideal S1024x128 .f32) (B : Vec Ideal S100000x128 .f32) (q : Fin 1024) (c : Fin 16) :
    vals (neg A B) (ix2 q c) = R A B q (key A B q c) := by
  rw [vals_at, neg_at, neg_neg]; rfl

/-- The second result is the word of the key at the place. -/
theorem inds_key (A : Vec Ideal S1024x128 .f32) (B : Vec Ideal S100000x128 .f32) (q : Fin 1024) (c : Fin 16) :
    inds (neg A B) (ix2 q c) = BitVec.ofNat 32 (key A B q c).val := inds_at _ q c

/-- A key is among those at earlier places, or its distance and number are at least those of the key at the place. -/
theorem key_least (A : Vec Ideal S1024x128 .f32) (B : Vec Ideal S100000x128 .f32) (q : Fin 1024) (c : Fin 16) (n : Fin 100000) :
    (∃ i : Fin 16, i < c ∧ n = key A B q i) ∨ R A B q (key A B q c) < R A B q n
      ∨ (R A B q (key A B q c) = R A B q n ∧ (key A B q c).val ≤ n.val) := by
  rcases place_least (fun n => neg A B (ix2 q n)) c n with h | h | h
  · exact Or.inl h
  · exact Or.inr (Or.inr (by rw [h]; exact ⟨rfl, le_rfl⟩))
  · refine Or.inr ?_
    have h : neg A B (ix2 q n) < neg A B (ix2 q (key A B q c)) ∨ (neg A B (ix2 q (key A B q c)) = neg A B (ix2 q n) ∧ key A B q c < n) := h
    generalize key A B q c = k at h ⊢
    rw [neg_at, neg_at] at h
    rcases h with h | ⟨h, h2⟩
    · exact Or.inl (EReal.neg_lt_neg_iff.mp h)
    · exact Or.inr ⟨neg_injective h, (Fin.lt_def.mp h2).le⟩

end Cert.Proof.RefRun

end
-- ==== Proof.Spread.lean ====
/-
  The merge's rounds one after another: while the nearest keys lie in distinct lanes, each round takes the next of them.
-/
module

public import proofs.«01_k».proof.Proof.Rounds
public import proofs.«01_k».proof.Proof.IdxA
public import proofs.«01_k».proof.Proof.IdxC
public import proofs.«01_k».proof.Proof.RefIdx
public import proofs.«01_k».proof.Proof.Value

@[expose] public section

set_option maxRecDepth 16384

noncomputable section

namespace Cert.Proof.Spread

open Cert.KernelIdeal Cert.KernelIdeal.Gen Cert.Proof
open Idealize.ShloMosaic Idealize.ShloMosaic.TcCoe
open Cert.Proof.ValMem Cert.Proof.ValC Cert.Proof.ValEnd Cert.Proof.Pick

/-- Rounds that each strike out what they took: when all candidates are keys or nothing and the first places' keys are among
    them, each round takes the key of its place. -/
theorem rounds {ι : Type} [Fintype ι] (d : Fin 100352 → EReal) (f : ℕ → ι → EReal) (x : ι → BitVec 32)
    (step : ∀ r k, f (r + 1) k = if x k = who (f r) x then ⊤ else f r k)
    (h : ∀ k, f 0 k = ⊤ ∨ ∃ n : Fin 100352, f 0 k = d n ∧ x k = BitVec.ofNat 32 n.val)
    (P : Fin 16 → Fin 100352) (c : Fin 16) (hp : ∀ i ≤ c, d (P i) ≠ ⊤)
    (hk : ∀ i ≤ c, ∃ k, f 0 k = d (P i) ∧ x k = BitVec.ofNat 32 (P i).val)
    (hl : ∀ i ≤ c, ∀ n : Fin 100352, (∃ j, j < i ∧ n = P j) ∨ d (P i) < d n ∨ (d (P i) = d n ∧ (P i).val ≤ n.val))
    (hi : ∀ i j, i < j → j ≤ c → P i ≠ P j) (r : Fin 16) (hr : r ≤ c) :
    low (f r.val) = d (P r) ∧ who (f r.val) x = BitVec.ofNat 32 (P r).val := by
  classical
  have inj : ∀ a b : Fin 100352, BitVec.ofNat 32 a.val = BitVec.ofNat 32 b.val → a = b := fun a b e => by
    have e := congrArg BitVec.toNat e
    have := a.isLt
    have := b.isLt
    rw [BitVec.toNat_ofNat, BitVec.toNat_ofNat, Nat.mod_eq_of_lt (by omega), Nat.mod_eq_of_lt (by omega)] at e
    exact Fin.ext e
  have take : ∀ r : Fin 16, r ≤ c →
      (∀ k, f r.val k = if ∃ i : Fin 16, i.val < r.val ∧ x k = BitVec.ofNat 32 (P i).val then ⊤ else f 0 k) →
      low (f r.val) = d (P r) ∧ who (f r.val) x = BitVec.ofNat 32 (P r).val := by
    intro r hr S
    obtain ⟨k0, e0, e0'⟩ := hk r hr
    refine pick d (f r.val) x (fun k => ?_) (P r) (hp r hr) k0 ?_ e0' fun k n hn hx ht => ?_
    · rw [S k]
      by_cases hs : ∃ i : Fin 16, i.val < r.val ∧ x k = BitVec.ofNat 32 (P i).val
      · exact Or.inl (if_pos hs)
      · rw [if_neg hs]; exact h k
    · rw [S k0, if_neg]
      · exact e0
      · rintro ⟨i, hir, hx⟩
        exact hi i r hir hr (inj _ _ (hx.symm.trans e0'))
    · rcases hl r hr n with ⟨j, hj, rfl⟩ | hh
      · exact absurd ((S k).trans (if_pos ⟨j, hj, hx⟩)) ht
      · exact hh
  have S : ∀ r : ℕ, r ≤ c.val → ∀ k, f r k = if ∃ i : Fin 16, i.val < r ∧ x k = BitVec.ofNat 32 (P i).val then ⊤ else f 0 k := by
    intro r
    induction r with
    | zero => intro _ k; rw [if_neg]; rintro ⟨i, hi, -⟩; exact absurd hi (by omega)
    | succ r ih =>
      intro hr k
      have hc := c.isLt
      have t := (take ⟨r, by omega⟩ (Fin.le_def.mpr (by show r ≤ c.val; omega)) (ih (by omega))).2
      have t : who (f r) x = BitVec.ofNat 32 (P ⟨r, by omega⟩).val := t
      rw [step, t, ih (by omega) k]
      by_cases h1 : x k = BitVec.ofNat 32 (P ⟨r, by omega⟩).val
      · rw [if_pos h1, if_pos ⟨_, Nat.lt_succ_self r, h1⟩]
      · rw [if_neg h1]
        refine if_congr ⟨?_, ?_⟩ rfl rfl
        · rintro ⟨i, h2, h3⟩; exact ⟨i, by omega, h3⟩
        · rintro ⟨i, h2, h3⟩
          refine ⟨i, ?_, h3⟩
          by_contra h4
          have : i = ⟨r, by omega⟩ := Fin.ext (by show i.val = r; omega)
          exact h1 (this ▸ h3)
  exact take r hr (S r.val hr)

/-- What holds of the lanes and of the extras holds of the candidates. -/
theorem cand_pred (cm : Vec Ideal S1024x128 .f32) (ev : Vec Ideal S1024x64 .f32) (ci : Vec Ideal S1024x128 .i32) (ei : Vec Ideal S1024x64 .i32)
    (q : Fin 1024) (Q : EReal → BitVec 32 → Prop) (h1 : ∀ l, Q (cm (ix2 q l)) (ci (ix2 q l))) (h2 : ∀ e, Q (ev (ix2 q e)) (ei (ix2 q e))) (k : Fin 192) :
    Q (Rounds.cand cm ev ci ei 0 (ix2 q k)) (PassB.mi (F := Ideal) ci ei (ix2 q k)) := by
  rw [← Rounds.V0, Rounds.cand0_at, Rounds.mi_at]
  by_cases hk : k.val < 128
  · simp only [dif_pos hk]
    exact h1 ⟨k.val, hk⟩
  · simp only [dif_neg hk]
    exact h2 ⟨k.val - 128, by omega⟩

/-- The rounds against an order of the keys whose first places are finite and in distinct lanes. -/
theorem core {ι : Type} [Fintype ι] (d : Fin 100352 → EReal) (R : Fin 100000 → EReal) (key : Fin 16 → Fin 100000) (f : ℕ → ι → EReal) (x : ι → BitVec 32)
    (step : ∀ r k, f (r + 1) k = if x k = who (f r) x then ⊤ else f r k)
    (pair : ∀ k, f 0 k = ⊤ ∨ ∃ n : Fin 100352, f 0 k = d n ∧ x k = BitVec.ofNat 32 n.val)
    (has : ∀ p : Fin 100352, d p ≠ ⊤ → (∀ n : Fin 100352, n.val % 128 = p.val % 128 → d p < d n ∨ (d p = d n ∧ p.val ≤ n.val)) →
      ∃ k, f 0 k = d p ∧ x k = BitVec.ofNat 32 p.val)
    (hD : ∀ n : Fin 100352, d n = if h : n.val < 100000 then R ⟨n.val, h⟩ else ⊤)
    (least : ∀ i n, (∃ j : Fin 16, j < i ∧ n = key j) ∨ R (key i) < R n ∨ (R (key i) = R n ∧ (key i).val ≤ n.val))
    (r : Fin 16) (hv : R (key r) < ⊤) (hs : ∀ i j : Fin 16, i < j → j ≤ r → (key i).val % 128 ≠ (key j).val % 128) :
    low (f r.val) = R (key r) ∧ who (f r.val) x = BitVec.ofNat 32 (key r).val := by
  have lt : ∀ i, (key i).val < 100352 := fun i => by have := (key i).isLt; omega
  have dk : ∀ i, d ⟨(key i).val, lt i⟩ = R (key i) := fun i => by rw [hD, dif_pos (key i).isLt]
  have fine : ∀ i ≤ r, R (key i) < ⊤ := fun i hi => by
    rcases eq_or_lt_of_le hi with rfl | hi
    · exact hv
    · rcases least i (key r) with ⟨j, hj, e⟩ | e | e
      · exact absurd (congrArg (fun n => n.val % 128) e).symm (hs j r (hj.trans hi) le_rfl)
      · exact e.trans hv
      · exact e.1 ▸ hv
  have hl : ∀ i ≤ r, ∀ n : Fin 100352, (∃ j, j < i ∧ n = ⟨(key j).val, lt j⟩)
      ∨ R (key i) < d n ∨ (R (key i) = d n ∧ (key i).val ≤ n.val) := fun i hi n => by
    rw [hD]
    by_cases hn : n.val < 100000
    · rw [dif_pos hn]
      rcases least i ⟨n.val, hn⟩ with ⟨j, hj, e⟩ | e | e
      · exact Or.inl ⟨j, hj, Fin.ext (by have e := congrArg Fin.val e; exact e)⟩
      · exact Or.inr (Or.inl e)
      · exact Or.inr (Or.inr e)
    · rw [dif_neg hn]
      exact Or.inr (Or.inl (fine i hi))
  have := rounds d f x step pair
    (fun i => ⟨(key i).val, lt i⟩) r (fun i hi => by rw [dk]; exact (fine i hi).ne)
    (fun i hi => has ⟨(key i).val, lt i⟩ (by rw [dk]; exact (fine i hi).ne) fun n hn => by
      rw [dk]
      rcases hl i hi n with ⟨j, hj, rfl⟩ | e
      · exact absurd hn (hs j i hj hi)
      · exact e)
    (fun i hi n => by rw [dk]; exact hl i hi n)
    (fun i j hij hj e => hs i j hij hj (congrArg (fun n => n.val % 128) e)) r le_rfl
  rw [dk] at this
  exact this
section Mem

variable (V : (c : Dev nD) → Valuation τ sig (Elt Ideal)) (c : Dev nD)

/-- The lanes' words the second kernel reads. -/
def aCI : Vec Ideal S1024x128 .i32 := V c (Proc.devRef .tc main_v11_1)
/-- The second kernel's block of lanes' words is always the first. -/
theorem ix15 : ∀ t : Fin cfg1.N, (cfg1.win 5).index t 0 = 0 ∧ (cfg1.win 5).index t 1 = 0 := by decide
/-- The second kernel's staged lanes' words are the lanes' words. -/
theorem ciIn1 (t : Fin cfg1.N) (q : Fin 1024) (k : Fin 128) : RegionB.ciIn V c t (ix2 q k) = aCI V c (ix2 q k) := by
  show (V c (Proc.devRef .tc main_v11_1) : Vec Ideal S1024x128 .i32) (((cfg1.win 5).rect t).emb (ix2 q k)) = _
  refine congrArg (V c (Proc.devRef .tc main_v11_1) : Vec Ideal S1024x128 .i32) (funext fun a => Fin.ext ?_)
  rw [(cfg1.win 5).rect_emb_val t _ a]
  fin_cases a
  · exact (congrArg (· * 1024 + q.val) (ix15 t).1).trans (by simp)
  · exact (congrArg (· * 128 + k.val) (ix15 t).2).trans (by simp)
/-- The lanes' words the second kernel reads are those the first ends with. -/
theorem aCI_mid (q : Fin 1024) (l : Fin 128) : aCI (mid V) c (ix2 q l) = (RegionA.state V c 49).2 (ix2 q l) :=
  congrFun (IdxEnd.endA5' V c) (ix2 q l)

/-- The candidates of a row before a round. -/
def f (q : Fin 1024) (r : ℕ) (k : Fin 192) : EReal :=
  Rounds.cand (RegionB.cmIn (mid V) c last1) (RegionB.state (mid V) c 49).1 (RegionB.ciIn (mid V) c last1) (RegionB.state (mid V) c 49).2.1 r (ix2 q k)
/-- The words beside the candidates of a row. -/
def x (q : Fin 1024) (k : Fin 192) : BitVec 32 :=
  PassB.mi (F := Ideal) (RegionB.ciIn (mid V) c last1) (RegionB.state (mid V) c 49).2.1 (ix2 q k)

/-- A round strikes out what it took. -/
theorem f_step (q : Fin 1024) (r : ℕ) (k : Fin 192) : f V c q (r + 1) k = if x V c q k = who (f V c q r) (x V c q) then ⊤ else f V c q r k := by
  unfold f
  rw [Rounds.cand_succ, Rounds.vClear_at]
  rfl

/-- A candidate from the lanes. -/
theorem f_lane (q : Fin 1024) (l : Fin 128) : f V c q 0 ⟨l.val, by omega⟩ = (RegionA.state V c 49).1 (ix2 q l)
    ∧ x V c q ⟨l.val, by omega⟩ = (RegionA.state V c 49).2 (ix2 q l) := by
  constructor
  · unfold f
    rw [← Rounds.V0, Rounds.cand0_at, dif_pos l.isLt, cmIn1, aCM_mid]
  · unfold x
    rw [Rounds.mi_at, dif_pos l.isLt, ciIn1, aCI_mid]

/-- Every lane's minimum is a key or nothing. -/
theorem lane_pair (q : Fin 1024) (l : Fin 128) : IdxC.Pair V c q (RegionB.cmIn (mid V) c last1 (ix2 q l)) (RegionB.ciIn (mid V) c last1 (ix2 q l)) := by
  rw [cmIn1, aCM_mid, ciIn1, aCI_mid]
  unfold IdxC.Pair
  rcases IdxA.invI V c 49 le_rfl q l with h | ⟨n, -, -, h3, h4, -⟩
  · exact Or.inl h
  · exact Or.inr ⟨n, h3, h4⟩

/-- Every extra is a key or nothing. -/
theorem ext_pair (q : Fin 1024) (e : Fin 64) : IdxC.Pair V c q ((RegionB.state (mid V) c 49).1 (ix2 q e)) ((RegionB.state (mid V) c 49).2.1 (ix2 q e)) := by
  have hp := IdxC.pairB (mid V) c 49 le_rfl q e
  revert hp
  generalize (RegionB.state (mid V) c 49).1 (ix2 q e) = v
  generalize (RegionB.state (mid V) c 49).2.1 (ix2 q e) = w
  intro hp
  unfold IdxC.Pair at hp ⊢
  rcases hp with h | ⟨n, h, h'⟩
  · exact Or.inl h
  · exact Or.inr ⟨n, h.trans (D_mid V c q n), h'⟩

/-- Every candidate is a key or nothing. -/
theorem f_pair (q : Fin 1024) (k : Fin 192) : f V c q 0 k = ⊤ ∨ ∃ n : Fin 100352, f V c q 0 k = D V c q n ∧ x V c q k = BitVec.ofNat 32 n.val :=
  cand_pred _ _ _ _ q (IdxC.Pair V c q) (lane_pair V c q) (ext_pair V c q) k

/-- A key that is the least of its lane by distance and then by number stands in the lane. -/
theorem f_has (q : Fin 1024) (p : Fin 100352) (hp : D V c q p ≠ ⊤)
    (h : ∀ n : Fin 100352, n.val % 128 = p.val % 128 → D V c q p < D V c q n ∨ (D V c q p = D V c q n ∧ p.val ≤ n.val)) :
    ∃ k, f V c q 0 k = D V c q p ∧ x V c q k = BitVec.ofNat 32 p.val := by
  have hlt : p.val % 128 < 128 := Nat.mod_lt _ (by decide)
  obtain ⟨h1, h2⟩ := f_lane V c q ⟨p.val % 128, hlt⟩
  have hle := (ValA.invA V c 49 le_rfl q ⟨p.val % 128, hlt⟩).1 p (by have := p.isLt; omega) rfl
  rcases IdxA.invI V c 49 le_rfl q ⟨p.val % 128, hlt⟩ with e | ⟨n, -, hn, h3, h4, h5⟩
  · rw [e] at hle
    exact absurd (top_le_iff.mp hle) hp
  · rw [h3] at hle
    have hd : D V c q p = D V c q n ∧ p.val ≤ n.val := by
      rcases h n hn with h | h
      · exact absurd (h.trans_le hle) (lt_irrefl _)
      · exact h
    have e : p = n := by
      by_contra hne
      have := h5 p rfl (lt_of_le_of_ne (Fin.le_def.mpr hd.2) hne)
      rw [hd.1] at this
      exact lt_irrefl _ this
    subst e
    exact ⟨_, h1.trans h3, h2.trans h4⟩

/-- The results at a column are what its round takes. -/
theorem out_at (q : Fin 1024) (r : Fin 16) :
    (fin V c (Proc.devRef .tc main_v12_0) : Vec Ideal S1024x16 .f32) (ix2 q r) = low (f V c q r.val)
    ∧ (fin V c (Proc.devRef .tc main_v12_1) : Vec Ideal S1024x16 .i32) (ix2 q r) = who (f V c q r.val) (x V c q) := by
  have h0 : (fin V c (Proc.devRef .tc main_v12_0) : Vec Ideal S1024x16 .f32) = _ := endB7' (mid V) c
  have h1 : (fin V c (Proc.devRef .tc main_v12_1) : Vec Ideal S1024x16 .i32) = _ := IdxEnd.endB8' (mid V) c
  rw [h0, h1, Rounds.ofCols_at, Rounds.ofCols_at, Rounds.mergeV_at, Rounds.mergeI_at, Rounds.vLow_at, Rounds.vWho_at]
  exact ⟨rfl, rfl⟩

end Mem

section Out

variable (m : (ℓ : Loc nD τ sig) → Buf (Elt Ideal) ℓ) (c : Dev nD)

open Cert.Proof.HostArr Cert.Proof.Value

/-- While the reference's nearest keys are finite and in distinct lanes, the program's columns are the reference's. -/
theorem out_eq (q : Fin 1024) (r : Fin 16)
    (hv : RefRun.vals (RefRun.neg (argA m c) (argB m c)) (ix2 q r) < (⊤ : EReal))
    (hs : ∀ i j : Fin 16, i < j → j ≤ r → (RefRun.key (argA m c) (argB m c) q i).val % 128 ≠ (RefRun.key (argA m c) (argB m c) q j).val % 128) :
    (fin (V2 m) c (Proc.devRef .tc main_v12_0) : Vec Ideal S1024x16 .f32) (ix2 q r) = RefRun.vals (RefRun.neg (argA m c) (argB m c)) (ix2 q r)
    ∧ (fin (V2 m) c (Proc.devRef .tc main_v12_1) : Vec Ideal S1024x16 .i32) (ix2 q r) = RefRun.inds (RefRun.neg (argA m c) (argB m c)) (ix2 q r) := by
  obtain ⟨o0, o1⟩ := out_at (V2 m) c q r
  rw [o0, o1, RefRun.vals_key, RefRun.inds_key]
  rw [RefRun.vals_key] at hv
  have least := RefRun.key_least (argA m c) (argB m c) q
  have hD := D_eq m c q
  exact core (D (V2 m) c q) (RefRun.R (argA m c) (argB m c) q) (RefRun.key (argA m c) (argB m c) q) (f (V2 m) c q) (x (V2 m) c q)
    (f_step (V2 m) c q) (f_pair (V2 m) c q) (f_has (V2 m) c q) hD least r hv hs

end Out

end Cert.Proof.Spread

end
-- ==== Proof.Mask.lean ====
/-
  What the certificate's mask says of an entry it selects.
-/
module

public import proofs.«01_k».proof.On_nearest
public import proofs.«01_k».proof.Proof.RefIdx
public import proofs.«01_k».proof.Proof.ValA
public import Idealize.ShloMosaic.Lib.Pointwise

@[expose] public section

set_option maxRecDepth 16384

noncomputable section

namespace Cert.Proof.Mask

open Cert.On_nearest
open Idealize.ShloMosaic

/-- The mask's side conditions. -/
instance mask_facts : Cert.On_nearest.Facts := by
  constructor <;> decide

/-- A column of sixteen may be cut out. -/
theorem cut (i : Fin 16) : S1024x16.Slices ![0, i.val] S1024x1 := by
  revert i; decide

/-- The columns' numbers. -/
def col : IVec S1024x16 32 := iotaInDim S1024x16 32 1
/-- A number at every entry. -/
def at_ (w : BitVec 32) : IVec S1024x16 32 := broadcastInDim S1024x16 ![] Facts.bcast_S_S1024x16 (constantI S_ 32 w)
/-- A column at every column. -/
def over {n : ℕ} (a : IVec S1024x16 n) (i : Fin 16) : IVec S1024x16 n :=
  broadcastInDim S1024x16 ![0, 1] Facts.bcast_S1024x1_S1024x16_0_1 ((extractStridedSlice S1024x1 ![0, i.val] · (cut i)) a)

/-- A column at every column, read. -/
theorem over_at {n : ℕ} (a : IVec S1024x16 n) (i : Fin 16) (q : Fin 1024) (k : Fin 16) : over a i (ix2 q k) = a (ix2 q i) := by
  unfold over
  exact congrArg a (funext fun b => by fin_cases b <;> exact Fin.ext (by simp))

/-- Marks gathered from sixteen arrays of them. -/
def any (z : IVec S1024x16 1) (g : Fin 16 → IVec S1024x16 1) : IVec S1024x16 1 :=
  ori (ori (ori (ori (ori (ori (ori (ori (ori (ori (ori (ori (ori (ori (ori (ori (z) (g 0)) (g 1)) (g 2)) (g 3)) (g 4)) (g 5)) (g 6)) (g 7)) (g 8)) (g 9)) (g 10)) (g 11)) (g 12)) (g 13)) (g 14)) (g 15)
/-- Neither of two marks, when not both together. -/
theorem or_zero {a b : BitVec 1} (h : IntOp.ori a b = 0#1) : a = 0#1 ∧ b = 0#1 := by
  revert a b; decide
/-- No mark gathered, no mark of any array. -/
theorem any_zero (z : IVec S1024x16 1) (g : Fin 16 → IVec S1024x16 1) (y : S1024x16.Idx) (h : any z g y = 0#1) (i : Fin 16) : g i y = 0#1 := by
  unfold any at h
  obtain ⟨h, h15⟩ := or_zero h
  obtain ⟨h, h14⟩ := or_zero h
  obtain ⟨h, h13⟩ := or_zero h
  obtain ⟨h, h12⟩ := or_zero h
  obtain ⟨h, h11⟩ := or_zero h
  obtain ⟨h, h10⟩ := or_zero h
  obtain ⟨h, h9⟩ := or_zero h
  obtain ⟨h, h8⟩ := or_zero h
  obtain ⟨h, h7⟩ := or_zero h
  obtain ⟨h, h6⟩ := or_zero h
  obtain ⟨h, h5⟩ := or_zero h
  obtain ⟨h, h4⟩ := or_zero h
  obtain ⟨h, h3⟩ := or_zero h
  obtain ⟨h, h2⟩ := or_zero h
  obtain ⟨h, h1⟩ := or_zero h
  obtain ⟨h, h0⟩ := or_zero h
  fin_cases i
  · exact h0
  · exact h1
  · exact h2
  · exact h3
  · exact h4
  · exact h5
  · exact h6
  · exact h7
  · exact h8
  · exact h9
  · exact h10
  · exact h11
  · exact h12
  · exact h13
  · exact h14
  · exact h15

/-- Columns whose lane an earlier column has. -/
def clash (lane : IVec S1024x16 32) : IVec S1024x16 1 :=
  any (cmpi .slt col (at_ 0#32)) (fun i => andi (cmpi .eq lane (over lane i)) (cmpi .sgt col (at_ (BitVec.ofNat 32 i.val))))
/-- Columns at or after such a one. -/
def bad (cl : IVec S1024x16 1) : IVec S1024x16 1 :=
  any (cmpi .slt col (at_ 0#32)) (fun i => andi (over cl i) (cmpi .sge col (at_ (BitVec.ofNat 32 i.val))))
/-- Entries the mask selects by their values and lanes. -/
def good (v : FVec Ideal S1024x16 .f32) (lane : IVec S1024x16 32) : IVec S1024x16 1 :=
  andi (cmpf .olt v (broadcastInDim S1024x16 ![] Facts.bcast_S_S1024x16 (constant (F := Ideal) S_ .f32 0x7F800000#32))) (noti (bad (clash lane)))

/-- The mask from the values and the lanes. -/
theorem part (v : FVec Ideal S1024x16 .f32) (lane : IVec S1024x16 32) :
    fn_part1 (F := Ideal) v lane = (ori (good v lane) (cmpi .eq col (at_ 0#32)), good v lane) := rfl

/-- The mask from the reference's results. -/
theorem whole (A : Vec Ideal ReferenceIdeal.S1024x128 .f32) (B : Vec Ideal ReferenceIdeal.S100000x128 .f32) :
    fn (F := Ideal) A B = fn_part1 (F := Ideal) (RefRun.vals (RefRun.neg (F := Ideal) A B)) (andi (RefRun.inds (RefRun.neg (F := Ideal) A B)) (at_ 127#32)) := rfl

/-- A selected entry's value is finite or the bottom element, and the columns up to it have distinct lanes. -/
theorem good_at (v : FVec Ideal S1024x16 .f32) (lane : IVec S1024x16 32) (q : Fin 1024) (k : Fin 16) (h : good v lane (ix2 q k) = 1#1) :
    (v (ix2 q k) : EReal) < ⊤ ∧ ∀ i j : Fin 16, i < j → j ≤ k → lane (ix2 q i) ≠ lane (ix2 q j) := by
  have e : good v lane (ix2 q k)
      = IntOp.andi (BitVec.ofBool (decide ((v (ix2 q k) : EReal) < Ideal.ofBits .f32 0x7F800000#32))) (~~~(bad (clash lane) (ix2 q k))) := by
    unfold good
    generalize bad (clash lane) = w
    pointwise []
  rw [e] at h
  have hand : ∀ a b : BitVec 1, IntOp.andi a (~~~b) = 1#1 → a = 1#1 ∧ b = 0#1 := by decide
  obtain ⟨h1, h2⟩ := hand _ _ h
  refine ⟨?_, fun i j hij hjk he => ?_⟩
  · rw [ValA.ofBits_inf] at h1
    by_contra hn
    rw [decide_eq_false hn] at h1
    exact absurd h1 (by decide)
  · have hb := any_zero _ _ _ h2 j
    have hb' : IntOp.andi (over (clash lane) j (ix2 q k)) (IntOp.cmpi .sge (BitVec.ofNat 32 k.val) (BitVec.ofNat 32 j.val)) = 0#1 := hb
    have hc : IntOp.cmpi .sge (BitVec.ofNat 32 k.val) (BitVec.ofNat 32 j.val) = 1#1 := by
      clear hb hb' hij he h h1 h2 e; revert j k; decide
    rw [hc, over_at] at hb'
    have hand1 : ∀ a : BitVec 1, IntOp.andi a 1#1 = 0#1 → a = 0#1 := by decide
    have hx := any_zero _ _ _ (hand1 _ hb') i
    have hx' : IntOp.andi (IntOp.cmpi .eq (lane (ix2 q j)) (over lane i (ix2 q j))) (IntOp.cmpi .sgt (BitVec.ofNat 32 j.val) (BitVec.ofNat 32 i.val)) = 0#1 := hx
    have hd : IntOp.cmpi .sgt (BitVec.ofNat 32 j.val) (BitVec.ofNat 32 i.val) = 1#1 := by
      clear hb hb' hjk he h h1 h2 e hx hx' hc; revert i j; decide
    rw [hd, over_at, he] at hx'
    have := hand1 _ hx'
    simp [IntOp.cmpi] at this

/-- A selected entry of the mask, in the reference's own terms. -/
theorem good_key (A : Vec Ideal ReferenceIdeal.S1024x128 .f32) (B : Vec Ideal ReferenceIdeal.S100000x128 .f32) (q : Fin 1024) (k : Fin 16)
    (h : (fn (F := Ideal) A B).2 (ix2 q k) = 1#1) :
    (RefRun.vals (RefRun.neg (F := Ideal) A B) (ix2 q k) : EReal) < ⊤
    ∧ ∀ i j : Fin 16, i < j → j ≤ k → (RefRun.key A B q i).val % 128 ≠ (RefRun.key A B q j).val % 128 := by
  rw [whole, part] at h
  obtain ⟨h1, h2⟩ := good_at _ _ q k h
  refine ⟨h1, fun i j hij hjk he => h2 i j hij hjk ?_⟩
  have e : ∀ c : Fin 16, andi (RefRun.inds (RefRun.neg (F := Ideal) A B)) (at_ 127#32) (ix2 q c) = BitVec.ofNat 32 ((RefRun.key A B q c).val % 128) := fun c => by
    have e1 : andi (RefRun.inds (RefRun.neg (F := Ideal) A B)) (at_ 127#32) (ix2 q c) = IntOp.andi (RefRun.inds (RefRun.neg (F := Ideal) A B) (ix2 q c)) 127#32 := rfl
    rw [e1, RefRun.inds_key]
    generalize RefRun.key A B q c = n
    have := n.isLt
    apply BitVec.eq_of_toNat_eq
    show ((BitVec.ofNat 32 n.val) &&& 127#32).toNat = _
    rw [BitVec.toNat_and, BitVec.toNat_ofNat, BitVec.toNat_ofNat, BitVec.toNat_ofNat, Nat.mod_eq_of_lt (show n.val < 2 ^ 32 by omega),
      Nat.mod_eq_of_lt (show n.val % 128 < 2 ^ 32 by omega)]
    exact Nat.and_two_pow_sub_one_eq_mod n.val 7
  rw [e, e, he]

/-- An entry selected of the first result is selected of the second or is in the first column. -/
theorem first (A : Vec Ideal ReferenceIdeal.S1024x128 .f32) (B : Vec Ideal ReferenceIdeal.S100000x128 .f32) (q : Fin 1024) (k : Fin 16)
    (h : (fn (F := Ideal) A B).1 (ix2 q k) = 1#1) : (fn (F := Ideal) A B).2 (ix2 q k) = 1#1 ∨ k = 0 := by
  rw [whole, part] at h ⊢
  revert h
  generalize good _ _ = g
  intro h
  have h' : IntOp.ori (g (ix2 q k)) (IntOp.cmpi .eq (BitVec.ofNat 32 k.val) 0#32) = 1#1 := h
  clear h
  revert h'
  show _ → g (ix2 q k) = 1#1 ∨ k = 0
  generalize g (ix2 q k) = b
  revert b k
  decide

end Cert.Proof.Mask

end
-- ==== Proof.lean ====
/-
  The certificate's claims, assembled: both readings of the program run, its idealization is its own text, and the
  reference runs.
-/
module

public import proofs.«01_k».proof.Defs
public import proofs.«01_k».proof.Proof.Run
public import proofs.«01_k».proof.Proof.Same
public import proofs.«01_k».proof.Proof.Value
public import proofs.«01_k».proof.Proof.Spread
public import proofs.«01_k».proof.Proof.Mask
public import proofs.«01_k».proof.Proof.Gen.Kernel
public import proofs.«01_k».proof.Proof.Gen.KernelIdeal
public import proofs.«01_k».proof.Proof.Gen.ReferenceIdeal
public import Idealize.ShloMosaic.Lib.Claim

@[expose] public section

noncomputable section

namespace Cert.Proof

open Idealize.ShloMosaic Idealize.SL.Sem

/-- The reference runs. -/
theorem reference_frame : quiescent_ReferenceIdeal := by
  intro m g _
  have h : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
    hlo_run
  exact θ_run_mono h fun r hr => ⟨hr, sem_eq_zero_of_no_sems (by decide) r.2⟩

/-- An entry of either result the mask selects of the second is the reference's. -/
theorem entry (m : (ℓ : Loc Cert.KernelIdeal.nD Cert.KernelIdeal.τ Cert.KernelIdeal.sig) → Buf (Elt Ideal) ℓ) (c : Dev Cert.KernelIdeal.nD) (q : Fin 1024) (k : Fin 16)
    (h : (Cert.On_nearest.fn (F := Ideal) (Value.argA m c) (Value.argB m c)).2 (ix2 q k) = 1#1) :
    (Run.W4 m c (Proc.devRef .tc Cert.KernelIdeal.main_v12_0) : Vec Ideal Cert.KernelIdeal.S1024x16 .f32) (ix2 q k)
      = RefRun.vals (RefRun.neg (Value.argA m c) (Value.argB m c)) (ix2 q k)
    ∧ (Run.W4 m c (Proc.devRef .tc Cert.KernelIdeal.main_v12_1) : Vec Ideal Cert.KernelIdeal.S1024x16 .i32) (ix2 q k)
      = RefRun.inds (RefRun.neg (Value.argA m c) (Value.argB m c)) (ix2 q k) :=
  Spread.out_eq m c q k (Mask.good_key _ _ q k h).1 (Mask.good_key _ _ q k h).2

/-- The program's results are the reference's where the mask selects: while a query's nearest keys are finitely far and in distinct
    lanes, and at each query's least distance always. -/
theorem nearest_value : algebraic_KernelIdeal_ReferenceIdeal_on_nearest (hOn_nearest := Mask.mask_facts) := by
  intro m g m' g' _ hm
  refine ⟨fun c => Run.W4 m c (Proc.devRef .tc Cert.KernelIdeal.main_v12_0), fun c => Run.W4 m c (Proc.devRef .tc Cert.KernelIdeal.main_v12_1), ?_, ?_⟩
  · refine θ_run_mono (Run.run m g) fun r h c => ⟨fun i _ => ?_, fun i _ => ?_, ?_, ?_⟩
    · exact congrFun (h.1 c _ (Pipeline.devRef_mem_ucRefs (b := Cert.KernelIdeal.main_v12_0) rfl)) i
    · exact congrFun (h.1 c _ (Pipeline.devRef_mem_ucRefs (b := Cert.KernelIdeal.main_v12_1) rfl)) i
    · exact (h.1 c _ (Pipeline.devRef_mem_ucRefs (b := Cert.KernelIdeal.main_arg0) rfl)).trans (Run.keeps0 m c)
    · exact (h.1 c _ (Pipeline.devRef_mem_ucRefs (b := Cert.KernelIdeal.main_arg1) rfl)).trans (Run.keeps1 m c)
  · refine θ_run_mono (RefRun.run m' g') fun r h c => ⟨fun i hi => ?_, fun i hi => ?_, (h c).2.2.1, (h c).2.2.2⟩
    · obtain ⟨q, k, rfl⟩ : ∃ (q : Fin 1024) (k : Fin 16), i = ix2 q k := ⟨i 0, i 1, funext fun a => by fin_cases a <;> rfl⟩
      rw [(h c).1, (hm c).1, (hm c).2]
      rcases Mask.first _ _ q k hi with h | rfl
      · exact (entry m c q k h).1.symm
      · exact (Value.col_eq m c q).symm
    · obtain ⟨q, k, rfl⟩ : ∃ (q : Fin 1024) (k : Fin 16), i = ix2 q k := ⟨i 0, i 1, funext fun a => by fin_cases a <;> rfl⟩
      rw [(h c).2.1, (hm c).1, (hm c).2]
      exact (entry m c q k hi).2.symm

/-- Every claim of the certificate. -/
theorem claim : Cert.Claim :=
  ⟨Cert.Kernel.Gen.facts, Cert.KernelIdeal.Gen.facts, Cert.ReferenceIdeal.Gen.facts, Mask.mask_facts,
    fun m g _ => frame_same m g (Run.frame m g),
    fun m g _ => Run.frame m g,
    reference_frame,
    trivial,
    nearest_value⟩

end Cert.Proof

end
